-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v24)) (v1 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_v25) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_v80) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16x8x32x32 : Shape := ⟨4, ![16, 8, 32, 32]⟩
abbrev S1x1024x8 : Shape := ⟨3, ![1, 1024, 8]⟩
abbrev S1x1x1x1 : Shape := ⟨4, ![1, 1, 1, 1]⟩
abbrev S1x1024 : Shape := ⟨2, ![1, 1024]⟩
abbrev S_ : Shape := ⟨0, ![]⟩

class Facts : Prop where
  bcast_S_S16x8x32x32 : S_.BroadcastsInDim S16x8x32x32 (![] : Fin 0 → Fin S16x8x32x32.rank)
  reducesTo_S16x8x32x32_S_d0_1_2_3 : S16x8x32x32.ReducesTo [0, 1, 2, 3] S_
  h_S_ : 0 < S_.numel
  bcast_S_S1x1024x8 : S_.BroadcastsInDim S1x1024x8 (![] : Fin 0 → Fin S1x1024x8.rank)
  reducesTo_S1x1024x8_S_d0_1_2 : S1x1024x8.ReducesTo [0, 1, 2] S_
  bcast_S_S1x1x1x1 : S_.BroadcastsInDim S1x1x1x1 (![] : Fin 0 → Fin S1x1x1x1.rank)
  reducesTo_S1x1x1x1_S_d0_1_2_3 : S1x1x1x1.ReducesTo [0, 1, 2, 3] S_

variable [Facts]

def fn {F : FTy → Type} [FloatOps F] (main_arg0 : FVec F S16x8x32x32 .f32) (main_arg1 : FVec F S1x1024x8 .f32) (main_arg2 : FVec F S1x1x1x1 .f32) (main_arg3 : FVec F S1x1024 .f32) : IVec S_ 1 :=
  let main_v0 : FVec F S16x8x32x32 .f32 := Host.absf main_arg0
  let main_cst : FVec F S_ .f32 := constant S_ .f32 0x7F800000#32
  let main_v1 : FVec F S16x8x32x32 .f32 := broadcastInDim S16x8x32x32 ![] bcast_S_S16x8x32x32 main_cst
  let main_v2 : IVec S16x8x32x32 1 := cmpf .olt main_v0 main_v1
  let main_c : IVec S_ 1 := constantI S_ 1 1#1
  let main_v3 : IVec S_ 1 := (fun x v => Host.reduce IntOp.andi x v reducesTo_S16x8x32x32_S_d0_1_2_3 h_S_) main_v2 main_c
  let main_v4 : FVec F S1x1024x8 .f32 := Host.absf main_arg1
  let main_cst_0 : FVec F S_ .f32 := constant S_ .f32 0x7F800000#32
  let main_v5 : FVec F S1x1024x8 .f32 := broadcastInDim S1x1024x8 ![] bcast_S_S1x1024x8 main_cst_0
  let main_v6 : IVec S1x1024x8 1 := cmpf .olt main_v4 main_v5
  let main_c_1 : IVec S_ 1 := constantI S_ 1 1#1
  let main_v7 : IVec S_ 1 := (fun x v => Host.reduce IntOp.andi x v reducesTo_S1x1024x8_S_d0_1_2 h_S_) main_v6 main_c_1
  let main_v8 : IVec S_ 1 := andi main_v3 main_v7
  let main_v9 : FVec F S1x1x1x1 .f32 := Host.absf main_arg2
  let main_cst_2 : FVec F S_ .f32 := constant S_ .f32 0x7F800000#32
  let main_v10 : FVec F S1x1x1x1 .f32 := broadcastInDim S1x1x1x1 ![] bcast_S_S1x1x1x1 main_cst_2
  let main_v11 : IVec S1x1x1x1 1 := cmpf .olt main_v9 main_v10
  let main_c_3 : IVec S_ 1 := constantI S_ 1 1#1
  let main_v12 : IVec S_ 1 := (fun x v => Host.reduce IntOp.andi x v reducesTo_S1x1x1x1_S_d0_1_2_3 h_S_) main_v11 main_c_3
  let main_v13 : IVec S_ 1 := andi main_v8 main_v12
  main_v13
-- ==== Kernel.lean ====
abbrev S16x8x32x32 : Shape := ⟨4, ![16, 8, 32, 32]⟩
abbrev S1x1024x8 : Shape := ⟨3, ![1, 1024, 8]⟩
abbrev S1x1x1x1 : Shape := ⟨4, ![1, 1, 1, 1]⟩
abbrev S1x1024 : Shape := ⟨2, ![1, 1024]⟩
abbrev S1024x8 : Shape := ⟨2, ![1024, 8]⟩
abbrev S8x1024 : Shape := ⟨2, ![8, 1024]⟩
abbrev S1x1 : Shape := ⟨2, ![1, 1]⟩
abbrev S_ : Shape := ⟨0, ![]⟩
abbrev S1 : Shape := ⟨1, ![1]⟩
abbrev S2 : Shape := ⟨1, ![2]⟩
abbrev S2x1 : Shape := ⟨2, ![2, 1]⟩
abbrev S2x2 : Shape := ⟨2, ![2, 2]⟩
abbrev S1x2 : Shape := ⟨2, ![1, 2]⟩
abbrev S16x8x1024 : Shape := ⟨3, ![16, 8, 1024]⟩
abbrev S16x1024x8 : Shape := ⟨3, ![16, 1024, 8]⟩
abbrev S16384x8 : Shape := ⟨2, ![16384, 8]⟩
abbrev S32x1x512 : Shape := ⟨3, ![32, 1, 512]⟩
abbrev S512x8 : Shape := ⟨2, ![512, 8]⟩
abbrev S1x1x512 : Shape := ⟨3, ![1, 1, 512]⟩
abbrev S512 : Shape := ⟨1, ![512]⟩
abbrev S512x1 : Shape := ⟨2, ![512, 1]⟩
abbrev S1024 : Shape := ⟨1, ![1024]⟩
abbrev S512x1024 : Shape := ⟨2, ![512, 1024]⟩
abbrev S1x1x1024 : Shape := ⟨3, ![1, 1, 1024]⟩
abbrev S1x1x1 : Shape := ⟨3, ![1, 1, 1]⟩
abbrev S16x32x32x8 : Shape := ⟨4, ![16, 32, 32, 8]⟩
abbrev S16x1x32x32 : Shape := ⟨4, ![16, 1, 32, 32]⟩

abbrev nBuf : Space → Nat
  | .hbm => 272
  | .vmem => 9
  | .smem => 3
  | _ => 0

abbrev hbmTy0_0 (i : Nat) : BufTy := match i % 128 with
  | 0 => ⟨S16x8x32x32, .f32⟩
  | 1 => ⟨S1x1024x8, .f32⟩
  | 2 => ⟨S1x1x1x1, .f32⟩
  | 3 => ⟨S1x1024, .f32⟩
  | 4 => ⟨S1024x8, .f32⟩
  | 5 => ⟨S8x1024, .f32⟩
  | 6 => ⟨S1x1, .f32⟩
  | 7 => ⟨S_, .i32⟩
  | 8 => ⟨S_, .i32⟩
  | 9 => ⟨S_, .i32⟩
  | 10 => ⟨S_, .i32⟩
  | 11 => ⟨S1, .i32⟩
  | 12 => ⟨S_, .i32⟩
  | 13 => ⟨S_, .i32⟩
  | 14 => ⟨S_, .i32⟩
  | 15 => ⟨S1, .i32⟩
  | 16 => ⟨S2, .i32⟩
  | 17 => ⟨S1, .i32⟩
  | 18 => ⟨S_, .i32⟩
  | 19 => ⟨S1, .i32⟩
  | 20 => ⟨S_, .i32⟩
  | 21 => ⟨S2, .i64⟩
  | 22 => ⟨S_, .i64⟩
  | 23 => ⟨S2, .i64⟩
  | 24 => ⟨S2, .i64⟩
  | 25 => ⟨S_, .i64⟩
  | 26 => ⟨S2, .i64⟩
  | 27 => ⟨S2, .i64⟩
  | 28 => ⟨S2, .i32⟩
  | 29 => ⟨S2, .i32⟩
  | 30 => ⟨S_, .i32⟩
  | 31 => ⟨S_, .i32⟩
  | 32 => ⟨S_, .i32⟩
  | 33 => ⟨S2, .i32⟩
  | 34 => ⟨S2, .i32⟩
  | 35 => ⟨S2, .i32⟩
  | 36 => ⟨S2, .i32⟩
  | 37 => ⟨S2, .i32⟩
  | 38 => ⟨S_, .i32⟩
  | 39 => ⟨S2, .i32⟩
  | 40 => ⟨S2, .i32⟩
  | 41 => ⟨S_, .i32⟩
  | 42 => ⟨S2, .i32⟩
  | 43 => ⟨S2, .i32⟩
  | 44 => ⟨S2, .i32⟩
  | 45 => ⟨S2, .i32⟩
  | 46 => ⟨S2, .i32⟩
  | 47 => ⟨S_, .i32⟩
  | 48 => ⟨S2, .i32⟩
  | 49 => ⟨S2, .i32⟩
  | 50 => ⟨S_, .i32⟩
  | 51 => ⟨S2, .i32⟩
  | 52 => ⟨S2, .i32⟩
  | 53 => ⟨S2, .i32⟩
  | 54 => ⟨S2, .i32⟩
  | 55 => ⟨S2, .i32⟩
  | 56 => ⟨S_, .i32⟩
  | 57 => ⟨S2, .i32⟩
  | 58 => ⟨S2, .i32⟩
  | 59 => ⟨S_, .i32⟩
  | 60 => ⟨S2, .i32⟩
  | 61 => ⟨S2, .i32⟩
  | 62 => ⟨S2, .i32⟩
  | 63 => ⟨S2, .i32⟩
  | 64 => ⟨S2, .i32⟩
  | 65 => ⟨S_, .i32⟩
  | 66 => ⟨S2, .i32⟩
  | 67 => ⟨S2, .i32⟩
  | 68 => ⟨S_, .i32⟩
  | 69 => ⟨S2, .i32⟩
  | 70 => ⟨S2, .i32⟩
  | 71 => ⟨S2, .i32⟩
  | 72 => ⟨S2, .i32⟩
  | 73 => ⟨S2, .i32⟩
  | 74 => ⟨S2, .i32⟩
  | 75 => ⟨S2, .i32⟩
  | 76 => ⟨S2, .i32⟩
  | 77 => ⟨S_, .i32⟩
  | 78 => ⟨S2, .i32⟩
  | 79 => ⟨S2, .i32⟩
  | 80 => ⟨S2, .i32⟩
  | 81 => ⟨S_, .i32⟩
  | 82 => ⟨S2, .i32⟩
  | 83 => ⟨S2, .i32⟩
  | 84 => ⟨S_, .i32⟩
  | 85 => ⟨S2, .i32⟩
  | 86 => ⟨S2, .i32⟩
  | 87 => ⟨S2, .i32⟩
  | 88 => ⟨S2, .i32⟩
  | 89 => ⟨S2, .i32⟩
  | 90 => ⟨S_, .i32⟩
  | 91 => ⟨S2, .i32⟩
  | 92 => ⟨S2, .i32⟩
  | 93 => ⟨S_, .i32⟩
  | 94 => ⟨S2, .i32⟩
  | 95 => ⟨S2, .i32⟩
  | 96 => ⟨S2, .i32⟩
  | 97 => ⟨S2, .i32⟩
  | 98 => ⟨S2, .i32⟩
  | 99 => ⟨S_, .i32⟩
  | 100 => ⟨S2, .i32⟩
  | 101 => ⟨S2, .i32⟩
  | 102 => ⟨S_, .i32⟩
  | 103 => ⟨S2, .i32⟩
  | 104 => ⟨S2, .i32⟩
  | 105 => ⟨S2, .i32⟩
  | 106 => ⟨S2, .i32⟩
  | 107 => ⟨S2, .i32⟩
  | 108 => ⟨S_, .i32⟩
  | 109 => ⟨S2, .i32⟩
  | 110 => ⟨S2, .i32⟩
  | 111 => ⟨S_, .i32⟩
  | 112 => ⟨S2, .i32⟩
  | 113 => ⟨S2, .i32⟩
  | 114 => ⟨S2, .i32⟩
  | 115 => ⟨S2, .i32⟩
  | 116 => ⟨S2, .i32⟩
  | 117 => ⟨S2, .i32⟩
  | 118 => ⟨S2, .i32⟩
  | 119 => ⟨S2, .i32⟩
  | 120 => ⟨S_, .i32⟩
  | 121 => ⟨S2, .i32⟩
  | 122 => ⟨S2, .i32⟩
  | 123 => ⟨S2, .i32⟩
  | 124 => ⟨S_, .i32⟩
  | 125 => ⟨S2, .i32⟩
  | 126 => ⟨S2, .i32⟩
  | 127 => ⟨S_, .i32⟩
  | _ => ⟨S16x8x32x32, .f32⟩

abbrev hbmTy0_1 (i : Nat) : BufTy := match i % 128 with
  | 0 => ⟨S2, .i32⟩
  | 1 => ⟨S2, .i32⟩
  | 2 => ⟨S2, .i32⟩
  | 3 => ⟨S2, .i32⟩
  | 4 => ⟨S2, .i32⟩
  | 5 => ⟨S_, .i32⟩
  | 6 => ⟨S2, .i32⟩
  | 7 => ⟨S2, .i32⟩
  | 8 => ⟨S_, .i32⟩
  | 9 => ⟨S2, .i32⟩
  | 10 => ⟨S2, .i32⟩
  | 11 => ⟨S2, .i32⟩
  | 12 => ⟨S2, .i32⟩
  | 13 => ⟨S2, .i32⟩
  | 14 => ⟨S_, .i32⟩
  | 15 => ⟨S2, .i32⟩
  | 16 => ⟨S2, .i32⟩
  | 17 => ⟨S_, .i32⟩
  | 18 => ⟨S2, .i32⟩
  | 19 => ⟨S2, .i32⟩
  | 20 => ⟨S2, .i32⟩
  | 21 => ⟨S2, .i32⟩
  | 22 => ⟨S2, .i32⟩
  | 23 => ⟨S_, .i32⟩
  | 24 => ⟨S2, .i32⟩
  | 25 => ⟨S2, .i32⟩
  | 26 => ⟨S_, .i32⟩
  | 27 => ⟨S2, .i32⟩
  | 28 => ⟨S2, .i32⟩
  | 29 => ⟨S2, .i32⟩
  | 30 => ⟨S2, .i32⟩
  | 31 => ⟨S2, .i32⟩
  | 32 => ⟨S2, .i32⟩
  | 33 => ⟨S2, .i32⟩
  | 34 => ⟨S2, .i32⟩
  | 35 => ⟨S_, .i32⟩
  | 36 => ⟨S2, .i32⟩
  | 37 => ⟨S2, .i32⟩
  | 38 => ⟨S2, .i32⟩
  | 39 => ⟨S_, .i32⟩
  | 40 => ⟨S2, .i32⟩
  | 41 => ⟨S2, .i32⟩
  | 42 => ⟨S_, .i32⟩
  | 43 => ⟨S2, .i32⟩
  | 44 => ⟨S2, .i32⟩
  | 45 => ⟨S2, .i32⟩
  | 46 => ⟨S2, .i32⟩
  | 47 => ⟨S2, .i32⟩
  | 48 => ⟨S_, .i32⟩
  | 49 => ⟨S2, .i32⟩
  | 50 => ⟨S2, .i32⟩
  | 51 => ⟨S_, .i32⟩
  | 52 => ⟨S2, .i32⟩
  | 53 => ⟨S2, .i32⟩
  | 54 => ⟨S2, .i32⟩
  | 55 => ⟨S2, .i32⟩
  | 56 => ⟨S2, .i32⟩
  | 57 => ⟨S_, .i32⟩
  | 58 => ⟨S2, .i32⟩
  | 59 => ⟨S2, .i32⟩
  | 60 => ⟨S_, .i32⟩
  | 61 => ⟨S2, .i32⟩
  | 62 => ⟨S2, .i32⟩
  | 63 => ⟨S2, .i32⟩
  | 64 => ⟨S2, .i32⟩
  | 65 => ⟨S2, .i32⟩
  | 66 => ⟨S_, .i32⟩
  | 67 => ⟨S2, .i32⟩
  | 68 => ⟨S2, .i32⟩
  | 69 => ⟨S_, .i32⟩
  | 70 => ⟨S2, .i32⟩
  | 71 => ⟨S2, .i32⟩
  | 72 => ⟨S2, .i32⟩
  | 73 => ⟨S2, .i32⟩
  | 74 => ⟨S2, .i32⟩
  | 75 => ⟨S2, .i32⟩
  | 76 => ⟨S2, .i32⟩
  | 77 => ⟨S2, .i32⟩
  | 78 => ⟨S_, .i32⟩
  | 79 => ⟨S2, .i32⟩
  | 80 => ⟨S2, .i32⟩
  | 81 => ⟨S2, .i32⟩
  | 82 => ⟨S_, .i32⟩
  | 83 => ⟨S2, .i32⟩
  | 84 => ⟨S2, .i32⟩
  | 85 => ⟨S_, .i32⟩
  | 86 => ⟨S2, .i32⟩
  | 87 => ⟨S2, .i32⟩
  | 88 => ⟨S2, .i32⟩
  | 89 => ⟨S2, .i32⟩
  | 90 => ⟨S2, .i32⟩
  | 91 => ⟨S_, .i32⟩
  | 92 => ⟨S2, .i32⟩
  | 93 => ⟨S2, .i32⟩
  | 94 => ⟨S_, .i32⟩
  | 95 => ⟨S2, .i32⟩
  | 96 => ⟨S2, .i32⟩
  | 97 => ⟨S2, .i32⟩
  | 98 => ⟨S2, .i32⟩
  | 99 => ⟨S2, .i32⟩
  | 100 => ⟨S_, .i32⟩
  | 101 => ⟨S2, .i32⟩
  | 102 => ⟨S2, .i32⟩
  | 103 => ⟨S_, .i32⟩
  | 104 => ⟨S2, .i32⟩
  | 105 => ⟨S2, .i32⟩
  | 106 => ⟨S2, .i32⟩
  | 107 => ⟨S2, .i32⟩
  | 108 => ⟨S2, .i32⟩
  | 109 => ⟨S_, .i32⟩
  | 110 => ⟨S2, .i32⟩
  | 111 => ⟨S2, .i32⟩
  | 112 => ⟨S_, .i32⟩
  | 113 => ⟨S2, .i32⟩
  | 114 => ⟨S2, .i32⟩
  | 115 => ⟨S2, .i32⟩
  | 116 => ⟨S2, .i32⟩
  | 117 => ⟨S2, .i32⟩
  | 118 => ⟨S2, .i32⟩
  | 119 => ⟨S2, .i32⟩
  | 120 => ⟨S2, .i32⟩
  | 121 => ⟨S_, .i32⟩
  | 122 => ⟨S2, .i32⟩
  | 123 => ⟨S2, .i32⟩
  | 124 => ⟨S2x1, .i32⟩
  | 125 => ⟨S2x1, .i32⟩
  | 126 => ⟨S2x2, .i32⟩
  | 127 => ⟨S1x2, .i32⟩
  | _ => ⟨S16x8x32x32, .f32⟩

abbrev hbmTy0_2 (i : Nat) : BufTy := match i % 128 with
  | 0 => ⟨S2, .i32⟩
  | 1 => ⟨S1x2, .i32⟩
  | 2 => ⟨S2, .i32⟩
  | 3 => ⟨S1x2, .i32⟩
  | 4 => ⟨S1x2, .i32⟩
  | 5 => ⟨S2x2, .i32⟩
  | 6 => ⟨S16x8x1024, .f32⟩
  | 7 => ⟨S16x1024x8, .f32⟩
  | 8 => ⟨S16384x8, .f32⟩
  | 9 => ⟨S_, .i32⟩
  | 10 => ⟨S1x1, .i32⟩
  | 11 => ⟨S16384x8, .f32⟩
  | 12 => ⟨S32x1x512, .i32⟩
  | 13 => ⟨S16x32x32x8, .f32⟩
  | 14 => ⟨S16x8x32x32, .f32⟩
  | 15 => ⟨S16x1x32x32, .i32⟩
  | _ => ⟨S16x8x32x32, .f32⟩

abbrev hbmTy (i : Nat) : BufTy := match i / 128 with
  | 0 => hbmTy0_0 i
  | 1 => hbmTy0_1 i
  | 2 => hbmTy0_2 i
  | _ => ⟨S16x8x32x32, .f32⟩

abbrev bufTy : (tb : Table) → Fin (tcTables nBuf tb) → BufTy
  | .hbm, ⟨i, _⟩ => hbmTy i
  | .local _ .vmem, ⟨0, _⟩ => ⟨S512x8, .f32⟩
  | .local _ .vmem, ⟨1, _⟩ => ⟨S512x8, .f32⟩
  | .local _ .vmem, ⟨2, _⟩ => ⟨S8x1024, .f32⟩
  | .local _ .vmem, ⟨3, _⟩ => ⟨S1024x8, .f32⟩
  | .local _ .vmem, ⟨4, _⟩ => ⟨S1x1024, .f32⟩
  | .local _ .vmem, ⟨5, _⟩ => ⟨S512x8, .f32⟩
  | .local _ .vmem, ⟨6, _⟩ => ⟨S512x8, .f32⟩
  | .local _ .vmem, ⟨7, _⟩ => ⟨S1x1x512, .i32⟩
  | .local _ .vmem, ⟨8, _⟩ => ⟨S1x1x512, .i32⟩
  | .local _ .smem, ⟨0, _⟩ => ⟨S2x2, .i32⟩
  | .local _ .smem, ⟨1, _⟩ => ⟨S1x1, .f32⟩
  | .local _ .smem, ⟨2, _⟩ => ⟨S1x1, .i32⟩
  | _, _ => ⟨S16x8x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_c : Ref sig .tc := ⟨.hbm, 22, rfl⟩
abbrev main_call0_v5 : Ref sig .tc := ⟨.hbm, 23, rfl⟩
abbrev main_call0_v6 : Ref sig .tc := ⟨.hbm, 24, rfl⟩
abbrev main_call0_c_0 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_call0_v0 : Ref sig .tc := ⟨.hbm, 30, rfl⟩
abbrev main_call0_call0_c : Ref sig .tc := ⟨.hbm, 31, rfl⟩
abbrev main_call0_call0_v1 : Ref sig .tc := ⟨.hbm, 32, rfl⟩
abbrev main_call0_call0_v2 : Ref sig .tc := ⟨.hbm, 33, rfl⟩
abbrev main_call0_call0_v3 : Ref sig .tc := ⟨.hbm, 34, rfl⟩
abbrev main_call0_call0_v4 : Ref sig .tc := ⟨.hbm, 35, rfl⟩
abbrev main_call0_call0_v5 : Ref sig .tc := ⟨.hbm, 36, rfl⟩
abbrev main_call0_call0_v6 : Ref sig .tc := ⟨.hbm, 37, rfl⟩
abbrev main_call0_call0_c_0 : Ref sig .tc := ⟨.hbm, 38, rfl⟩
abbrev main_call0_call0_v7 : Ref sig .tc := ⟨.hbm, 39, rfl⟩
abbrev main_call0_call0_v8 : Ref sig .tc := ⟨.hbm, 40, rfl⟩
abbrev main_call0_call0_c_1 : Ref sig .tc := ⟨.hbm, 41, rfl⟩
abbrev main_call0_call0_v9 : Ref sig .tc := ⟨.hbm, 42, rfl⟩
abbrev main_call0_call0_v10 : Ref sig .tc := ⟨.hbm, 43, rfl⟩
abbrev main_call0_call0_v11 : Ref sig .tc := ⟨.hbm, 44, rfl⟩
abbrev main_call0_call0_v12 : Ref sig .tc := ⟨.hbm, 45, rfl⟩
abbrev main_call0_call0_v13 : Ref sig .tc := ⟨.hbm, 46, rfl⟩
abbrev main_call0_call0_c_2 : Ref sig .tc := ⟨.hbm, 47, rfl⟩
abbrev main_call0_call0_v14 : Ref sig .tc := ⟨.hbm, 48, rfl⟩
abbrev main_call0_call0_v15 : Ref sig .tc := ⟨.hbm, 49, rfl⟩
abbrev main_call0_call0_c_3 : Ref sig .tc := ⟨.hbm, 50, rfl⟩
abbrev main_call0_call0_v16 : Ref sig .tc := ⟨.hbm, 51, rfl⟩
abbrev main_call0_call0_v17 : Ref sig .tc := ⟨.hbm, 52, rfl⟩
abbrev main_call0_call0_v18 : Ref sig .tc := ⟨.hbm, 53, rfl⟩
abbrev main_call0_call0_v19 : Ref sig .tc := ⟨.hbm, 54, rfl⟩
abbrev main_call0_call0_v20 : Ref sig .tc := ⟨.hbm, 55, rfl⟩
abbrev main_call0_call0_c_4 : Ref sig .tc := ⟨.hbm, 56, rfl⟩
abbrev main_call0_call0_v21 : Ref sig .tc := ⟨.hbm, 57, rfl⟩
abbrev main_call0_call0_v22 : Ref sig .tc := ⟨.hbm, 58, rfl⟩
abbrev main_call0_call0_c_5 : Ref sig .tc := ⟨.hbm, 59, rfl⟩
abbrev main_call0_call0_v23 : Ref sig .tc := ⟨.hbm, 60, rfl⟩
abbrev main_call0_call0_v24 : Ref sig .tc := ⟨.hbm, 61, rfl⟩
abbrev main_call0_call0_v25 : Ref sig .tc := ⟨.hbm, 62, rfl⟩
abbrev main_call0_call0_v26 : Ref sig .tc := ⟨.hbm, 63, rfl⟩
abbrev main_call0_call0_v27 : Ref sig .tc := ⟨.hbm, 64, rfl⟩
abbrev main_call0_call0_c_6 : Ref sig .tc := ⟨.hbm, 65, rfl⟩
abbrev main_call0_call0_v28 : Ref sig .tc := ⟨.hbm, 66, rfl⟩
abbrev main_call0_call0_v29 : Ref sig .tc := ⟨.hbm, 67, rfl⟩
abbrev main_call0_call0_c_7 : Ref sig .tc := ⟨.hbm, 68, rfl⟩
abbrev main_call0_call0_v30 : Ref sig .tc := ⟨.hbm, 69, rfl⟩
abbrev main_call0_call0_v31 : Ref sig .tc := ⟨.hbm, 70, rfl⟩
abbrev main_call0_call0_v32 : Ref sig .tc := ⟨.hbm, 71, rfl⟩
abbrev main_call0_call0_v33 : Ref sig .tc := ⟨.hbm, 72, rfl⟩
abbrev main_call0_call0_v34 : Ref sig .tc := ⟨.hbm, 73, rfl⟩
abbrev main_call0_call0_v35 : Ref sig .tc := ⟨.hbm, 74, rfl⟩
abbrev main_call0_call0_v36 : Ref sig .tc := ⟨.hbm, 75, rfl⟩
abbrev main_call0_call0_v37 : Ref sig .tc := ⟨.hbm, 76, rfl⟩
abbrev main_call0_call0_c_8 : Ref sig .tc := ⟨.hbm, 77, rfl⟩
abbrev main_call0_call0_v38 : Ref sig .tc := ⟨.hbm, 78, rfl⟩
abbrev main_call0_call0_v39 : Ref sig .tc := ⟨.hbm, 79, rfl⟩
abbrev main_call0_call0_v40 : Ref sig .tc := ⟨.hbm, 80, rfl⟩
abbrev main_call0_call0_c_9 : Ref sig .tc := ⟨.hbm, 81, rfl⟩
abbrev main_call0_call0_v41 : Ref sig .tc := ⟨.hbm, 82, rfl⟩
abbrev main_call0_call0_v42 : Ref sig .tc := ⟨.hbm, 83, rfl⟩
abbrev main_call0_call0_c_10 : Ref sig .tc := ⟨.hbm, 84, rfl⟩
abbrev main_call0_call0_v43 : Ref sig .tc := ⟨.hbm, 85, rfl⟩
abbrev main_call0_call0_v44 : Ref sig .tc := ⟨.hbm, 86, rfl⟩
abbrev main_call0_call0_v45 : Ref sig .tc := ⟨.hbm, 87, rfl⟩
abbrev main_call0_call0_v46 : Ref sig .tc := ⟨.hbm, 88, rfl⟩
abbrev main_call0_call0_v47 : Ref sig .tc := ⟨.hbm, 89, rfl⟩
abbrev main_call0_call0_c_11 : Ref sig .tc := ⟨.hbm, 90, rfl⟩
abbrev main_call0_call0_v48 : Ref sig .tc := ⟨.hbm, 91, rfl⟩
abbrev main_call0_call0_v49 : Ref sig .tc := ⟨.hbm, 92, rfl⟩
abbrev main_call0_call0_c_12 : Ref sig .tc := ⟨.hbm, 93, rfl⟩
abbrev main_call0_call0_v50 : Ref sig .tc := ⟨.hbm, 94, rfl⟩
abbrev main_call0_call0_v51 : Ref sig .tc := ⟨.hbm, 95, rfl⟩
abbrev main_call0_call0_v52 : Ref sig .tc := ⟨.hbm, 96, rfl⟩
abbrev main_call0_call0_v53 : Ref sig .tc := ⟨.hbm, 97, rfl⟩
abbrev main_call0_call0_v54 : Ref sig .tc := ⟨.hbm, 98, rfl⟩
abbrev main_call0_call0_c_13 : Ref sig .tc := ⟨.hbm, 99, rfl⟩
abbrev main_call0_call0_v55 : Ref sig .tc := ⟨.hbm, 100, rfl⟩
abbrev main_call0_call0_v56 : Ref sig .tc := ⟨.hbm, 101, rfl⟩
abbrev main_call0_call0_c_14 : Ref sig .tc := ⟨.hbm, 102, rfl⟩
abbrev main_call0_call0_v57 : Ref sig .tc := ⟨.hbm, 103, rfl⟩
abbrev main_call0_call0_v58 : Ref sig .tc := ⟨.hbm, 104, rfl⟩
abbrev main_call0_call0_v59 : Ref sig .tc := ⟨.hbm, 105, rfl⟩
abbrev main_call0_call0_v60 : Ref sig .tc := ⟨.hbm, 106, rfl⟩
abbrev main_call0_call0_v61 : Ref sig .tc := ⟨.hbm, 107, rfl⟩
abbrev main_call0_call0_c_15 : Ref sig .tc := ⟨.hbm, 108, rfl⟩
abbrev main_call0_call0_v62 : Ref sig .tc := ⟨.hbm, 109, rfl⟩
abbrev main_call0_call0_v63 : Ref sig .tc := ⟨.hbm, 110, rfl⟩
abbrev main_call0_call0_c_16 : Ref sig .tc := ⟨.hbm, 111, rfl⟩
abbrev main_call0_call0_v64 : Ref sig .tc := ⟨.hbm, 112, rfl⟩
abbrev main_call0_call0_v65 : Ref sig .tc := ⟨.hbm, 113, rfl⟩
abbrev main_call0_call0_v66 : Ref sig .tc := ⟨.hbm, 114, rfl⟩
abbrev main_call0_call0_v67 : Ref sig .tc := ⟨.hbm, 115, rfl⟩
abbrev main_call0_call0_v68 : Ref sig .tc := ⟨.hbm, 116, rfl⟩
abbrev main_call0_call0_v69 : Ref sig .tc := ⟨.hbm, 117, rfl⟩
abbrev main_call0_call0_v70 : Ref sig .tc := ⟨.hbm, 118, rfl⟩
abbrev main_call0_call0_v71 : Ref sig .tc := ⟨.hbm, 119, rfl⟩
abbrev main_call0_call0_c_17 : Ref sig .tc := ⟨.hbm, 120, rfl⟩
abbrev main_call0_call0_v72 : Ref sig .tc := ⟨.hbm, 121, rfl⟩
abbrev main_call0_call0_v73 : Ref sig .tc := ⟨.hbm, 122, rfl⟩
abbrev main_call0_call0_v74 : Ref sig .tc := ⟨.hbm, 123, rfl⟩
abbrev main_call0_call0_c_18 : Ref sig .tc := ⟨.hbm, 124, rfl⟩
abbrev main_call0_call0_v75 : Ref sig .tc := ⟨.hbm, 125, rfl⟩
abbrev main_call0_call0_v76 : Ref sig .tc := ⟨.hbm, 126, rfl⟩
abbrev main_call0_call0_c_19 : Ref sig .tc := ⟨.hbm, 127, rfl⟩
abbrev main_call0_call0_v77 : Ref sig .tc := ⟨.hbm, 128, rfl⟩
abbrev main_call0_call0_v78 : Ref sig .tc := ⟨.hbm, 129, rfl⟩
abbrev main_call0_call0_v79 : Ref sig .tc := ⟨.hbm, 130, rfl⟩
abbrev main_call0_call0_v80 : Ref sig .tc := ⟨.hbm, 131, rfl⟩
abbrev main_call0_call0_v81 : Ref sig .tc := ⟨.hbm, 132, rfl⟩
abbrev main_call0_call0_c_20 : Ref sig .tc := ⟨.hbm, 133, rfl⟩
abbrev main_call0_call0_v82 : Ref sig .tc := ⟨.hbm, 134, rfl⟩
abbrev main_call0_call0_v83 : Ref sig .tc := ⟨.hbm, 135, rfl⟩
abbrev main_call0_call0_c_21 : Ref sig .tc := ⟨.hbm, 136, rfl⟩
abbrev main_call0_call0_v84 : Ref sig .tc := ⟨.hbm, 137, rfl⟩
abbrev main_call0_call0_v85 : Ref sig .tc := ⟨.hbm, 138, rfl⟩
abbrev main_call0_call0_v86 : Ref sig .tc := ⟨.hbm, 139, rfl⟩
abbrev main_call0_call0_v87 : Ref sig .tc := ⟨.hbm, 140, rfl⟩
abbrev main_call0_call0_v88 : Ref sig .tc := ⟨.hbm, 141, rfl⟩
abbrev main_call0_call0_c_22 : Ref sig .tc := ⟨.hbm, 142, rfl⟩
abbrev main_call0_call0_v89 : Ref sig .tc := ⟨.hbm, 143, rfl⟩
abbrev main_call0_call0_v90 : Ref sig .tc := ⟨.hbm, 144, rfl⟩
abbrev main_call0_call0_c_23 : Ref sig .tc := ⟨.hbm, 145, rfl⟩
abbrev main_call0_call0_v91 : Ref sig .tc := ⟨.hbm, 146, rfl⟩
abbrev main_call0_call0_v92 : Ref sig .tc := ⟨.hbm, 147, rfl⟩
abbrev main_call0_call0_v93 : Ref sig .tc := ⟨.hbm, 148, rfl⟩
abbrev main_call0_call0_v94 : Ref sig .tc := ⟨.hbm, 149, rfl⟩
abbrev main_call0_call0_v95 : Ref sig .tc := ⟨.hbm, 150, rfl⟩
abbrev main_call0_call0_c_24 : Ref sig .tc := ⟨.hbm, 151, rfl⟩
abbrev main_call0_call0_v96 : Ref sig .tc := ⟨.hbm, 152, rfl⟩
abbrev main_call0_call0_v97 : Ref sig .tc := ⟨.hbm, 153, rfl⟩
abbrev main_call0_call0_c_25 : Ref sig .tc := ⟨.hbm, 154, rfl⟩
abbrev main_call0_call0_v98 : Ref sig .tc := ⟨.hbm, 155, rfl⟩
abbrev main_call0_call0_v99 : Ref sig .tc := ⟨.hbm, 156, rfl⟩
abbrev main_call0_call0_v100 : Ref sig .tc := ⟨.hbm, 157, rfl⟩
abbrev main_call0_call0_v101 : Ref sig .tc := ⟨.hbm, 158, rfl⟩
abbrev main_call0_call0_v102 : Ref sig .tc := ⟨.hbm, 159, rfl⟩
abbrev main_call0_call0_v103 : Ref sig .tc := ⟨.hbm, 160, rfl⟩
abbrev main_call0_call0_v104 : Ref sig .tc := ⟨.hbm, 161, rfl⟩
abbrev main_call0_call0_v105 : Ref sig .tc := ⟨.hbm, 162, rfl⟩
abbrev main_call0_call0_c_26 : Ref sig .tc := ⟨.hbm, 163, rfl⟩
abbrev main_call0_call0_v106 : Ref sig .tc := ⟨.hbm, 164, rfl⟩
abbrev main_call0_call0_v107 : Ref sig .tc := ⟨.hbm, 165, rfl⟩
abbrev main_call0_call0_v108 : Ref sig .tc := ⟨.hbm, 166, rfl⟩
abbrev main_call0_call0_c_27 : Ref sig .tc := ⟨.hbm, 167, rfl⟩
abbrev main_call0_call0_v109 : Ref sig .tc := ⟨.hbm, 168, rfl⟩
abbrev main_call0_call0_v110 : Ref sig .tc := ⟨.hbm, 169, rfl⟩
abbrev main_call0_call0_c_28 : Ref sig .tc := ⟨.hbm, 170, rfl⟩
abbrev main_call0_call0_v111 : Ref sig .tc := ⟨.hbm, 171, rfl⟩
abbrev main_call0_call0_v112 : Ref sig .tc := ⟨.hbm, 172, rfl⟩
abbrev main_call0_call0_v113 : Ref sig .tc := ⟨.hbm, 173, rfl⟩
abbrev main_call0_call0_v114 : Ref sig .tc := ⟨.hbm, 174, rfl⟩
abbrev main_call0_call0_v115 : Ref sig .tc := ⟨.hbm, 175, rfl⟩
abbrev main_call0_call0_c_29 : Ref sig .tc := ⟨.hbm, 176, rfl⟩
abbrev main_call0_call0_v116 : Ref sig .tc := ⟨.hbm, 177, rfl⟩
abbrev main_call0_call0_v117 : Ref sig .tc := ⟨.hbm, 178, rfl⟩
abbrev main_call0_call0_c_30 : Ref sig .tc := ⟨.hbm, 179, rfl⟩
abbrev main_call0_call0_v118 : Ref sig .tc := ⟨.hbm, 180, rfl⟩
abbrev main_call0_call0_v119 : Ref sig .tc := ⟨.hbm, 181, rfl⟩
abbrev main_call0_call0_v120 : Ref sig .tc := ⟨.hbm, 182, rfl⟩
abbrev main_call0_call0_v121 : Ref sig .tc := ⟨.hbm, 183, rfl⟩
abbrev main_call0_call0_v122 : Ref sig .tc := ⟨.hbm, 184, rfl⟩
abbrev main_call0_call0_c_31 : Ref sig .tc := ⟨.hbm, 185, rfl⟩
abbrev main_call0_call0_v123 : Ref sig .tc := ⟨.hbm, 186, rfl⟩
abbrev main_call0_call0_v124 : Ref sig .tc := ⟨.hbm, 187, rfl⟩
abbrev main_call0_call0_c_32 : Ref sig .tc := ⟨.hbm, 188, rfl⟩
abbrev main_call0_call0_v125 : Ref sig .tc := ⟨.hbm, 189, rfl⟩
abbrev main_call0_call0_v126 : Ref sig .tc := ⟨.hbm, 190, rfl⟩
abbrev main_call0_call0_v127 : Ref sig .tc := ⟨.hbm, 191, rfl⟩
abbrev main_call0_call0_v128 : Ref sig .tc := ⟨.hbm, 192, rfl⟩
abbrev main_call0_call0_v129 : Ref sig .tc := ⟨.hbm, 193, rfl⟩
abbrev main_call0_call0_c_33 : Ref sig .tc := ⟨.hbm, 194, rfl⟩
abbrev main_call0_call0_v130 : Ref sig .tc := ⟨.hbm, 195, rfl⟩
abbrev main_call0_call0_v131 : Ref sig .tc := ⟨.hbm, 196, rfl⟩
abbrev main_call0_call0_c_34 : Ref sig .tc := ⟨.hbm, 197, rfl⟩
abbrev main_call0_call0_v132 : Ref sig .tc := ⟨.hbm, 198, rfl⟩
abbrev main_call0_call0_v133 : Ref sig .tc := ⟨.hbm, 199, rfl⟩
abbrev main_call0_call0_v134 : Ref sig .tc := ⟨.hbm, 200, rfl⟩
abbrev main_call0_call0_v135 : Ref sig .tc := ⟨.hbm, 201, rfl⟩
abbrev main_call0_call0_v136 : Ref sig .tc := ⟨.hbm, 202, rfl⟩
abbrev main_call0_call0_v137 : Ref sig .tc := ⟨.hbm, 203, rfl⟩
abbrev main_call0_call0_v138 : Ref sig .tc := ⟨.hbm, 204, rfl⟩
abbrev main_call0_call0_v139 : Ref sig .tc := ⟨.hbm, 205, rfl⟩
abbrev main_call0_call0_c_35 : Ref sig .tc := ⟨.hbm, 206, rfl⟩
abbrev main_call0_call0_v140 : Ref sig .tc := ⟨.hbm, 207, rfl⟩
abbrev main_call0_call0_v141 : Ref sig .tc := ⟨.hbm, 208, rfl⟩
abbrev main_call0_call0_v142 : Ref sig .tc := ⟨.hbm, 209, rfl⟩
abbrev main_call0_call0_c_36 : Ref sig .tc := ⟨.hbm, 210, rfl⟩
abbrev main_call0_call0_v143 : Ref sig .tc := ⟨.hbm, 211, rfl⟩
abbrev main_call0_call0_v144 : Ref sig .tc := ⟨.hbm, 212, rfl⟩
abbrev main_call0_call0_c_37 : Ref sig .tc := ⟨.hbm, 213, rfl⟩
abbrev main_call0_call0_v145 : Ref sig .tc := ⟨.hbm, 214, rfl⟩
abbrev main_call0_call0_v146 : Ref sig .tc := ⟨.hbm, 215, rfl⟩
abbrev main_call0_call0_v147 : Ref sig .tc := ⟨.hbm, 216, rfl⟩
abbrev main_call0_call0_v148 : Ref sig .tc := ⟨.hbm, 217, rfl⟩
abbrev main_call0_call0_v149 : Ref sig .tc := ⟨.hbm, 218, rfl⟩
abbrev main_call0_call0_c_38 : Ref sig .tc := ⟨.hbm, 219, rfl⟩
abbrev main_call0_call0_v150 : Ref sig .tc := ⟨.hbm, 220, rfl⟩
abbrev main_call0_call0_v151 : Ref sig .tc := ⟨.hbm, 221, rfl⟩
abbrev main_call0_call0_c_39 : Ref sig .tc := ⟨.hbm, 222, rfl⟩
abbrev main_call0_call0_v152 : Ref sig .tc := ⟨.hbm, 223, rfl⟩
abbrev main_call0_call0_v153 : Ref sig .tc := ⟨.hbm, 224, rfl⟩
abbrev main_call0_call0_v154 : Ref sig .tc := ⟨.hbm, 225, rfl⟩
abbrev main_call0_call0_v155 : Ref sig .tc := ⟨.hbm, 226, rfl⟩
abbrev main_call0_call0_v156 : Ref sig .tc := ⟨.hbm, 227, rfl⟩
abbrev main_call0_call0_c_40 : Ref sig .tc := ⟨.hbm, 228, rfl⟩
abbrev main_call0_call0_v157 : Ref sig .tc := ⟨.hbm, 229, rfl⟩
abbrev main_call0_call0_v158 : Ref sig .tc := ⟨.hbm, 230, rfl⟩
abbrev main_call0_call0_c_41 : Ref sig .tc := ⟨.hbm, 231, rfl⟩
abbrev main_call0_call0_v159 : Ref sig .tc := ⟨.hbm, 232, rfl⟩
abbrev main_call0_call0_v160 : Ref sig .tc := ⟨.hbm, 233, rfl⟩
abbrev main_call0_call0_v161 : Ref sig .tc := ⟨.hbm, 234, rfl⟩
abbrev main_call0_call0_v162 : Ref sig .tc := ⟨.hbm, 235, rfl⟩
abbrev main_call0_call0_v163 : Ref sig .tc := ⟨.hbm, 236, rfl⟩
abbrev main_call0_call0_c_42 : Ref sig .tc := ⟨.hbm, 237, rfl⟩
abbrev main_call0_call0_v164 : Ref sig .tc := ⟨.hbm, 238, rfl⟩
abbrev main_call0_call0_v165 : Ref sig .tc := ⟨.hbm, 239, rfl⟩
abbrev main_call0_call0_c_43 : Ref sig .tc := ⟨.hbm, 240, rfl⟩
abbrev main_call0_call0_v166 : Ref sig .tc := ⟨.hbm, 241, rfl⟩
abbrev main_call0_call0_v167 : Ref sig .tc := ⟨.hbm, 242, rfl⟩
abbrev main_call0_call0_v168 : Ref sig .tc := ⟨.hbm, 243, rfl⟩
abbrev main_call0_call0_v169 : Ref sig .tc := ⟨.hbm, 244, rfl⟩
abbrev main_call0_call0_v170 : Ref sig .tc := ⟨.hbm, 245, rfl⟩
abbrev main_call0_v11_0 : Ref sig .tc := ⟨.hbm, 246, rfl⟩
abbrev main_call0_call0_v172 : Ref sig .tc := ⟨.hbm, 247, rfl⟩
abbrev main_call0_call0_v173 : Ref sig .tc := ⟨.hbm, 248, rfl⟩
abbrev main_call0_call0_c_44 : Ref sig .tc := ⟨.hbm, 249, rfl⟩
abbrev main_call0_call0_v174 : Ref sig .tc := ⟨.hbm, 250, rfl⟩
abbrev main_call0_v11_1 : Ref sig .tc := ⟨.hbm, 251, rfl⟩
abbrev main_call0_v12 : Ref sig .tc := ⟨.hbm, 252, rfl⟩
abbrev main_call0_v13 : Ref sig .tc := ⟨.hbm, 253, rfl⟩
abbrev main_v10 : Ref sig .tc := ⟨.hbm, 254, rfl⟩
abbrev main_v11 : Ref sig .tc := ⟨.hbm, 255, rfl⟩
abbrev main_v12 : Ref sig .tc := ⟨.hbm, 256, rfl⟩
abbrev main_v13 : Ref sig .tc := ⟨.hbm, 257, rfl⟩
abbrev main_v14 : Ref sig .tc := ⟨.hbm, 258, rfl⟩
abbrev main_v15 : Ref sig .tc := ⟨.hbm, 259, rfl⟩
abbrev main_v16 : Ref sig .tc := ⟨.hbm, 260, rfl⟩
abbrev main_v17 : Ref sig .tc := ⟨.hbm, 261, rfl⟩
abbrev main_v18 : Ref sig .tc := ⟨.hbm, 262, rfl⟩
abbrev main_v19 : Ref sig .tc := ⟨.hbm, 263, rfl⟩
abbrev main_v20 : Ref sig .tc := ⟨.hbm, 264, rfl⟩
abbrev main_c_2 : Ref sig .tc := ⟨.hbm, 265, rfl⟩
abbrev main_v21 : Ref sig .tc := ⟨.hbm, 266, rfl⟩
abbrev main_v22_0 : Ref sig .tc := ⟨.hbm, 267, rfl⟩
abbrev main_v22_1 : Ref sig .tc := ⟨.hbm, 268, rfl⟩
abbrev main_v23 : Ref sig .tc := ⟨.hbm, 269, rfl⟩
abbrev main_v24 : Ref sig .tc := ⟨.hbm, 270, rfl⟩
abbrev main_v25 : Ref sig .tc := ⟨.hbm, 271, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg5_0 : Ref sig .tc := ⟨.vmem, 3, rfl⟩
abbrev cc0_stg6_0 : Ref sig .tc := ⟨.vmem, 4, rfl⟩
abbrev cc0_stg7_0 : Ref sig .tc := ⟨.vmem, 5, rfl⟩
abbrev cc0_stg7_1 : Ref sig .tc := ⟨.vmem, 6, rfl⟩
abbrev cc0_stg8_0 : Ref sig .tc := ⟨.vmem, 7, rfl⟩
abbrev cc0_stg8_1 : Ref sig .tc := ⟨.vmem, 8, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S2x2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S1x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x8 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x512 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S16x8x32x32 : Shape := ⟨4, ![16, 8, 32, 32]⟩
abbrev S1x1024x8 : Shape := ⟨3, ![1, 1024, 8]⟩
abbrev S1x1x1x1 : Shape := ⟨4, ![1, 1, 1, 1]⟩
abbrev S1x1024 : Shape := ⟨2, ![1, 1024]⟩
abbrev S16x1x8x32x32 : Shape := ⟨5, ![16, 1, 8, 32, 32]⟩
abbrev S_ : Shape := ⟨0, ![]⟩
abbrev S16x1x32x32 : Shape := ⟨4, ![16, 1, 32, 32]⟩
abbrev S16x1x1x32x32 : Shape := ⟨5, ![16, 1, 1, 32, 32]⟩
abbrev S1x1x1024x1x1 : Shape := ⟨5, ![1, 1, 1024, 1, 1]⟩
abbrev S1x1024x16x32x32 : Shape := ⟨5, ![1, 1024, 16, 32, 32]⟩
abbrev S16x1x1024x32x32 : Shape := ⟨5, ![16, 1, 1024, 32, 32]⟩
abbrev S16x1x32x32x1024 : Shape := ⟨5, ![16, 1, 32, 32, 1024]⟩
abbrev S1x1x1x1x1 : Shape := ⟨5, ![1, 1, 1, 1, 1]⟩
abbrev S1 : Shape := ⟨1, ![1]⟩
abbrev S2 : Shape := ⟨1, ![2]⟩
abbrev S2x1 : Shape := ⟨2, ![2, 1]⟩
abbrev S2x2 : Shape := ⟨2, ![2, 2]⟩
abbrev S1x2 : Shape := ⟨2, ![1, 2]⟩
abbrev S1x1x1x1024 : Shape := ⟨4, ![1, 1, 1, 1024]⟩
abbrev S1x1x1x1x1024 : Shape := ⟨5, ![1, 1, 1, 1, 1024]⟩
abbrev S16x1x32x32x1 : Shape := ⟨5, ![16, 1, 32, 32, 1]⟩
abbrev S1x8x16x32x32 : Shape := ⟨5, ![1, 8, 16, 32, 32]⟩
abbrev S16x1x32x32x8 : Shape := ⟨5, ![16, 1, 32, 32, 8]⟩

abbrev nBuf : Space → Nat
  | .hbm => 919
  | .vmem => 0
  | .smem => 0
  | _ => 0

abbrev hbmTy0_0 (i : Nat) : BufTy := match i % 128 with
  | 0 => ⟨S16x8x32x32, .f32⟩
  | 1 => ⟨S1x1024x8, .f32⟩
  | 2 => ⟨S1x1x1x1, .f32⟩
  | 3 => ⟨S1x1024, .f32⟩
  | 4 => ⟨S16x1x8x32x32, .f32⟩
  | 5 => ⟨S16x1x8x32x32, .f32⟩
  | 6 => ⟨S_, .f32⟩
  | 7 => ⟨S16x1x32x32, .f32⟩
  | 8 => ⟨S16x1x1x32x32, .f32⟩
  | 9 => ⟨S1x1024x8, .f32⟩
  | 10 => ⟨S_, .f32⟩
  | 11 => ⟨S1x1024, .f32⟩
  | 12 => ⟨S1x1x1024x1x1, .f32⟩
  | 13 => ⟨S1x1024x16x32x32, .f32⟩
  | 14 => ⟨S16x1x1024x32x32, .f32⟩
  | 15 => ⟨S16x1x1024x32x32, .f32⟩
  | 16 => ⟨S16x1x1024x32x32, .f32⟩
  | 17 => ⟨S16x1x1024x32x32, .f32⟩
  | 18 => ⟨S_, .f32⟩
  | 19 => ⟨S16x1x1024x32x32, .f32⟩
  | 20 => ⟨S16x1x1024x32x32, .f32⟩
  | 21 => ⟨S16x1x1024x32x32, .f32⟩
  | 22 => ⟨S16x1x32x32x1024, .f32⟩
  | 23 => ⟨S16x1x32x32x1024, .f32⟩
  | 24 => ⟨S_, .f32⟩
  | 25 => ⟨S16x1x32x32x1024, .f32⟩
  | 26 => ⟨S16x1x32x32x1024, .f32⟩
  | 27 => ⟨S_, .f32⟩
  | 28 => ⟨S1x1x1x1, .f32⟩
  | 29 => ⟨S1x1x1x1, .f32⟩
  | 30 => ⟨S1x1x1x1x1, .f32⟩
  | 31 => ⟨S16x1x32x32x1024, .f32⟩
  | 32 => ⟨S16x1x32x32x1024, .f32⟩
  | 33 => ⟨S_, .i32⟩
  | 34 => ⟨S_, .i32⟩
  | 35 => ⟨S_, .i32⟩
  | 36 => ⟨S_, .i32⟩
  | 37 => ⟨S1, .i32⟩
  | 38 => ⟨S_, .i32⟩
  | 39 => ⟨S_, .i32⟩
  | 40 => ⟨S_, .i32⟩
  | 41 => ⟨S1, .i32⟩
  | 42 => ⟨S2, .i32⟩
  | 43 => ⟨S1, .i32⟩
  | 44 => ⟨S_, .i32⟩
  | 45 => ⟨S1, .i32⟩
  | 46 => ⟨S_, .i32⟩
  | 47 => ⟨S2, .i64⟩
  | 48 => ⟨S_, .i64⟩
  | 49 => ⟨S2, .i64⟩
  | 50 => ⟨S2, .i64⟩
  | 51 => ⟨S_, .i64⟩
  | 52 => ⟨S2, .i64⟩
  | 53 => ⟨S2, .i64⟩
  | 54 => ⟨S2, .i32⟩
  | 55 => ⟨S2, .i32⟩
  | 56 => ⟨S_, .i32⟩
  | 57 => ⟨S_, .i32⟩
  | 58 => ⟨S_, .i32⟩
  | 59 => ⟨S2, .i32⟩
  | 60 => ⟨S2, .i32⟩
  | 61 => ⟨S2, .i32⟩
  | 62 => ⟨S2, .i32⟩
  | 63 => ⟨S2, .i32⟩
  | 64 => ⟨S_, .i32⟩
  | 65 => ⟨S2, .i32⟩
  | 66 => ⟨S2, .i32⟩
  | 67 => ⟨S_, .i32⟩
  | 68 => ⟨S2, .i32⟩
  | 69 => ⟨S2, .i32⟩
  | 70 => ⟨S2, .i32⟩
  | 71 => ⟨S2, .i32⟩
  | 72 => ⟨S2, .i32⟩
  | 73 => ⟨S_, .i32⟩
  | 74 => ⟨S2, .i32⟩
  | 75 => ⟨S2, .i32⟩
  | 76 => ⟨S_, .i32⟩
  | 77 => ⟨S2, .i32⟩
  | 78 => ⟨S2, .i32⟩
  | 79 => ⟨S2, .i32⟩
  | 80 => ⟨S2, .i32⟩
  | 81 => ⟨S2, .i32⟩
  | 82 => ⟨S_, .i32⟩
  | 83 => ⟨S2, .i32⟩
  | 84 => ⟨S2, .i32⟩
  | 85 => ⟨S_, .i32⟩
  | 86 => ⟨S2, .i32⟩
  | 87 => ⟨S2, .i32⟩
  | 88 => ⟨S2, .i32⟩
  | 89 => ⟨S2, .i32⟩
  | 90 => ⟨S2, .i32⟩
  | 91 => ⟨S_, .i32⟩
  | 92 => ⟨S2, .i32⟩
  | 93 => ⟨S2, .i32⟩
  | 94 => ⟨S_, .i32⟩
  | 95 => ⟨S2, .i32⟩
  | 96 => ⟨S2, .i32⟩
  | 97 => ⟨S2, .i32⟩
  | 98 => ⟨S2, .i32⟩
  | 99 => ⟨S2, .i32⟩
  | 100 => ⟨S2, .i32⟩
  | 101 => ⟨S2, .i32⟩
  | 102 => ⟨S2, .i32⟩
  | 103 => ⟨S_, .i32⟩
  | 104 => ⟨S2, .i32⟩
  | 105 => ⟨S2, .i32⟩
  | 106 => ⟨S2, .i32⟩
  | 107 => ⟨S_, .i32⟩
  | 108 => ⟨S2, .i32⟩
  | 109 => ⟨S2, .i32⟩
  | 110 => ⟨S_, .i32⟩
  | 111 => ⟨S2, .i32⟩
  | 112 => ⟨S2, .i32⟩
  | 113 => ⟨S2, .i32⟩
  | 114 => ⟨S2, .i32⟩
  | 115 => ⟨S2, .i32⟩
  | 116 => ⟨S_, .i32⟩
  | 117 => ⟨S2, .i32⟩
  | 118 => ⟨S2, .i32⟩
  | 119 => ⟨S_, .i32⟩
  | 120 => ⟨S2, .i32⟩
  | 121 => ⟨S2, .i32⟩
  | 122 => ⟨S2, .i32⟩
  | 123 => ⟨S2, .i32⟩
  | 124 => ⟨S2, .i32⟩
  | 125 => ⟨S_, .i32⟩
  | 126 => ⟨S2, .i32⟩
  | 127 => ⟨S2, .i32⟩
  | _ => ⟨S16x8x32x32, .f32⟩

abbrev hbmTy0_1 (i : Nat) : BufTy := match i % 128 with
  | 0 => ⟨S_, .i32⟩
  | 1 => ⟨S2, .i32⟩
  | 2 => ⟨S2, .i32⟩
  | 3 => ⟨S2, .i32⟩
  | 4 => ⟨S2, .i32⟩
  | 5 => ⟨S2, .i32⟩
  | 6 => ⟨S_, .i32⟩
  | 7 => ⟨S2, .i32⟩
  | 8 => ⟨S2, .i32⟩
  | 9 => ⟨S_, .i32⟩
  | 10 => ⟨S2, .i32⟩
  | 11 => ⟨S2, .i32⟩
  | 12 => ⟨S2, .i32⟩
  | 13 => ⟨S2, .i32⟩
  | 14 => ⟨S2, .i32⟩
  | 15 => ⟨S2, .i32⟩
  | 16 => ⟨S2, .i32⟩
  | 17 => ⟨S2, .i32⟩
  | 18 => ⟨S_, .i32⟩
  | 19 => ⟨S2, .i32⟩
  | 20 => ⟨S2, .i32⟩
  | 21 => ⟨S2, .i32⟩
  | 22 => ⟨S_, .i32⟩
  | 23 => ⟨S2, .i32⟩
  | 24 => ⟨S2, .i32⟩
  | 25 => ⟨S_, .i32⟩
  | 26 => ⟨S2, .i32⟩
  | 27 => ⟨S2, .i32⟩
  | 28 => ⟨S2, .i32⟩
  | 29 => ⟨S2, .i32⟩
  | 30 => ⟨S2, .i32⟩
  | 31 => ⟨S_, .i32⟩
  | 32 => ⟨S2, .i32⟩
  | 33 => ⟨S2, .i32⟩
  | 34 => ⟨S_, .i32⟩
  | 35 => ⟨S2, .i32⟩
  | 36 => ⟨S2, .i32⟩
  | 37 => ⟨S2, .i32⟩
  | 38 => ⟨S2, .i32⟩
  | 39 => ⟨S2, .i32⟩
  | 40 => ⟨S_, .i32⟩
  | 41 => ⟨S2, .i32⟩
  | 42 => ⟨S2, .i32⟩
  | 43 => ⟨S_, .i32⟩
  | 44 => ⟨S2, .i32⟩
  | 45 => ⟨S2, .i32⟩
  | 46 => ⟨S2, .i32⟩
  | 47 => ⟨S2, .i32⟩
  | 48 => ⟨S2, .i32⟩
  | 49 => ⟨S_, .i32⟩
  | 50 => ⟨S2, .i32⟩
  | 51 => ⟨S2, .i32⟩
  | 52 => ⟨S_, .i32⟩
  | 53 => ⟨S2, .i32⟩
  | 54 => ⟨S2, .i32⟩
  | 55 => ⟨S2, .i32⟩
  | 56 => ⟨S2, .i32⟩
  | 57 => ⟨S2, .i32⟩
  | 58 => ⟨S2, .i32⟩
  | 59 => ⟨S2, .i32⟩
  | 60 => ⟨S2, .i32⟩
  | 61 => ⟨S_, .i32⟩
  | 62 => ⟨S2, .i32⟩
  | 63 => ⟨S2, .i32⟩
  | 64 => ⟨S2, .i32⟩
  | 65 => ⟨S_, .i32⟩
  | 66 => ⟨S2, .i32⟩
  | 67 => ⟨S2, .i32⟩
  | 68 => ⟨S_, .i32⟩
  | 69 => ⟨S2, .i32⟩
  | 70 => ⟨S2, .i32⟩
  | 71 => ⟨S2, .i32⟩
  | 72 => ⟨S2, .i32⟩
  | 73 => ⟨S2, .i32⟩
  | 74 => ⟨S_, .i32⟩
  | 75 => ⟨S2, .i32⟩
  | 76 => ⟨S2, .i32⟩
  | 77 => ⟨S_, .i32⟩
  | 78 => ⟨S2, .i32⟩
  | 79 => ⟨S2, .i32⟩
  | 80 => ⟨S2, .i32⟩
  | 81 => ⟨S2, .i32⟩
  | 82 => ⟨S2, .i32⟩
  | 83 => ⟨S_, .i32⟩
  | 84 => ⟨S2, .i32⟩
  | 85 => ⟨S2, .i32⟩
  | 86 => ⟨S_, .i32⟩
  | 87 => ⟨S2, .i32⟩
  | 88 => ⟨S2, .i32⟩
  | 89 => ⟨S2, .i32⟩
  | 90 => ⟨S2, .i32⟩
  | 91 => ⟨S2, .i32⟩
  | 92 => ⟨S_, .i32⟩
  | 93 => ⟨S2, .i32⟩
  | 94 => ⟨S2, .i32⟩
  | 95 => ⟨S_, .i32⟩
  | 96 => ⟨S2, .i32⟩
  | 97 => ⟨S2, .i32⟩
  | 98 => ⟨S2, .i32⟩
  | 99 => ⟨S2, .i32⟩
  | 100 => ⟨S2, .i32⟩
  | 101 => ⟨S2, .i32⟩
  | 102 => ⟨S2, .i32⟩
  | 103 => ⟨S2, .i32⟩
  | 104 => ⟨S_, .i32⟩
  | 105 => ⟨S2, .i32⟩
  | 106 => ⟨S2, .i32⟩
  | 107 => ⟨S2, .i32⟩
  | 108 => ⟨S_, .i32⟩
  | 109 => ⟨S2, .i32⟩
  | 110 => ⟨S2, .i32⟩
  | 111 => ⟨S_, .i32⟩
  | 112 => ⟨S2, .i32⟩
  | 113 => ⟨S2, .i32⟩
  | 114 => ⟨S2, .i32⟩
  | 115 => ⟨S2, .i32⟩
  | 116 => ⟨S2, .i32⟩
  | 117 => ⟨S_, .i32⟩
  | 118 => ⟨S2, .i32⟩
  | 119 => ⟨S2, .i32⟩
  | 120 => ⟨S_, .i32⟩
  | 121 => ⟨S2, .i32⟩
  | 122 => ⟨S2, .i32⟩
  | 123 => ⟨S2, .i32⟩
  | 124 => ⟨S2, .i32⟩
  | 125 => ⟨S2, .i32⟩
  | 126 => ⟨S_, .i32⟩
  | 127 => ⟨S2, .i32⟩
  | _ => ⟨S16x8x32x32, .f32⟩

abbrev hbmTy0_2 (i : Nat) : BufTy := match i % 128 with
  | 0 => ⟨S2, .i32⟩
  | 1 => ⟨S_, .i32⟩
  | 2 => ⟨S2, .i32⟩
  | 3 => ⟨S2, .i32⟩
  | 4 => ⟨S2, .i32⟩
  | 5 => ⟨S2, .i32⟩
  | 6 => ⟨S2, .i32⟩
  | 7 => ⟨S_, .i32⟩
  | 8 => ⟨S2, .i32⟩
  | 9 => ⟨S2, .i32⟩
  | 10 => ⟨S_, .i32⟩
  | 11 => ⟨S2, .i32⟩
  | 12 => ⟨S2, .i32⟩
  | 13 => ⟨S2, .i32⟩
  | 14 => ⟨S2, .i32⟩
  | 15 => ⟨S2, .i32⟩
  | 16 => ⟨S2, .i32⟩
  | 17 => ⟨S2, .i32⟩
  | 18 => ⟨S2, .i32⟩
  | 19 => ⟨S_, .i32⟩
  | 20 => ⟨S2, .i32⟩
  | 21 => ⟨S2, .i32⟩
  | 22 => ⟨S2x1, .i32⟩
  | 23 => ⟨S2x1, .i32⟩
  | 24 => ⟨S2x2, .i32⟩
  | 25 => ⟨S1x2, .i32⟩
  | 26 => ⟨S2, .i32⟩
  | 27 => ⟨S1x2, .i32⟩
  | 28 => ⟨S2, .i32⟩
  | 29 => ⟨S_, .f32⟩
  | 30 => ⟨S1x1024, .f32⟩
  | 31 => ⟨S1x1024, .i1⟩
  | 32 => ⟨S1x1024, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | 52 => ⟨S1x1x1x1x1, .f32⟩
  | 53 => ⟨S1x1x1x1x1, .f32⟩
  | 54 => ⟨S1, .i32⟩
  | 55 => ⟨S_, .i32⟩
  | 56 => ⟨S1, .i32⟩
  | 57 => ⟨S_, .i32⟩
  | 58 => ⟨S16x1x32x32x1024, .i64⟩
  | 59 => ⟨S16x1x32x32x1024, .i64⟩
  | 60 => ⟨S16x1x32x32x1024, .i64⟩
  | 61 => ⟨S16x1x32x32x1024, .i64⟩
  | 62 => ⟨S16x1x32x32x1024, .i64⟩
  | 63 => ⟨S_, .i64⟩
  | 64 => ⟨S16x1x32x32x1024, .i64⟩
  | 65 => ⟨S16x1x32x32x1024, .i64⟩
  | 66 => ⟨S_, .i64⟩
  | 67 => ⟨S16x1x32x32x1024, .i64⟩
  | 68 => ⟨S16x1x32x32x1024, .i64⟩
  | 69 => ⟨S_, .i64⟩
  | 70 => ⟨S16x1x32x32x1024, .i64⟩
  | 71 => ⟨S16x1x32x32x1024, .i64⟩
  | 72 => ⟨S_, .i64⟩
  | 73 => ⟨S16x1x32x32x1024, .i64⟩
  | 74 => ⟨S16x1x32x32x1024, .i64⟩
  | 75 => ⟨S_, .i64⟩
  | 76 => ⟨S16x1x32x32x1024, .i64⟩
  | 77 => ⟨S16x1x32x32x1024, .i64⟩
  | 78 => ⟨S16x1x32x32x1024, .i64⟩
  | 79 => ⟨S16x1x32x32x1024, .i64⟩
  | 80 => ⟨S16x1x32x32x1024, .i64⟩
  | 81 => ⟨S16x1x32x32x1024, .i64⟩
  | 82 => ⟨S_, .i64⟩
  | 83 => ⟨S16x1x32x32x1024, .i64⟩
  | 84 => ⟨S16x1x32x32x1024, .i64⟩
  | 85 => ⟨S16x1x32x32x1024, .i32⟩
  | 86 => ⟨S16x1x32x32x1024, .i32⟩
  | 87 => ⟨S_, .i32⟩
  | 88 => ⟨S_, .i32⟩
  | 89 => ⟨S_, .i32⟩
  | 90 => ⟨S16x1x32x32x1024, .i32⟩
  | 91 => ⟨S16x1x32x32x1024, .i32⟩
  | 92 => ⟨S16x1x32x32x1024, .i32⟩
  | 93 => ⟨S16x1x32x32x1024, .i32⟩
  | 94 => ⟨S16x1x32x32x1024, .i32⟩
  | 95 => ⟨S_, .i32⟩
  | 96 => ⟨S16x1x32x32x1024, .i32⟩
  | 97 => ⟨S16x1x32x32x1024, .i32⟩
  | 98 => ⟨S_, .i32⟩
  | 99 => ⟨S16x1x32x32x1024, .i32⟩
  | 100 => ⟨S16x1x32x32x1024, .i32⟩
  | 101 => ⟨S16x1x32x32x1024, .i32⟩
  | 102 => ⟨S16x1x32x32x1024, .i32⟩
  | 103 => ⟨S16x1x32x32x1024, .i32⟩
  | 104 => ⟨S_, .i32⟩
  | 105 => ⟨S16x1x32x32x1024, .i32⟩
  | 106 => ⟨S16x1x32x32x1024, .i32⟩
  | 107 => ⟨S_, .i32⟩
  | 108 => ⟨S16x1x32x32x1024, .i32⟩
  | 109 => ⟨S16x1x32x32x1024, .i32⟩
  | 110 => ⟨S16x1x32x32x1024, .i32⟩
  | 111 => ⟨S16x1x32x32x1024, .i32⟩
  | 112 => ⟨S16x1x32x32x1024, .i32⟩
  | 113 => ⟨S_, .i32⟩
  | 114 => ⟨S16x1x32x32x1024, .i32⟩
  | 115 => ⟨S16x1x32x32x1024, .i32⟩
  | 116 => ⟨S_, .i32⟩
  | 117 => ⟨S16x1x32x32x1024, .i32⟩
  | 118 => ⟨S16x1x32x32x1024, .i32⟩
  | 119 => ⟨S16x1x32x32x1024, .i32⟩
  | 120 => ⟨S16x1x32x32x1024, .i32⟩
  | 121 => ⟨S16x1x32x32x1024, .i32⟩
  | 122 => ⟨S_, .i32⟩
  | 123 => ⟨S16x1x32x32x1024, .i32⟩
  | 124 => ⟨S16x1x32x32x1024, .i32⟩
  | 125 => ⟨S_, .i32⟩
  | 126 => ⟨S16x1x32x32x1024, .i32⟩
  | 127 => ⟨S16x1x32x32x1024, .i32⟩
  | _ => ⟨S16x8x32x32, .f32⟩

abbrev hbmTy0_3 (i : Nat) : BufTy := match i % 128 with
  | 0 => ⟨S16x1x32x32x1024, .i32⟩
  | 1 => ⟨S16x1x32x32x1024, .i32⟩
  | 2 => ⟨S16x1x32x32x1024, .i32⟩
  | 3 => ⟨S16x1x32x32x1024, .i32⟩
  | 4 => ⟨S16x1x32x32x1024, .i32⟩
  | 5 => ⟨S16x1x32x32x1024, .i32⟩
  | 6 => ⟨S_, .i32⟩
  | 7 => ⟨S16x1x32x32x1024, .i32⟩
  | 8 => ⟨S16x1x32x32x1024, .i32⟩
  | 9 => ⟨S16x1x32x32x1024, .i32⟩
  | 10 => ⟨S_, .i32⟩
  | 11 => ⟨S16x1x32x32x1024, .i32⟩
  | 12 => ⟨S16x1x32x32x1024, .i32⟩
  | 13 => ⟨S_, .i32⟩
  | 14 => ⟨S16x1x32x32x1024, .i32⟩
  | 15 => ⟨S16x1x32x32x1024, .i32⟩
  | 16 => ⟨S16x1x32x32x1024, .i32⟩
  | 17 => ⟨S16x1x32x32x1024, .i32⟩
  | 18 => ⟨S16x1x32x32x1024, .i32⟩
  | 19 => ⟨S_, .i32⟩
  | 20 => ⟨S16x1x32x32x1024, .i32⟩
  | 21 => ⟨S16x1x32x32x1024, .i32⟩
  | 22 => ⟨S_, .i32⟩
  | 23 => ⟨S16x1x32x32x1024, .i32⟩
  | 24 => ⟨S16x1x32x32x1024, .i32⟩
  | 25 => ⟨S16x1x32x32x1024, .i32⟩
  | 26 => ⟨S16x1x32x32x1024, .i32⟩
  | 27 => ⟨S16x1x32x32x1024, .i32⟩
  | 28 => ⟨S_, .i32⟩
  | 29 => ⟨S16x1x32x32x1024, .i32⟩
  | 30 => ⟨S16x1x32x32x1024, .i32⟩
  | 31 => ⟨S_, .i32⟩
  | 32 => ⟨S16x1x32x32x1024, .i32⟩
  | 33 => ⟨S16x1x32x32x1024, .i32⟩
  | 34 => ⟨S16x1x32x32x1024, .i32⟩
  | 35 => ⟨S16x1x32x32x1024, .i32⟩
  | 36 => ⟨S16x1x32x32x1024, .i32⟩
  | 37 => ⟨S_, .i32⟩
  | 38 => ⟨S16x1x32x32x1024, .i32⟩
  | 39 => ⟨S16x1x32x32x1024, .i32⟩
  | 40 => ⟨S_, .i32⟩
  | 41 => ⟨S16x1x32x32x1024, .i32⟩
  | 42 => ⟨S16x1x32x32x1024, .i32⟩
  | 43 => ⟨S16x1x32x32x1024, .i32⟩
  | 44 => ⟨S16x1x32x32x1024, .i32⟩
  | 45 => ⟨S16x1x32x32x1024, .i32⟩
  | 46 => ⟨S16x1x32x32x1024, .i32⟩
  | 47 => ⟨S16x1x32x32x1024, .i32⟩
  | 48 => ⟨S16x1x32x32x1024, .i32⟩
  | 49 => ⟨S_, .i32⟩
  | 50 => ⟨S16x1x32x32x1024, .i32⟩
  | 51 => ⟨S16x1x32x32x1024, .i32⟩
  | 52 => ⟨S16x1x32x32x1024, .i32⟩
  | 53 => ⟨S_, .i32⟩
  | 54 => ⟨S16x1x32x32x1024, .i32⟩
  | 55 => ⟨S16x1x32x32x1024, .i32⟩
  | 56 => ⟨S_, .i32⟩
  | 57 => ⟨S16x1x32x32x1024, .i32⟩
  | 58 => ⟨S16x1x32x32x1024, .i32⟩
  | 59 => ⟨S16x1x32x32x1024, .i32⟩
  | 60 => ⟨S16x1x32x32x1024, .i32⟩
  | 61 => ⟨S16x1x32x32x1024, .i32⟩
  | 62 => ⟨S_, .i32⟩
  | 63 => ⟨S16x1x32x32x1024, .i32⟩
  | 64 => ⟨S16x1x32x32x1024, .i32⟩
  | 65 => ⟨S_, .i32⟩
  | 66 => ⟨S16x1x32x32x1024, .i32⟩
  | 67 => ⟨S16x1x32x32x1024, .i32⟩
  | 68 => ⟨S16x1x32x32x1024, .i32⟩
  | 69 => ⟨S16x1x32x32x1024, .i32⟩
  | 70 => ⟨S16x1x32x32x1024, .i32⟩
  | 71 => ⟨S_, .i32⟩
  | 72 => ⟨S16x1x32x32x1024, .i32⟩
  | 73 => ⟨S16x1x32x32x1024, .i32⟩
  | 74 => ⟨S_, .i32⟩
  | 75 => ⟨S16x1x32x32x1024, .i32⟩
  | 76 => ⟨S16x1x32x32x1024, .i32⟩
  | 77 => ⟨S16x1x32x32x1024, .i32⟩
  | 78 => ⟨S16x1x32x32x1024, .i32⟩
  | 79 => ⟨S16x1x32x32x1024, .i32⟩
  | 80 => ⟨S_, .i32⟩
  | 81 => ⟨S16x1x32x32x1024, .i32⟩
  | 82 => ⟨S16x1x32x32x1024, .i32⟩
  | 83 => ⟨S_, .i32⟩
  | 84 => ⟨S16x1x32x32x1024, .i32⟩
  | 85 => ⟨S16x1x32x32x1024, .i32⟩
  | 86 => ⟨S16x1x32x32x1024, .i32⟩
  | 87 => ⟨S16x1x32x32x1024, .i32⟩
  | 88 => ⟨S16x1x32x32x1024, .i32⟩
  | 89 => ⟨S16x1x32x32x1024, .i32⟩
  | 90 => ⟨S16x1x32x32x1024, .i32⟩
  | 91 => ⟨S16x1x32x32x1024, .i32⟩
  | 92 => ⟨S_, .i32⟩
  | 93 => ⟨S16x1x32x32x1024, .i32⟩
  | 94 => ⟨S16x1x32x32x1024, .i32⟩
  | 95 => ⟨S16x1x32x32x1024, .i32⟩
  | 96 => ⟨S_, .i32⟩
  | 97 => ⟨S16x1x32x32x1024, .i32⟩
  | 98 => ⟨S16x1x32x32x1024, .i32⟩
  | 99 => ⟨S_, .i32⟩
  | 100 => ⟨S16x1x32x32x1024, .i32⟩
  | 101 => ⟨S16x1x32x32x1024, .i32⟩
  | 102 => ⟨S16x1x32x32x1024, .i32⟩
  | 103 => ⟨S16x1x32x32x1024, .i32⟩
  | 104 => ⟨S16x1x32x32x1024, .i32⟩
  | 105 => ⟨S_, .i32⟩
  | 106 => ⟨S16x1x32x32x1024, .i32⟩
  | 107 => ⟨S16x1x32x32x1024, .i32⟩
  | 108 => ⟨S_, .i32⟩
  | 109 => ⟨S16x1x32x32x1024, .i32⟩
  | 110 => ⟨S16x1x32x32x1024, .i32⟩
  | 111 => ⟨S16x1x32x32x1024, .i32⟩
  | 112 => ⟨S16x1x32x32x1024, .i32⟩
  | 113 => ⟨S16x1x32x32x1024, .i32⟩
  | 114 => ⟨S_, .i32⟩
  | 115 => ⟨S16x1x32x32x1024, .i32⟩
  | 116 => ⟨S16x1x32x32x1024, .i32⟩
  | 117 => ⟨S_, .i32⟩
  | 118 => ⟨S16x1x32x32x1024, .i32⟩
  | 119 => ⟨S16x1x32x32x1024, .i32⟩
  | 120 => ⟨S16x1x32x32x1024, .i32⟩
  | 121 => ⟨S16x1x32x32x1024, .i32⟩
  | 122 => ⟨S16x1x32x32x1024, .i32⟩
  | 123 => ⟨S_, .i32⟩
  | 124 => ⟨S16x1x32x32x1024, .i32⟩
  | 125 => ⟨S16x1x32x32x1024, .i32⟩
  | 126 => ⟨S_, .i32⟩
  | 127 => ⟨S16x1x32x32x1024, .i32⟩
  | _ => ⟨S16x8x32x32, .f32⟩

abbrev hbmTy0_4 (i : Nat) : BufTy := match i % 128 with
  | 0 => ⟨S16x1x32x32x1024, .i32⟩
  | 1 => ⟨S16x1x32x32x1024, .i32⟩
  | 2 => ⟨S16x1x32x32x1024, .i32⟩
  | 3 => ⟨S16x1x32x32x1024, .i32⟩
  | 4 => ⟨S16x1x32x32x1024, .i32⟩
  | 5 => ⟨S16x1x32x32x1024, .i32⟩
  | 6 => ⟨S16x1x32x32x1024, .i32⟩
  | 7 => ⟨S_, .i32⟩
  | 8 => ⟨S16x1x32x32x1024, .i32⟩
  | 9 => ⟨S16x1x32x32x1024, .i32⟩
  | 10 => ⟨S16x1x32x32x1024, .i32⟩
  | 11 => ⟨S_, .i32⟩
  | 12 => ⟨S16x1x32x32x1024, .i32⟩
  | 13 => ⟨S16x1x32x32x1024, .i32⟩
  | 14 => ⟨S_, .i32⟩
  | 15 => ⟨S16x1x32x32x1024, .i32⟩
  | 16 => ⟨S16x1x32x32x1024, .i32⟩
  | 17 => ⟨S16x1x32x32x1024, .i32⟩
  | 18 => ⟨S16x1x32x32x1024, .i32⟩
  | 19 => ⟨S16x1x32x32x1024, .i32⟩
  | 20 => ⟨S_, .i32⟩
  | 21 => ⟨S16x1x32x32x1024, .i32⟩
  | 22 => ⟨S16x1x32x32x1024, .i32⟩
  | 23 => ⟨S_, .i32⟩
  | 24 => ⟨S16x1x32x32x1024, .i32⟩
  | 25 => ⟨S16x1x32x32x1024, .i32⟩
  | 26 => ⟨S16x1x32x32x1024, .i32⟩
  | 27 => ⟨S16x1x32x32x1024, .i32⟩
  | 28 => ⟨S16x1x32x32x1024, .i32⟩
  | 29 => ⟨S_, .i32⟩
  | 30 => ⟨S16x1x32x32x1024, .i32⟩
  | 31 => ⟨S16x1x32x32x1024, .i32⟩
  | 32 => ⟨S_, .i32⟩
  | 33 => ⟨S16x1x32x32x1024, .i32⟩
  | 34 => ⟨S16x1x32x32x1024, .i32⟩
  | 35 => ⟨S16x1x32x32x1024, .i32⟩
  | 36 => ⟨S16x1x32x32x1024, .i32⟩
  | 37 => ⟨S16x1x32x32x1024, .i32⟩
  | 38 => ⟨S_, .i32⟩
  | 39 => ⟨S16x1x32x32x1024, .i32⟩
  | 40 => ⟨S16x1x32x32x1024, .i32⟩
  | 41 => ⟨S_, .i32⟩
  | 42 => ⟨S16x1x32x32x1024, .i32⟩
  | 43 => ⟨S16x1x32x32x1024, .i32⟩
  | 44 => ⟨S16x1x32x32x1024, .i32⟩
  | 45 => ⟨S16x1x32x32x1024, .i32⟩
  | 46 => ⟨S16x1x32x32x1024, .i32⟩
  | 47 => ⟨S16x1x32x32x1024, .i32⟩
  | 48 => ⟨S16x1x32x32x1024, .i32⟩
  | 49 => ⟨S16x1x32x32x1024, .i32⟩
  | 50 => ⟨S_, .i32⟩
  | 51 => ⟨S16x1x32x32x1024, .i32⟩
  | 52 => ⟨S16x1x32x32x1024, .i32⟩
  | 53 => ⟨S16x1x32x32x1024, .i32⟩
  | 54 => ⟨S_, .i32⟩
  | 55 => ⟨S16x1x32x32x1024, .i32⟩
  | 56 => ⟨S16x1x32x32x1024, .i32⟩
  | 57 => ⟨S_, .i32⟩
  | 58 => ⟨S16x1x32x32x1024, .i32⟩
  | 59 => ⟨S16x1x32x32x1024, .i32⟩
  | 60 => ⟨S16x1x32x32x1024, .f32⟩
  | 61 => ⟨S_, .f32⟩
  | 62 => ⟨S16x1x32x32x1024, .f32⟩
  | 63 => ⟨S16x1x32x32x1024, .f32⟩
  | 64 => ⟨S1x1x1x1x1, .f32⟩
  | 65 => ⟨S16x1x32x32x1024, .f32⟩
  | 66 => ⟨S16x1x32x32x1024, .f32⟩
  | 67 => ⟨S16x1x32x32x1024, .f32⟩
  | 68 => ⟨S16x1x32x32x1024, .f32⟩
  | 69 => ⟨S16x1x32x32x1024, .f32⟩
  | 70 => ⟨S16x1x32x32x1024, .f32⟩
  | 71 => ⟨S16x1x32x32x1024, .f32⟩
  | 72 => ⟨S16x1x32x32x1024, .f32⟩
  | 73 => ⟨S1x1x1x1024, .f32⟩
  | 74 => ⟨S1x1x1x1x1024, .f32⟩
  | 75 => ⟨S16x1x32x32x1024, .f32⟩
  | 76 => ⟨S16x1x32x32x1024, .i1⟩
  | 77 => ⟨S_, .f32⟩
  | 78 => ⟨S16x1x32x32x1024, .f32⟩
  | 79 => ⟨S16x1x32x32x1024, .f32⟩
  | 80 => ⟨S16x1x32x32x1024, .f32⟩
  | 81 => ⟨S_, .f32⟩
  | 82 => ⟨S_, .f32⟩
  | 83 => ⟨S_, .f32⟩
  | 84 => ⟨S_, .f32⟩
  | 85 => ⟨S1x1x1x1x1, .f32⟩
  | 86 => ⟨S1x1x1x1x1, .f32⟩
  | 87 => ⟨S1, .i32⟩
  | 88 => ⟨S_, .i32⟩
  | 89 => ⟨S1, .i32⟩
  | 90 => ⟨S_, .i32⟩
  | 91 => ⟨S16x1x32x32x1024, .i64⟩
  | 92 => ⟨S16x1x32x32x1024, .i64⟩
  | 93 => ⟨S16x1x32x32x1024, .i64⟩
  | 94 => ⟨S16x1x32x32x1024, .i64⟩
  | 95 => ⟨S16x1x32x32x1024, .i64⟩
  | 96 => ⟨S_, .i64⟩
  | 97 => ⟨S16x1x32x32x1024, .i64⟩
  | 98 => ⟨S16x1x32x32x1024, .i64⟩
  | 99 => ⟨S_, .i64⟩
  | 100 => ⟨S16x1x32x32x1024, .i64⟩
  | 101 => ⟨S16x1x32x32x1024, .i64⟩
  | 102 => ⟨S_, .i64⟩
  | 103 => ⟨S16x1x32x32x1024, .i64⟩
  | 104 => ⟨S16x1x32x32x1024, .i64⟩
  | 105 => ⟨S_, .i64⟩
  | 106 => ⟨S16x1x32x32x1024, .i64⟩
  | 107 => ⟨S16x1x32x32x1024, .i64⟩
  | 108 => ⟨S_, .i64⟩
  | 109 => ⟨S16x1x32x32x1024, .i64⟩
  | 110 => ⟨S16x1x32x32x1024, .i64⟩
  | 111 => ⟨S16x1x32x32x1024, .i64⟩
  | 112 => ⟨S16x1x32x32x1024, .i64⟩
  | 113 => ⟨S16x1x32x32x1024, .i64⟩
  | 114 => ⟨S16x1x32x32x1024, .i64⟩
  | 115 => ⟨S_, .i64⟩
  | 116 => ⟨S16x1x32x32x1024, .i64⟩
  | 117 => ⟨S16x1x32x32x1024, .i64⟩
  | 118 => ⟨S16x1x32x32x1024, .i32⟩
  | 119 => ⟨S16x1x32x32x1024, .i32⟩
  | 120 => ⟨S_, .i32⟩
  | 121 => ⟨S_, .i32⟩
  | 122 => ⟨S_, .i32⟩
  | 123 => ⟨S16x1x32x32x1024, .i32⟩
  | 124 => ⟨S16x1x32x32x1024, .i32⟩
  | 125 => ⟨S16x1x32x32x1024, .i32⟩
  | 126 => ⟨S16x1x32x32x1024, .i32⟩
  | 127 => ⟨S16x1x32x32x1024, .i32⟩
  | _ => ⟨S16x8x32x32, .f32⟩

abbrev hbmTy0_5 (i : Nat) : BufTy := match i % 128 with
  | 0 => ⟨S_, .i32⟩
  | 1 => ⟨S16x1x32x32x1024, .i32⟩
  | 2 => ⟨S16x1x32x32x1024, .i32⟩
  | 3 => ⟨S_, .i32⟩
  | 4 => ⟨S16x1x32x32x1024, .i32⟩
  | 5 => ⟨S16x1x32x32x1024, .i32⟩
  | 6 => ⟨S16x1x32x32x1024, .i32⟩
  | 7 => ⟨S16x1x32x32x1024, .i32⟩
  | 8 => ⟨S16x1x32x32x1024, .i32⟩
  | 9 => ⟨S_, .i32⟩
  | 10 => ⟨S16x1x32x32x1024, .i32⟩
  | 11 => ⟨S16x1x32x32x1024, .i32⟩
  | 12 => ⟨S_, .i32⟩
  | 13 => ⟨S16x1x32x32x1024, .i32⟩
  | 14 => ⟨S16x1x32x32x1024, .i32⟩
  | 15 => ⟨S16x1x32x32x1024, .i32⟩
  | 16 => ⟨S16x1x32x32x1024, .i32⟩
  | 17 => ⟨S16x1x32x32x1024, .i32⟩
  | 18 => ⟨S_, .i32⟩
  | 19 => ⟨S16x1x32x32x1024, .i32⟩
  | 20 => ⟨S16x1x32x32x1024, .i32⟩
  | 21 => ⟨S_, .i32⟩
  | 22 => ⟨S16x1x32x32x1024, .i32⟩
  | 23 => ⟨S16x1x32x32x1024, .i32⟩
  | 24 => ⟨S16x1x32x32x1024, .i32⟩
  | 25 => ⟨S16x1x32x32x1024, .i32⟩
  | 26 => ⟨S16x1x32x32x1024, .i32⟩
  | 27 => ⟨S_, .i32⟩
  | 28 => ⟨S16x1x32x32x1024, .i32⟩
  | 29 => ⟨S16x1x32x32x1024, .i32⟩
  | 30 => ⟨S_, .i32⟩
  | 31 => ⟨S16x1x32x32x1024, .i32⟩
  | 32 => ⟨S16x1x32x32x1024, .i32⟩
  | 33 => ⟨S16x1x32x32x1024, .i32⟩
  | 34 => ⟨S16x1x32x32x1024, .i32⟩
  | 35 => ⟨S16x1x32x32x1024, .i32⟩
  | 36 => ⟨S16x1x32x32x1024, .i32⟩
  | 37 => ⟨S16x1x32x32x1024, .i32⟩
  | 38 => ⟨S16x1x32x32x1024, .i32⟩
  | 39 => ⟨S_, .i32⟩
  | 40 => ⟨S16x1x32x32x1024, .i32⟩
  | 41 => ⟨S16x1x32x32x1024, .i32⟩
  | 42 => ⟨S16x1x32x32x1024, .i32⟩
  | 43 => ⟨S_, .i32⟩
  | 44 => ⟨S16x1x32x32x1024, .i32⟩
  | 45 => ⟨S16x1x32x32x1024, .i32⟩
  | 46 => ⟨S_, .i32⟩
  | 47 => ⟨S16x1x32x32x1024, .i32⟩
  | 48 => ⟨S16x1x32x32x1024, .i32⟩
  | 49 => ⟨S16x1x32x32x1024, .i32⟩
  | 50 => ⟨S16x1x32x32x1024, .i32⟩
  | 51 => ⟨S16x1x32x32x1024, .i32⟩
  | 52 => ⟨S_, .i32⟩
  | 53 => ⟨S16x1x32x32x1024, .i32⟩
  | 54 => ⟨S16x1x32x32x1024, .i32⟩
  | 55 => ⟨S_, .i32⟩
  | 56 => ⟨S16x1x32x32x1024, .i32⟩
  | 57 => ⟨S16x1x32x32x1024, .i32⟩
  | 58 => ⟨S16x1x32x32x1024, .i32⟩
  | 59 => ⟨S16x1x32x32x1024, .i32⟩
  | 60 => ⟨S16x1x32x32x1024, .i32⟩
  | 61 => ⟨S_, .i32⟩
  | 62 => ⟨S16x1x32x32x1024, .i32⟩
  | 63 => ⟨S16x1x32x32x1024, .i32⟩
  | 64 => ⟨S_, .i32⟩
  | 65 => ⟨S16x1x32x32x1024, .i32⟩
  | 66 => ⟨S16x1x32x32x1024, .i32⟩
  | 67 => ⟨S16x1x32x32x1024, .i32⟩
  | 68 => ⟨S16x1x32x32x1024, .i32⟩
  | 69 => ⟨S16x1x32x32x1024, .i32⟩
  | 70 => ⟨S_, .i32⟩
  | 71 => ⟨S16x1x32x32x1024, .i32⟩
  | 72 => ⟨S16x1x32x32x1024, .i32⟩
  | 73 => ⟨S_, .i32⟩
  | 74 => ⟨S16x1x32x32x1024, .i32⟩
  | 75 => ⟨S16x1x32x32x1024, .i32⟩
  | 76 => ⟨S16x1x32x32x1024, .i32⟩
  | 77 => ⟨S16x1x32x32x1024, .i32⟩
  | 78 => ⟨S16x1x32x32x1024, .i32⟩
  | 79 => ⟨S16x1x32x32x1024, .i32⟩
  | 80 => ⟨S16x1x32x32x1024, .i32⟩
  | 81 => ⟨S16x1x32x32x1024, .i32⟩
  | 82 => ⟨S_, .i32⟩
  | 83 => ⟨S16x1x32x32x1024, .i32⟩
  | 84 => ⟨S16x1x32x32x1024, .i32⟩
  | 85 => ⟨S16x1x32x32x1024, .i32⟩
  | 86 => ⟨S_, .i32⟩
  | 87 => ⟨S16x1x32x32x1024, .i32⟩
  | 88 => ⟨S16x1x32x32x1024, .i32⟩
  | 89 => ⟨S_, .i32⟩
  | 90 => ⟨S16x1x32x32x1024, .i32⟩
  | 91 => ⟨S16x1x32x32x1024, .i32⟩
  | 92 => ⟨S16x1x32x32x1024, .i32⟩
  | 93 => ⟨S16x1x32x32x1024, .i32⟩
  | 94 => ⟨S16x1x32x32x1024, .i32⟩
  | 95 => ⟨S_, .i32⟩
  | 96 => ⟨S16x1x32x32x1024, .i32⟩
  | 97 => ⟨S16x1x32x32x1024, .i32⟩
  | 98 => ⟨S_, .i32⟩
  | 99 => ⟨S16x1x32x32x1024, .i32⟩
  | 100 => ⟨S16x1x32x32x1024, .i32⟩
  | 101 => ⟨S16x1x32x32x1024, .i32⟩
  | 102 => ⟨S16x1x32x32x1024, .i32⟩
  | 103 => ⟨S16x1x32x32x1024, .i32⟩
  | 104 => ⟨S_, .i32⟩
  | 105 => ⟨S16x1x32x32x1024, .i32⟩
  | 106 => ⟨S16x1x32x32x1024, .i32⟩
  | 107 => ⟨S_, .i32⟩
  | 108 => ⟨S16x1x32x32x1024, .i32⟩
  | 109 => ⟨S16x1x32x32x1024, .i32⟩
  | 110 => ⟨S16x1x32x32x1024, .i32⟩
  | 111 => ⟨S16x1x32x32x1024, .i32⟩
  | 112 => ⟨S16x1x32x32x1024, .i32⟩
  | 113 => ⟨S_, .i32⟩
  | 114 => ⟨S16x1x32x32x1024, .i32⟩
  | 115 => ⟨S16x1x32x32x1024, .i32⟩
  | 116 => ⟨S_, .i32⟩
  | 117 => ⟨S16x1x32x32x1024, .i32⟩
  | 118 => ⟨S16x1x32x32x1024, .i32⟩
  | 119 => ⟨S16x1x32x32x1024, .i32⟩
  | 120 => ⟨S16x1x32x32x1024, .i32⟩
  | 121 => ⟨S16x1x32x32x1024, .i32⟩
  | 122 => ⟨S16x1x32x32x1024, .i32⟩
  | 123 => ⟨S16x1x32x32x1024, .i32⟩
  | 124 => ⟨S16x1x32x32x1024, .i32⟩
  | 125 => ⟨S_, .i32⟩
  | 126 => ⟨S16x1x32x32x1024, .i32⟩
  | 127 => ⟨S16x1x32x32x1024, .i32⟩
  | _ => ⟨S16x8x32x32, .f32⟩

abbrev hbmTy0_6 (i : Nat) : BufTy := match i % 128 with
  | 0 => ⟨S16x1x32x32x1024, .i32⟩
  | 1 => ⟨S_, .i32⟩
  | 2 => ⟨S16x1x32x32x1024, .i32⟩
  | 3 => ⟨S16x1x32x32x1024, .i32⟩
  | 4 => ⟨S_, .i32⟩
  | 5 => ⟨S16x1x32x32x1024, .i32⟩
  | 6 => ⟨S16x1x32x32x1024, .i32⟩
  | 7 => ⟨S16x1x32x32x1024, .i32⟩
  | 8 => ⟨S16x1x32x32x1024, .i32⟩
  | 9 => ⟨S16x1x32x32x1024, .i32⟩
  | 10 => ⟨S_, .i32⟩
  | 11 => ⟨S16x1x32x32x1024, .i32⟩
  | 12 => ⟨S16x1x32x32x1024, .i32⟩
  | 13 => ⟨S_, .i32⟩
  | 14 => ⟨S16x1x32x32x1024, .i32⟩
  | 15 => ⟨S16x1x32x32x1024, .i32⟩
  | 16 => ⟨S16x1x32x32x1024, .i32⟩
  | 17 => ⟨S16x1x32x32x1024, .i32⟩
  | 18 => ⟨S16x1x32x32x1024, .i32⟩
  | 19 => ⟨S_, .i32⟩
  | 20 => ⟨S16x1x32x32x1024, .i32⟩
  | 21 => ⟨S16x1x32x32x1024, .i32⟩
  | 22 => ⟨S_, .i32⟩
  | 23 => ⟨S16x1x32x32x1024, .i32⟩
  | 24 => ⟨S16x1x32x32x1024, .i32⟩
  | 25 => ⟨S16x1x32x32x1024, .i32⟩
  | 26 => ⟨S16x1x32x32x1024, .i32⟩
  | 27 => ⟨S16x1x32x32x1024, .i32⟩
  | 28 => ⟨S_, .i32⟩
  | 29 => ⟨S16x1x32x32x1024, .i32⟩
  | 30 => ⟨S16x1x32x32x1024, .i32⟩
  | 31 => ⟨S_, .i32⟩
  | 32 => ⟨S16x1x32x32x1024, .i32⟩
  | 33 => ⟨S16x1x32x32x1024, .i32⟩
  | 34 => ⟨S16x1x32x32x1024, .i32⟩
  | 35 => ⟨S16x1x32x32x1024, .i32⟩
  | 36 => ⟨S16x1x32x32x1024, .i32⟩
  | 37 => ⟨S16x1x32x32x1024, .i32⟩
  | 38 => ⟨S16x1x32x32x1024, .i32⟩
  | 39 => ⟨S16x1x32x32x1024, .i32⟩
  | 40 => ⟨S_, .i32⟩
  | 41 => ⟨S16x1x32x32x1024, .i32⟩
  | 42 => ⟨S16x1x32x32x1024, .i32⟩
  | 43 => ⟨S16x1x32x32x1024, .i32⟩
  | 44 => ⟨S_, .i32⟩
  | 45 => ⟨S16x1x32x32x1024, .i32⟩
  | 46 => ⟨S16x1x32x32x1024, .i32⟩
  | 47 => ⟨S_, .i32⟩
  | 48 => ⟨S16x1x32x32x1024, .i32⟩
  | 49 => ⟨S16x1x32x32x1024, .i32⟩
  | 50 => ⟨S16x1x32x32x1024, .i32⟩
  | 51 => ⟨S16x1x32x32x1024, .i32⟩
  | 52 => ⟨S16x1x32x32x1024, .i32⟩
  | 53 => ⟨S_, .i32⟩
  | 54 => ⟨S16x1x32x32x1024, .i32⟩
  | 55 => ⟨S16x1x32x32x1024, .i32⟩
  | 56 => ⟨S_, .i32⟩
  | 57 => ⟨S16x1x32x32x1024, .i32⟩
  | 58 => ⟨S16x1x32x32x1024, .i32⟩
  | 59 => ⟨S16x1x32x32x1024, .i32⟩
  | 60 => ⟨S16x1x32x32x1024, .i32⟩
  | 61 => ⟨S16x1x32x32x1024, .i32⟩
  | 62 => ⟨S_, .i32⟩
  | 63 => ⟨S16x1x32x32x1024, .i32⟩
  | 64 => ⟨S16x1x32x32x1024, .i32⟩
  | 65 => ⟨S_, .i32⟩
  | 66 => ⟨S16x1x32x32x1024, .i32⟩
  | 67 => ⟨S16x1x32x32x1024, .i32⟩
  | 68 => ⟨S16x1x32x32x1024, .i32⟩
  | 69 => ⟨S16x1x32x32x1024, .i32⟩
  | 70 => ⟨S16x1x32x32x1024, .i32⟩
  | 71 => ⟨S_, .i32⟩
  | 72 => ⟨S16x1x32x32x1024, .i32⟩
  | 73 => ⟨S16x1x32x32x1024, .i32⟩
  | 74 => ⟨S_, .i32⟩
  | 75 => ⟨S16x1x32x32x1024, .i32⟩
  | 76 => ⟨S16x1x32x32x1024, .i32⟩
  | 77 => ⟨S16x1x32x32x1024, .i32⟩
  | 78 => ⟨S16x1x32x32x1024, .i32⟩
  | 79 => ⟨S16x1x32x32x1024, .i32⟩
  | 80 => ⟨S16x1x32x32x1024, .i32⟩
  | 81 => ⟨S16x1x32x32x1024, .i32⟩
  | 82 => ⟨S16x1x32x32x1024, .i32⟩
  | 83 => ⟨S_, .i32⟩
  | 84 => ⟨S16x1x32x32x1024, .i32⟩
  | 85 => ⟨S16x1x32x32x1024, .i32⟩
  | 86 => ⟨S16x1x32x32x1024, .i32⟩
  | 87 => ⟨S_, .i32⟩
  | 88 => ⟨S16x1x32x32x1024, .i32⟩
  | 89 => ⟨S16x1x32x32x1024, .i32⟩
  | 90 => ⟨S_, .i32⟩
  | 91 => ⟨S16x1x32x32x1024, .i32⟩
  | 92 => ⟨S16x1x32x32x1024, .i32⟩
  | 93 => ⟨S16x1x32x32x1024, .f32⟩
  | 94 => ⟨S_, .f32⟩
  | 95 => ⟨S16x1x32x32x1024, .f32⟩
  | 96 => ⟨S16x1x32x32x1024, .f32⟩
  | 97 => ⟨S1x1x1x1x1, .f32⟩
  | 98 => ⟨S16x1x32x32x1024, .f32⟩
  | 99 => ⟨S16x1x32x32x1024, .f32⟩
  | 100 => ⟨S16x1x32x32x1024, .f32⟩
  | 101 => ⟨S16x1x32x32x1024, .f32⟩
  | 102 => ⟨S16x1x32x32x1024, .f32⟩
  | 103 => ⟨S16x1x32x32x1024, .f32⟩
  | 104 => ⟨S_, .f32⟩
  | 105 => ⟨S16x1x32x32x1024, .f32⟩
  | 106 => ⟨S16x1x32x32x1024, .f32⟩
  | 107 => ⟨S16x1x32x32x1024, .f32⟩
  | 108 => ⟨S16x1x32x32x1024, .f32⟩
  | 109 => ⟨S16x1x32x32x1024, .f32⟩
  | 110 => ⟨S16x1x32x32x1024, .f32⟩
  | 111 => ⟨S16x1x32x32x1024, .f32⟩
  | 112 => ⟨S_, .f32⟩
  | 113 => ⟨S16x1x32x32x1024, .f32⟩
  | 114 => ⟨S16x1x32x32x1024, .f32⟩
  | 115 => ⟨S_, .f32⟩
  | 116 => ⟨S16x1x32x32, .f32⟩
  | 117 => ⟨S_, .f32⟩
  | 118 => ⟨S16x1x32x32, .f32⟩
  | 119 => ⟨S16x1x32x32, .f32⟩
  | 120 => ⟨S16x1x32x32x1, .f32⟩
  | 121 => ⟨S16x1x32x32x1024, .f32⟩
  | 122 => ⟨S16x1x32x32x1024, .f32⟩
  | 123 => ⟨S16x1x32x32x1024, .f32⟩
  | 124 => ⟨S_, .f32⟩
  | 125 => ⟨S16x1x32x32, .f32⟩
  | 126 => ⟨S16x1x32x32x1, .f32⟩
  | 127 => ⟨S16x1x32x32x1024, .f32⟩
  | _ => ⟨S16x8x32x32, .f32⟩

abbrev hbmTy0_7 (i : Nat) : BufTy := match i % 128 with
  | 0 => ⟨S16x1x32x32x1024, .f32⟩
  | 1 => ⟨S16x1x32x32x1024, .i32⟩
  | 2 => ⟨S_, .f32⟩
  | 3 => ⟨S_, .i32⟩
  | 4 => ⟨S16x1x32x32, .f32⟩
  | 5 => ⟨S16x1x32x32, .i32⟩
  | 6 => ⟨S16x1x32x32x1, .i32⟩
  | 7 => ⟨S1x1x1x1x1024, .i32⟩
  | 8 => ⟨S16x1x32x32x1024, .i32⟩
  | 9 => ⟨S16x1x32x32x1024, .i32⟩
  | 10 => ⟨S16x1x32x32x1024, .i1⟩
  | 11 => ⟨S16x1x32x32x1024, .f32⟩
  | 12 => ⟨S16x1x32x32x1024, .f32⟩
  | 13 => ⟨S16x1x32x32x1024, .f32⟩
  | 14 => ⟨S16x1x32x32x1024, .i32⟩
  | 15 => ⟨S_, .f32⟩
  | 16 => ⟨S_, .i32⟩
  | 17 => ⟨S16x1x32x32, .f32⟩
  | 18 => ⟨S16x1x32x32, .i32⟩
  | 19 => ⟨S1x8x16x32x32, .f32⟩
  | 20 => ⟨S16x1x32x32x8, .f32⟩
  | 21 => ⟨S16x1x8x32x32, .f32⟩
  | 22 => ⟨S16x8x32x32, .f32⟩
  | _ => ⟨S16x8x32x32, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | _ => ⟨S16x8x32x32, .f32⟩

abbrev bufTy : (tb : Table) → Fin (tcTables nBuf tb) → BufTy
  | .hbm, ⟨i, _⟩ => hbmTy i
  | _, _ => ⟨S16x8x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_c : Ref sig .tc := ⟨.hbm, 33, rfl⟩
abbrev main_c_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_call0_v0 : Ref sig .tc := ⟨.hbm, 43, rfl⟩
abbrev main_call0_v1 : Ref sig .tc := ⟨.hbm, 44, rfl⟩
abbrev main_call0_v2 : Ref sig .tc := ⟨.hbm, 45, rfl⟩
abbrev main_call0_v3 : Ref sig .tc := ⟨.hbm, 46, rfl⟩
abbrev main_call0_v4 : Ref sig .tc := ⟨.hbm, 47, rfl⟩
abbrev main_call0_c : Ref sig .tc := ⟨.hbm, 48, rfl⟩
abbrev main_call0_v5 : Ref sig .tc := ⟨.hbm, 49, rfl⟩
abbrev main_call0_v6 : Ref sig .tc := ⟨.hbm, 50, rfl⟩
abbrev main_call0_c_0 : Ref sig .tc := ⟨.hbm, 51, rfl⟩
abbrev main_call0_v7 : Ref sig .tc := ⟨.hbm, 52, rfl⟩
abbrev main_call0_v8 : Ref sig .tc := ⟨.hbm, 53, rfl⟩
abbrev main_call0_v9 : Ref sig .tc := ⟨.hbm, 54, rfl⟩
abbrev main_call0_v10 : Ref sig .tc := ⟨.hbm, 55, rfl⟩
abbrev main_call0_call0_v0 : Ref sig .tc := ⟨.hbm, 56, rfl⟩
abbrev main_call0_call0_c : Ref sig .tc := ⟨.hbm, 57, rfl⟩
abbrev main_call0_call0_v1 : Ref sig .tc := ⟨.hbm, 58, rfl⟩
abbrev main_call0_call0_v2 : Ref sig .tc := ⟨.hbm, 59, rfl⟩
abbrev main_call0_call0_v3 : Ref sig .tc := ⟨.hbm, 60, rfl⟩
abbrev main_call0_call0_v4 : Ref sig .tc := ⟨.hbm, 61, rfl⟩
abbrev main_call0_call0_v5 : Ref sig .tc := ⟨.hbm, 62, rfl⟩
abbrev main_call0_call0_v6 : Ref sig .tc := ⟨.hbm, 63, rfl⟩
abbrev main_call0_call0_c_0 : Ref sig .tc := ⟨.hbm, 64, rfl⟩
abbrev main_call0_call0_v7 : Ref sig .tc := ⟨.hbm, 65, rfl⟩
abbrev main_call0_call0_v8 : Ref sig .tc := ⟨.hbm, 66, rfl⟩
abbrev main_call0_call0_c_1 : Ref sig .tc := ⟨.hbm, 67, rfl⟩
abbrev main_call0_call0_v9 : Ref sig .tc := ⟨.hbm, 68, rfl⟩
abbrev main_call0_call0_v10 : Ref sig .tc := ⟨.hbm, 69, rfl⟩
abbrev main_call0_call0_v11 : Ref sig .tc := ⟨.hbm, 70, rfl⟩
abbrev main_call0_call0_v12 : Ref sig .tc := ⟨.hbm, 71, rfl⟩
abbrev main_call0_call0_v13 : Ref sig .tc := ⟨.hbm, 72, rfl⟩
abbrev main_call0_call0_c_2 : Ref sig .tc := ⟨.hbm, 73, rfl⟩
abbrev main_call0_call0_v14 : Ref sig .tc := ⟨.hbm, 74, rfl⟩
abbrev main_call0_call0_v15 : Ref sig .tc := ⟨.hbm, 75, rfl⟩
abbrev main_call0_call0_c_3 : Ref sig .tc := ⟨.hbm, 76, rfl⟩
abbrev main_call0_call0_v16 : Ref sig .tc := ⟨.hbm, 77, rfl⟩
abbrev main_call0_call0_v17 : Ref sig .tc := ⟨.hbm, 78, rfl⟩
abbrev main_call0_call0_v18 : Ref sig .tc := ⟨.hbm, 79, rfl⟩
abbrev main_call0_call0_v19 : Ref sig .tc := ⟨.hbm, 80, rfl⟩
abbrev main_call0_call0_v20 : Ref sig .tc := ⟨.hbm, 81, rfl⟩
abbrev main_call0_call0_c_4 : Ref sig .tc := ⟨.hbm, 82, rfl⟩
abbrev main_call0_call0_v21 : Ref sig .tc := ⟨.hbm, 83, rfl⟩
abbrev main_call0_call0_v22 : Ref sig .tc := ⟨.hbm, 84, rfl⟩
abbrev main_call0_call0_c_5 : Ref sig .tc := ⟨.hbm, 85, rfl⟩
abbrev main_call0_call0_v23 : Ref sig .tc := ⟨.hbm, 86, rfl⟩
abbrev main_call0_call0_v24 : Ref sig .tc := ⟨.hbm, 87, rfl⟩
abbrev main_call0_call0_v25 : Ref sig .tc := ⟨.hbm, 88, rfl⟩
abbrev main_call0_call0_v26 : Ref sig .tc := ⟨.hbm, 89, rfl⟩
abbrev main_call0_call0_v27 : Ref sig .tc := ⟨.hbm, 90, rfl⟩
abbrev main_call0_call0_c_6 : Ref sig .tc := ⟨.hbm, 91, rfl⟩
abbrev main_call0_call0_v28 : Ref sig .tc := ⟨.hbm, 92, rfl⟩
abbrev main_call0_call0_v29 : Ref sig .tc := ⟨.hbm, 93, rfl⟩
abbrev main_call0_call0_c_7 : Ref sig .tc := ⟨.hbm, 94, rfl⟩
abbrev main_call0_call0_v30 : Ref sig .tc := ⟨.hbm, 95, rfl⟩
abbrev main_call0_call0_v31 : Ref sig .tc := ⟨.hbm, 96, rfl⟩
abbrev main_call0_call0_v32 : Ref sig .tc := ⟨.hbm, 97, rfl⟩
abbrev main_call0_call0_v33 : Ref sig .tc := ⟨.hbm, 98, rfl⟩
abbrev main_call0_call0_v34 : Ref sig .tc := ⟨.hbm, 99, rfl⟩
abbrev main_call0_call0_v35 : Ref sig .tc := ⟨.hbm, 100, rfl⟩
abbrev main_call0_call0_v36 : Ref sig .tc := ⟨.hbm, 101, rfl⟩
abbrev main_call0_call0_v37 : Ref sig .tc := ⟨.hbm, 102, rfl⟩
abbrev main_call0_call0_c_8 : Ref sig .tc := ⟨.hbm, 103, rfl⟩
abbrev main_call0_call0_v38 : Ref sig .tc := ⟨.hbm, 104, rfl⟩
abbrev main_call0_call0_v39 : Ref sig .tc := ⟨.hbm, 105, rfl⟩
abbrev main_call0_call0_v40 : Ref sig .tc := ⟨.hbm, 106, rfl⟩
abbrev main_call0_call0_c_9 : Ref sig .tc := ⟨.hbm, 107, rfl⟩
abbrev main_call0_call0_v41 : Ref sig .tc := ⟨.hbm, 108, rfl⟩
abbrev main_call0_call0_v42 : Ref sig .tc := ⟨.hbm, 109, rfl⟩
abbrev main_call0_call0_c_10 : Ref sig .tc := ⟨.hbm, 110, rfl⟩
abbrev main_call0_call0_v43 : Ref sig .tc := ⟨.hbm, 111, rfl⟩
abbrev main_call0_call0_v44 : Ref sig .tc := ⟨.hbm, 112, rfl⟩
abbrev main_call0_call0_v45 : Ref sig .tc := ⟨.hbm, 113, rfl⟩
abbrev main_call0_call0_v46 : Ref sig .tc := ⟨.hbm, 114, rfl⟩
abbrev main_call0_call0_v47 : Ref sig .tc := ⟨.hbm, 115, rfl⟩
abbrev main_call0_call0_c_11 : Ref sig .tc := ⟨.hbm, 116, rfl⟩
abbrev main_call0_call0_v48 : Ref sig .tc := ⟨.hbm, 117, rfl⟩
abbrev main_call0_call0_v49 : Ref sig .tc := ⟨.hbm, 118, rfl⟩
abbrev main_call0_call0_c_12 : Ref sig .tc := ⟨.hbm, 119, rfl⟩
abbrev main_call0_call0_v50 : Ref sig .tc := ⟨.hbm, 120, rfl⟩
abbrev main_call0_call0_v51 : Ref sig .tc := ⟨.hbm, 121, rfl⟩
abbrev main_call0_call0_v52 : Ref sig .tc := ⟨.hbm, 122, rfl⟩
abbrev main_call0_call0_v53 : Ref sig .tc := ⟨.hbm, 123, rfl⟩
abbrev main_call0_call0_v54 : Ref sig .tc := ⟨.hbm, 124, rfl⟩
abbrev main_call0_call0_c_13 : Ref sig .tc := ⟨.hbm, 125, rfl⟩
abbrev main_call0_call0_v55 : Ref sig .tc := ⟨.hbm, 126, rfl⟩
abbrev main_call0_call0_v56 : Ref sig .tc := ⟨.hbm, 127, rfl⟩
abbrev main_call0_call0_c_14 : Ref sig .tc := ⟨.hbm, 128, rfl⟩
abbrev main_call0_call0_v57 : Ref sig .tc := ⟨.hbm, 129, rfl⟩
abbrev main_call0_call0_v58 : Ref sig .tc := ⟨.hbm, 130, rfl⟩
abbrev main_call0_call0_v59 : Ref sig .tc := ⟨.hbm, 131, rfl⟩
abbrev main_call0_call0_v60 : Ref sig .tc := ⟨.hbm, 132, rfl⟩
abbrev main_call0_call0_v61 : Ref sig .tc := ⟨.hbm, 133, rfl⟩
abbrev main_call0_call0_c_15 : Ref sig .tc := ⟨.hbm, 134, rfl⟩
abbrev main_call0_call0_v62 : Ref sig .tc := ⟨.hbm, 135, rfl⟩
abbrev main_call0_call0_v63 : Ref sig .tc := ⟨.hbm, 136, rfl⟩
abbrev main_call0_call0_c_16 : Ref sig .tc := ⟨.hbm, 137, rfl⟩
abbrev main_call0_call0_v64 : Ref sig .tc := ⟨.hbm, 138, rfl⟩
abbrev main_call0_call0_v65 : Ref sig .tc := ⟨.hbm, 139, rfl⟩
abbrev main_call0_call0_v66 : Ref sig .tc := ⟨.hbm, 140, rfl⟩
abbrev main_call0_call0_v67 : Ref sig .tc := ⟨.hbm, 141, rfl⟩
abbrev main_call0_call0_v68 : Ref sig .tc := ⟨.hbm, 142, rfl⟩
abbrev main_call0_call0_v69 : Ref sig .tc := ⟨.hbm, 143, rfl⟩
abbrev main_call0_call0_v70 : Ref sig .tc := ⟨.hbm, 144, rfl⟩
abbrev main_call0_call0_v71 : Ref sig .tc := ⟨.hbm, 145, rfl⟩
abbrev main_call0_call0_c_17 : Ref sig .tc := ⟨.hbm, 146, rfl⟩
abbrev main_call0_call0_v72 : Ref sig .tc := ⟨.hbm, 147, rfl⟩
abbrev main_call0_call0_v73 : Ref sig .tc := ⟨.hbm, 148, rfl⟩
abbrev main_call0_call0_v74 : Ref sig .tc := ⟨.hbm, 149, rfl⟩
abbrev main_call0_call0_c_18 : Ref sig .tc := ⟨.hbm, 150, rfl⟩
abbrev main_call0_call0_v75 : Ref sig .tc := ⟨.hbm, 151, rfl⟩
abbrev main_call0_call0_v76 : Ref sig .tc := ⟨.hbm, 152, rfl⟩
abbrev main_call0_call0_c_19 : Ref sig .tc := ⟨.hbm, 153, rfl⟩
abbrev main_call0_call0_v77 : Ref sig .tc := ⟨.hbm, 154, rfl⟩
abbrev main_call0_call0_v78 : Ref sig .tc := ⟨.hbm, 155, rfl⟩
abbrev main_call0_call0_v79 : Ref sig .tc := ⟨.hbm, 156, rfl⟩
abbrev main_call0_call0_v80 : Ref sig .tc := ⟨.hbm, 157, rfl⟩
abbrev main_call0_call0_v81 : Ref sig .tc := ⟨.hbm, 158, rfl⟩
abbrev main_call0_call0_c_20 : Ref sig .tc := ⟨.hbm, 159, rfl⟩
abbrev main_call0_call0_v82 : Ref sig .tc := ⟨.hbm, 160, rfl⟩
abbrev main_call0_call0_v83 : Ref sig .tc := ⟨.hbm, 161, rfl⟩
abbrev main_call0_call0_c_21 : Ref sig .tc := ⟨.hbm, 162, rfl⟩
abbrev main_call0_call0_v84 : Ref sig .tc := ⟨.hbm, 163, rfl⟩
abbrev main_call0_call0_v85 : Ref sig .tc := ⟨.hbm, 164, rfl⟩
abbrev main_call0_call0_v86 : Ref sig .tc := ⟨.hbm, 165, rfl⟩
abbrev main_call0_call0_v87 : Ref sig .tc := ⟨.hbm, 166, rfl⟩
abbrev main_call0_call0_v88 : Ref sig .tc := ⟨.hbm, 167, rfl⟩
abbrev main_call0_call0_c_22 : Ref sig .tc := ⟨.hbm, 168, rfl⟩
abbrev main_call0_call0_v89 : Ref sig .tc := ⟨.hbm, 169, rfl⟩
abbrev main_call0_call0_v90 : Ref sig .tc := ⟨.hbm, 170, rfl⟩
abbrev main_call0_call0_c_23 : Ref sig .tc := ⟨.hbm, 171, rfl⟩
abbrev main_call0_call0_v91 : Ref sig .tc := ⟨.hbm, 172, rfl⟩
abbrev main_call0_call0_v92 : Ref sig .tc := ⟨.hbm, 173, rfl⟩
abbrev main_call0_call0_v93 : Ref sig .tc := ⟨.hbm, 174, rfl⟩
abbrev main_call0_call0_v94 : Ref sig .tc := ⟨.hbm, 175, rfl⟩
abbrev main_call0_call0_v95 : Ref sig .tc := ⟨.hbm, 176, rfl⟩
abbrev main_call0_call0_c_24 : Ref sig .tc := ⟨.hbm, 177, rfl⟩
abbrev main_call0_call0_v96 : Ref sig .tc := ⟨.hbm, 178, rfl⟩
abbrev main_call0_call0_v97 : Ref sig .tc := ⟨.hbm, 179, rfl⟩
abbrev main_call0_call0_c_25 : Ref sig .tc := ⟨.hbm, 180, rfl⟩
abbrev main_call0_call0_v98 : Ref sig .tc := ⟨.hbm, 181, rfl⟩
abbrev main_call0_call0_v99 : Ref sig .tc := ⟨.hbm, 182, rfl⟩
abbrev main_call0_call0_v100 : Ref sig .tc := ⟨.hbm, 183, rfl⟩
abbrev main_call0_call0_v101 : Ref sig .tc := ⟨.hbm, 184, rfl⟩
abbrev main_call0_call0_v102 : Ref sig .tc := ⟨.hbm, 185, rfl⟩
abbrev main_call0_call0_v103 : Ref sig .tc := ⟨.hbm, 186, rfl⟩
abbrev main_call0_call0_v104 : Ref sig .tc := ⟨.hbm, 187, rfl⟩
abbrev main_call0_call0_v105 : Ref sig .tc := ⟨.hbm, 188, rfl⟩
abbrev main_call0_call0_c_26 : Ref sig .tc := ⟨.hbm, 189, rfl⟩
abbrev main_call0_call0_v106 : Ref sig .tc := ⟨.hbm, 190, rfl⟩
abbrev main_call0_call0_v107 : Ref sig .tc := ⟨.hbm, 191, rfl⟩
abbrev main_call0_call0_v108 : Ref sig .tc := ⟨.hbm, 192, rfl⟩
abbrev main_call0_call0_c_27 : Ref sig .tc := ⟨.hbm, 193, rfl⟩
abbrev main_call0_call0_v109 : Ref sig .tc := ⟨.hbm, 194, rfl⟩
abbrev main_call0_call0_v110 : Ref sig .tc := ⟨.hbm, 195, rfl⟩
abbrev main_call0_call0_c_28 : Ref sig .tc := ⟨.hbm, 196, rfl⟩
abbrev main_call0_call0_v111 : Ref sig .tc := ⟨.hbm, 197, rfl⟩
abbrev main_call0_call0_v112 : Ref sig .tc := ⟨.hbm, 198, rfl⟩
abbrev main_call0_call0_v113 : Ref sig .tc := ⟨.hbm, 199, rfl⟩
abbrev main_call0_call0_v114 : Ref sig .tc := ⟨.hbm, 200, rfl⟩
abbrev main_call0_call0_v115 : Ref sig .tc := ⟨.hbm, 201, rfl⟩
abbrev main_call0_call0_c_29 : Ref sig .tc := ⟨.hbm, 202, rfl⟩
abbrev main_call0_call0_v116 : Ref sig .tc := ⟨.hbm, 203, rfl⟩
abbrev main_call0_call0_v117 : Ref sig .tc := ⟨.hbm, 204, rfl⟩
abbrev main_call0_call0_c_30 : Ref sig .tc := ⟨.hbm, 205, rfl⟩
abbrev main_call0_call0_v118 : Ref sig .tc := ⟨.hbm, 206, rfl⟩
abbrev main_call0_call0_v119 : Ref sig .tc := ⟨.hbm, 207, rfl⟩
abbrev main_call0_call0_v120 : Ref sig .tc := ⟨.hbm, 208, rfl⟩
abbrev main_call0_call0_v121 : Ref sig .tc := ⟨.hbm, 209, rfl⟩
abbrev main_call0_call0_v122 : Ref sig .tc := ⟨.hbm, 210, rfl⟩
abbrev main_call0_call0_c_31 : Ref sig .tc := ⟨.hbm, 211, rfl⟩
abbrev main_call0_call0_v123 : Ref sig .tc := ⟨.hbm, 212, rfl⟩
abbrev main_call0_call0_v124 : Ref sig .tc := ⟨.hbm, 213, rfl⟩
abbrev main_call0_call0_c_32 : Ref sig .tc := ⟨.hbm, 214, rfl⟩
abbrev main_call0_call0_v125 : Ref sig .tc := ⟨.hbm, 215, rfl⟩
abbrev main_call0_call0_v126 : Ref sig .tc := ⟨.hbm, 216, rfl⟩
abbrev main_call0_call0_v127 : Ref sig .tc := ⟨.hbm, 217, rfl⟩
abbrev main_call0_call0_v128 : Ref sig .tc := ⟨.hbm, 218, rfl⟩
abbrev main_call0_call0_v129 : Ref sig .tc := ⟨.hbm, 219, rfl⟩
abbrev main_call0_call0_c_33 : Ref sig .tc := ⟨.hbm, 220, rfl⟩
abbrev main_call0_call0_v130 : Ref sig .tc := ⟨.hbm, 221, rfl⟩
abbrev main_call0_call0_v131 : Ref sig .tc := ⟨.hbm, 222, rfl⟩
abbrev main_call0_call0_c_34 : Ref sig .tc := ⟨.hbm, 223, rfl⟩
abbrev main_call0_call0_v132 : Ref sig .tc := ⟨.hbm, 224, rfl⟩
abbrev main_call0_call0_v133 : Ref sig .tc := ⟨.hbm, 225, rfl⟩
abbrev main_call0_call0_v134 : Ref sig .tc := ⟨.hbm, 226, rfl⟩
abbrev main_call0_call0_v135 : Ref sig .tc := ⟨.hbm, 227, rfl⟩
abbrev main_call0_call0_v136 : Ref sig .tc := ⟨.hbm, 228, rfl⟩
abbrev main_call0_call0_v137 : Ref sig .tc := ⟨.hbm, 229, rfl⟩
abbrev main_call0_call0_v138 : Ref sig .tc := ⟨.hbm, 230, rfl⟩
abbrev main_call0_call0_v139 : Ref sig .tc := ⟨.hbm, 231, rfl⟩
abbrev main_call0_call0_c_35 : Ref sig .tc := ⟨.hbm, 232, rfl⟩
abbrev main_call0_call0_v140 : Ref sig .tc := ⟨.hbm, 233, rfl⟩
abbrev main_call0_call0_v141 : Ref sig .tc := ⟨.hbm, 234, rfl⟩
abbrev main_call0_call0_v142 : Ref sig .tc := ⟨.hbm, 235, rfl⟩
abbrev main_call0_call0_c_36 : Ref sig .tc := ⟨.hbm, 236, rfl⟩
abbrev main_call0_call0_v143 : Ref sig .tc := ⟨.hbm, 237, rfl⟩
abbrev main_call0_call0_v144 : Ref sig .tc := ⟨.hbm, 238, rfl⟩
abbrev main_call0_call0_c_37 : Ref sig .tc := ⟨.hbm, 239, rfl⟩
abbrev main_call0_call0_v145 : Ref sig .tc := ⟨.hbm, 240, rfl⟩
abbrev main_call0_call0_v146 : Ref sig .tc := ⟨.hbm, 241, rfl⟩
abbrev main_call0_call0_v147 : Ref sig .tc := ⟨.hbm, 242, rfl⟩
abbrev main_call0_call0_v148 : Ref sig .tc := ⟨.hbm, 243, rfl⟩
abbrev main_call0_call0_v149 : Ref sig .tc := ⟨.hbm, 244, rfl⟩
abbrev main_call0_call0_c_38 : Ref sig .tc := ⟨.hbm, 245, rfl⟩
abbrev main_call0_call0_v150 : Ref sig .tc := ⟨.hbm, 246, rfl⟩
abbrev main_call0_call0_v151 : Ref sig .tc := ⟨.hbm, 247, rfl⟩
abbrev main_call0_call0_c_39 : Ref sig .tc := ⟨.hbm, 248, rfl⟩
abbrev main_call0_call0_v152 : Ref sig .tc := ⟨.hbm, 249, rfl⟩
abbrev main_call0_call0_v153 : Ref sig .tc := ⟨.hbm, 250, rfl⟩
abbrev main_call0_call0_v154 : Ref sig .tc := ⟨.hbm, 251, rfl⟩
abbrev main_call0_call0_v155 : Ref sig .tc := ⟨.hbm, 252, rfl⟩
abbrev main_call0_call0_v156 : Ref sig .tc := ⟨.hbm, 253, rfl⟩
abbrev main_call0_call0_c_40 : Ref sig .tc := ⟨.hbm, 254, rfl⟩
abbrev main_call0_call0_v157 : Ref sig .tc := ⟨.hbm, 255, rfl⟩
abbrev main_call0_call0_v158 : Ref sig .tc := ⟨.hbm, 256, rfl⟩
abbrev main_call0_call0_c_41 : Ref sig .tc := ⟨.hbm, 257, rfl⟩
abbrev main_call0_call0_v159 : Ref sig .tc := ⟨.hbm, 258, rfl⟩
abbrev main_call0_call0_v160 : Ref sig .tc := ⟨.hbm, 259, rfl⟩
abbrev main_call0_call0_v161 : Ref sig .tc := ⟨.hbm, 260, rfl⟩
abbrev main_call0_call0_v162 : Ref sig .tc := ⟨.hbm, 261, rfl⟩
abbrev main_call0_call0_v163 : Ref sig .tc := ⟨.hbm, 262, rfl⟩
abbrev main_call0_call0_c_42 : Ref sig .tc := ⟨.hbm, 263, rfl⟩
abbrev main_call0_call0_v164 : Ref sig .tc := ⟨.hbm, 264, rfl⟩
abbrev main_call0_call0_v165 : Ref sig .tc := ⟨.hbm, 265, rfl⟩
abbrev main_call0_call0_c_43 : Ref sig .tc := ⟨.hbm, 266, rfl⟩
abbrev main_call0_call0_v166 : Ref sig .tc := ⟨.hbm, 267, rfl⟩
abbrev main_call0_call0_v167 : Ref sig .tc := ⟨.hbm, 268, rfl⟩
abbrev main_call0_call0_v168 : Ref sig .tc := ⟨.hbm, 269, rfl⟩
abbrev main_call0_call0_v169 : Ref sig .tc := ⟨.hbm, 270, rfl⟩
abbrev main_call0_call0_v170 : Ref sig .tc := ⟨.hbm, 271, rfl⟩
abbrev main_call0_v11_0 : Ref sig .tc := ⟨.hbm, 272, rfl⟩
abbrev main_call0_call0_v172 : Ref sig .tc := ⟨.hbm, 273, rfl⟩
abbrev main_call0_call0_v173 : Ref sig .tc := ⟨.hbm, 274, rfl⟩
abbrev main_call0_call0_c_44 : Ref sig .tc := ⟨.hbm, 275, rfl⟩
abbrev main_call0_call0_v174 : Ref sig .tc := ⟨.hbm, 276, rfl⟩
abbrev main_call0_v11_1 : Ref sig .tc := ⟨.hbm, 277, rfl⟩
abbrev main_call0_v12 : Ref sig .tc := ⟨.hbm, 278, rfl⟩
abbrev main_call0_v13 : Ref sig .tc := ⟨.hbm, 279, rfl⟩
abbrev main_v31 : Ref sig .tc := ⟨.hbm, 280, rfl⟩
abbrev main_v32 : Ref sig .tc := ⟨.hbm, 281, rfl⟩
abbrev main_v33 : Ref sig .tc := ⟨.hbm, 282, rfl⟩
abbrev main_v34 : Ref sig .tc := ⟨.hbm, 283, rfl⟩
abbrev main_v35 : Ref sig .tc := ⟨.hbm, 284, rfl⟩
abbrev main_cst_6 : Ref sig .tc := ⟨.hbm, 285, rfl⟩
abbrev main_v36 : Ref sig .tc := ⟨.hbm, 286, rfl⟩
abbrev main_v37 : Ref sig .tc := ⟨.hbm, 287, rfl⟩
abbrev main_v38 : Ref sig .tc := ⟨.hbm, 288, rfl⟩
abbrev main_cst_7 : Ref sig .tc := ⟨.hbm, 289, rfl⟩
abbrev main_v39 : Ref sig .tc := ⟨.hbm, 290, rfl⟩
abbrev main_cst_8 : Ref sig .tc := ⟨.hbm, 291, rfl⟩
abbrev main_v40 : Ref sig .tc := ⟨.hbm, 292, rfl⟩
abbrev main_cst_9 : Ref sig .tc := ⟨.hbm, 293, rfl⟩
abbrev main_cst_10 : Ref sig .tc := ⟨.hbm, 294, rfl⟩
abbrev main_call1_v0 : Ref sig .tc := ⟨.hbm, 295, rfl⟩
abbrev main_call1_v1 : Ref sig .tc := ⟨.hbm, 296, rfl⟩
abbrev main_call1_v2 : Ref sig .tc := ⟨.hbm, 297, rfl⟩
abbrev main_v41 : Ref sig .tc := ⟨.hbm, 298, rfl⟩
abbrev main_v42 : Ref sig .tc := ⟨.hbm, 299, rfl⟩
abbrev main_cst_11 : Ref sig .tc := ⟨.hbm, 300, rfl⟩
abbrev main_v43 : Ref sig .tc := ⟨.hbm, 301, rfl⟩
abbrev main_cst_12 : Ref sig .tc := ⟨.hbm, 302, rfl⟩
abbrev main_v44 : Ref sig .tc := ⟨.hbm, 303, rfl⟩
abbrev main_cst_13 : Ref sig .tc := ⟨.hbm, 304, rfl⟩
abbrev main_cst_14 : Ref sig .tc := ⟨.hbm, 305, rfl⟩
abbrev main_call2_v0 : Ref sig .tc := ⟨.hbm, 306, rfl⟩
abbrev main_call2_v1 : Ref sig .tc := ⟨.hbm, 307, rfl⟩
abbrev main_call2_v2 : Ref sig .tc := ⟨.hbm, 308, rfl⟩
abbrev main_call2_v3 : Ref sig .tc := ⟨.hbm, 309, rfl⟩
abbrev main_call2_v4 : Ref sig .tc := ⟨.hbm, 310, rfl⟩
abbrev main_call2_v5 : Ref sig .tc := ⟨.hbm, 311, rfl⟩
abbrev main_call2_v6 : Ref sig .tc := ⟨.hbm, 312, rfl⟩
abbrev main_call2_v7 : Ref sig .tc := ⟨.hbm, 313, rfl⟩
abbrev main_call2_v8 : Ref sig .tc := ⟨.hbm, 314, rfl⟩
abbrev main_call2_v9 : Ref sig .tc := ⟨.hbm, 315, rfl⟩
abbrev main_call2_v10 : Ref sig .tc := ⟨.hbm, 316, rfl⟩
abbrev main_call2_v11 : Ref sig .tc := ⟨.hbm, 317, rfl⟩
abbrev main_call2_v12 : Ref sig .tc := ⟨.hbm, 318, rfl⟩
abbrev main_call2_c : Ref sig .tc := ⟨.hbm, 319, rfl⟩
abbrev main_call2_v13 : Ref sig .tc := ⟨.hbm, 320, rfl⟩
abbrev main_call2_v14 : Ref sig .tc := ⟨.hbm, 321, rfl⟩
abbrev main_call2_c_0 : Ref sig .tc := ⟨.hbm, 322, rfl⟩
abbrev main_call2_v15 : Ref sig .tc := ⟨.hbm, 323, rfl⟩
abbrev main_call2_v16 : Ref sig .tc := ⟨.hbm, 324, rfl⟩
abbrev main_call2_c_1 : Ref sig .tc := ⟨.hbm, 325, rfl⟩
abbrev main_call2_v17 : Ref sig .tc := ⟨.hbm, 326, rfl⟩
abbrev main_call2_v18 : Ref sig .tc := ⟨.hbm, 327, rfl⟩
abbrev main_call2_c_2 : Ref sig .tc := ⟨.hbm, 328, rfl⟩
abbrev main_call2_v19 : Ref sig .tc := ⟨.hbm, 329, rfl⟩
abbrev main_call2_v20 : Ref sig .tc := ⟨.hbm, 330, rfl⟩
abbrev main_call2_c_3 : Ref sig .tc := ⟨.hbm, 331, rfl⟩
abbrev main_call2_v21 : Ref sig .tc := ⟨.hbm, 332, rfl⟩
abbrev main_call2_v22 : Ref sig .tc := ⟨.hbm, 333, rfl⟩
abbrev main_call2_v23 : Ref sig .tc := ⟨.hbm, 334, rfl⟩
abbrev main_call2_v24 : Ref sig .tc := ⟨.hbm, 335, rfl⟩
abbrev main_call2_v25 : Ref sig .tc := ⟨.hbm, 336, rfl⟩
abbrev main_call2_v26 : Ref sig .tc := ⟨.hbm, 337, rfl⟩
abbrev main_call2_c_4 : Ref sig .tc := ⟨.hbm, 338, rfl⟩
abbrev main_call2_v27 : Ref sig .tc := ⟨.hbm, 339, rfl⟩
abbrev main_call2_v28 : Ref sig .tc := ⟨.hbm, 340, rfl⟩
abbrev main_call2_v29 : Ref sig .tc := ⟨.hbm, 341, rfl⟩
abbrev main_call2_v30 : Ref sig .tc := ⟨.hbm, 342, rfl⟩
abbrev main_call2_call0_v0 : Ref sig .tc := ⟨.hbm, 343, rfl⟩
abbrev main_call2_call0_c : Ref sig .tc := ⟨.hbm, 344, rfl⟩
abbrev main_call2_call0_v1 : Ref sig .tc := ⟨.hbm, 345, rfl⟩
abbrev main_call2_call0_v2 : Ref sig .tc := ⟨.hbm, 346, rfl⟩
abbrev main_call2_call0_v3 : Ref sig .tc := ⟨.hbm, 347, rfl⟩
abbrev main_call2_call0_v4 : Ref sig .tc := ⟨.hbm, 348, rfl⟩
abbrev main_call2_call0_v5 : Ref sig .tc := ⟨.hbm, 349, rfl⟩
abbrev main_call2_call0_v6 : Ref sig .tc := ⟨.hbm, 350, rfl⟩
abbrev main_call2_call0_c_0 : Ref sig .tc := ⟨.hbm, 351, rfl⟩
abbrev main_call2_call0_v7 : Ref sig .tc := ⟨.hbm, 352, rfl⟩
abbrev main_call2_call0_v8 : Ref sig .tc := ⟨.hbm, 353, rfl⟩
abbrev main_call2_call0_c_1 : Ref sig .tc := ⟨.hbm, 354, rfl⟩
abbrev main_call2_call0_v9 : Ref sig .tc := ⟨.hbm, 355, rfl⟩
abbrev main_call2_call0_v10 : Ref sig .tc := ⟨.hbm, 356, rfl⟩
abbrev main_call2_call0_v11 : Ref sig .tc := ⟨.hbm, 357, rfl⟩
abbrev main_call2_call0_v12 : Ref sig .tc := ⟨.hbm, 358, rfl⟩
abbrev main_call2_call0_v13 : Ref sig .tc := ⟨.hbm, 359, rfl⟩
abbrev main_call2_call0_c_2 : Ref sig .tc := ⟨.hbm, 360, rfl⟩
abbrev main_call2_call0_v14 : Ref sig .tc := ⟨.hbm, 361, rfl⟩
abbrev main_call2_call0_v15 : Ref sig .tc := ⟨.hbm, 362, rfl⟩
abbrev main_call2_call0_c_3 : Ref sig .tc := ⟨.hbm, 363, rfl⟩
abbrev main_call2_call0_v16 : Ref sig .tc := ⟨.hbm, 364, rfl⟩
abbrev main_call2_call0_v17 : Ref sig .tc := ⟨.hbm, 365, rfl⟩
abbrev main_call2_call0_v18 : Ref sig .tc := ⟨.hbm, 366, rfl⟩
abbrev main_call2_call0_v19 : Ref sig .tc := ⟨.hbm, 367, rfl⟩
abbrev main_call2_call0_v20 : Ref sig .tc := ⟨.hbm, 368, rfl⟩
abbrev main_call2_call0_c_4 : Ref sig .tc := ⟨.hbm, 369, rfl⟩
abbrev main_call2_call0_v21 : Ref sig .tc := ⟨.hbm, 370, rfl⟩
abbrev main_call2_call0_v22 : Ref sig .tc := ⟨.hbm, 371, rfl⟩
abbrev main_call2_call0_c_5 : Ref sig .tc := ⟨.hbm, 372, rfl⟩
abbrev main_call2_call0_v23 : Ref sig .tc := ⟨.hbm, 373, rfl⟩
abbrev main_call2_call0_v24 : Ref sig .tc := ⟨.hbm, 374, rfl⟩
abbrev main_call2_call0_v25 : Ref sig .tc := ⟨.hbm, 375, rfl⟩
abbrev main_call2_call0_v26 : Ref sig .tc := ⟨.hbm, 376, rfl⟩
abbrev main_call2_call0_v27 : Ref sig .tc := ⟨.hbm, 377, rfl⟩
abbrev main_call2_call0_c_6 : Ref sig .tc := ⟨.hbm, 378, rfl⟩
abbrev main_call2_call0_v28 : Ref sig .tc := ⟨.hbm, 379, rfl⟩
abbrev main_call2_call0_v29 : Ref sig .tc := ⟨.hbm, 380, rfl⟩
abbrev main_call2_call0_c_7 : Ref sig .tc := ⟨.hbm, 381, rfl⟩
abbrev main_call2_call0_v30 : Ref sig .tc := ⟨.hbm, 382, rfl⟩
abbrev main_call2_call0_v31 : Ref sig .tc := ⟨.hbm, 383, rfl⟩
abbrev main_call2_call0_v32 : Ref sig .tc := ⟨.hbm, 384, rfl⟩
abbrev main_call2_call0_v33 : Ref sig .tc := ⟨.hbm, 385, rfl⟩
abbrev main_call2_call0_v34 : Ref sig .tc := ⟨.hbm, 386, rfl⟩
abbrev main_call2_call0_v35 : Ref sig .tc := ⟨.hbm, 387, rfl⟩
abbrev main_call2_call0_v36 : Ref sig .tc := ⟨.hbm, 388, rfl⟩
abbrev main_call2_call0_v37 : Ref sig .tc := ⟨.hbm, 389, rfl⟩
abbrev main_call2_call0_c_8 : Ref sig .tc := ⟨.hbm, 390, rfl⟩
abbrev main_call2_call0_v38 : Ref sig .tc := ⟨.hbm, 391, rfl⟩
abbrev main_call2_call0_v39 : Ref sig .tc := ⟨.hbm, 392, rfl⟩
abbrev main_call2_call0_v40 : Ref sig .tc := ⟨.hbm, 393, rfl⟩
abbrev main_call2_call0_c_9 : Ref sig .tc := ⟨.hbm, 394, rfl⟩
abbrev main_call2_call0_v41 : Ref sig .tc := ⟨.hbm, 395, rfl⟩
abbrev main_call2_call0_v42 : Ref sig .tc := ⟨.hbm, 396, rfl⟩
abbrev main_call2_call0_c_10 : Ref sig .tc := ⟨.hbm, 397, rfl⟩
abbrev main_call2_call0_v43 : Ref sig .tc := ⟨.hbm, 398, rfl⟩
abbrev main_call2_call0_v44 : Ref sig .tc := ⟨.hbm, 399, rfl⟩
abbrev main_call2_call0_v45 : Ref sig .tc := ⟨.hbm, 400, rfl⟩
abbrev main_call2_call0_v46 : Ref sig .tc := ⟨.hbm, 401, rfl⟩
abbrev main_call2_call0_v47 : Ref sig .tc := ⟨.hbm, 402, rfl⟩
abbrev main_call2_call0_c_11 : Ref sig .tc := ⟨.hbm, 403, rfl⟩
abbrev main_call2_call0_v48 : Ref sig .tc := ⟨.hbm, 404, rfl⟩
abbrev main_call2_call0_v49 : Ref sig .tc := ⟨.hbm, 405, rfl⟩
abbrev main_call2_call0_c_12 : Ref sig .tc := ⟨.hbm, 406, rfl⟩
abbrev main_call2_call0_v50 : Ref sig .tc := ⟨.hbm, 407, rfl⟩
abbrev main_call2_call0_v51 : Ref sig .tc := ⟨.hbm, 408, rfl⟩
abbrev main_call2_call0_v52 : Ref sig .tc := ⟨.hbm, 409, rfl⟩
abbrev main_call2_call0_v53 : Ref sig .tc := ⟨.hbm, 410, rfl⟩
abbrev main_call2_call0_v54 : Ref sig .tc := ⟨.hbm, 411, rfl⟩
abbrev main_call2_call0_c_13 : Ref sig .tc := ⟨.hbm, 412, rfl⟩
abbrev main_call2_call0_v55 : Ref sig .tc := ⟨.hbm, 413, rfl⟩
abbrev main_call2_call0_v56 : Ref sig .tc := ⟨.hbm, 414, rfl⟩
abbrev main_call2_call0_c_14 : Ref sig .tc := ⟨.hbm, 415, rfl⟩
abbrev main_call2_call0_v57 : Ref sig .tc := ⟨.hbm, 416, rfl⟩
abbrev main_call2_call0_v58 : Ref sig .tc := ⟨.hbm, 417, rfl⟩
abbrev main_call2_call0_v59 : Ref sig .tc := ⟨.hbm, 418, rfl⟩
abbrev main_call2_call0_v60 : Ref sig .tc := ⟨.hbm, 419, rfl⟩
abbrev main_call2_call0_v61 : Ref sig .tc := ⟨.hbm, 420, rfl⟩
abbrev main_call2_call0_c_15 : Ref sig .tc := ⟨.hbm, 421, rfl⟩
abbrev main_call2_call0_v62 : Ref sig .tc := ⟨.hbm, 422, rfl⟩
abbrev main_call2_call0_v63 : Ref sig .tc := ⟨.hbm, 423, rfl⟩
abbrev main_call2_call0_c_16 : Ref sig .tc := ⟨.hbm, 424, rfl⟩
abbrev main_call2_call0_v64 : Ref sig .tc := ⟨.hbm, 425, rfl⟩
abbrev main_call2_call0_v65 : Ref sig .tc := ⟨.hbm, 426, rfl⟩
abbrev main_call2_call0_v66 : Ref sig .tc := ⟨.hbm, 427, rfl⟩
abbrev main_call2_call0_v67 : Ref sig .tc := ⟨.hbm, 428, rfl⟩
abbrev main_call2_call0_v68 : Ref sig .tc := ⟨.hbm, 429, rfl⟩
abbrev main_call2_call0_v69 : Ref sig .tc := ⟨.hbm, 430, rfl⟩
abbrev main_call2_call0_v70 : Ref sig .tc := ⟨.hbm, 431, rfl⟩
abbrev main_call2_call0_v71 : Ref sig .tc := ⟨.hbm, 432, rfl⟩
abbrev main_call2_call0_c_17 : Ref sig .tc := ⟨.hbm, 433, rfl⟩
abbrev main_call2_call0_v72 : Ref sig .tc := ⟨.hbm, 434, rfl⟩
abbrev main_call2_call0_v73 : Ref sig .tc := ⟨.hbm, 435, rfl⟩
abbrev main_call2_call0_v74 : Ref sig .tc := ⟨.hbm, 436, rfl⟩
abbrev main_call2_call0_c_18 : Ref sig .tc := ⟨.hbm, 437, rfl⟩
abbrev main_call2_call0_v75 : Ref sig .tc := ⟨.hbm, 438, rfl⟩
abbrev main_call2_call0_v76 : Ref sig .tc := ⟨.hbm, 439, rfl⟩
abbrev main_call2_call0_c_19 : Ref sig .tc := ⟨.hbm, 440, rfl⟩
abbrev main_call2_call0_v77 : Ref sig .tc := ⟨.hbm, 441, rfl⟩
abbrev main_call2_call0_v78 : Ref sig .tc := ⟨.hbm, 442, rfl⟩
abbrev main_call2_call0_v79 : Ref sig .tc := ⟨.hbm, 443, rfl⟩
abbrev main_call2_call0_v80 : Ref sig .tc := ⟨.hbm, 444, rfl⟩
abbrev main_call2_call0_v81 : Ref sig .tc := ⟨.hbm, 445, rfl⟩
abbrev main_call2_call0_c_20 : Ref sig .tc := ⟨.hbm, 446, rfl⟩
abbrev main_call2_call0_v82 : Ref sig .tc := ⟨.hbm, 447, rfl⟩
abbrev main_call2_call0_v83 : Ref sig .tc := ⟨.hbm, 448, rfl⟩
abbrev main_call2_call0_c_21 : Ref sig .tc := ⟨.hbm, 449, rfl⟩
abbrev main_call2_call0_v84 : Ref sig .tc := ⟨.hbm, 450, rfl⟩
abbrev main_call2_call0_v85 : Ref sig .tc := ⟨.hbm, 451, rfl⟩
abbrev main_call2_call0_v86 : Ref sig .tc := ⟨.hbm, 452, rfl⟩
abbrev main_call2_call0_v87 : Ref sig .tc := ⟨.hbm, 453, rfl⟩
abbrev main_call2_call0_v88 : Ref sig .tc := ⟨.hbm, 454, rfl⟩
abbrev main_call2_call0_c_22 : Ref sig .tc := ⟨.hbm, 455, rfl⟩
abbrev main_call2_call0_v89 : Ref sig .tc := ⟨.hbm, 456, rfl⟩
abbrev main_call2_call0_v90 : Ref sig .tc := ⟨.hbm, 457, rfl⟩
abbrev main_call2_call0_c_23 : Ref sig .tc := ⟨.hbm, 458, rfl⟩
abbrev main_call2_call0_v91 : Ref sig .tc := ⟨.hbm, 459, rfl⟩
abbrev main_call2_call0_v92 : Ref sig .tc := ⟨.hbm, 460, rfl⟩
abbrev main_call2_call0_v93 : Ref sig .tc := ⟨.hbm, 461, rfl⟩
abbrev main_call2_call0_v94 : Ref sig .tc := ⟨.hbm, 462, rfl⟩
abbrev main_call2_call0_v95 : Ref sig .tc := ⟨.hbm, 463, rfl⟩
abbrev main_call2_call0_c_24 : Ref sig .tc := ⟨.hbm, 464, rfl⟩
abbrev main_call2_call0_v96 : Ref sig .tc := ⟨.hbm, 465, rfl⟩
abbrev main_call2_call0_v97 : Ref sig .tc := ⟨.hbm, 466, rfl⟩
abbrev main_call2_call0_c_25 : Ref sig .tc := ⟨.hbm, 467, rfl⟩
abbrev main_call2_call0_v98 : Ref sig .tc := ⟨.hbm, 468, rfl⟩
abbrev main_call2_call0_v99 : Ref sig .tc := ⟨.hbm, 469, rfl⟩
abbrev main_call2_call0_v100 : Ref sig .tc := ⟨.hbm, 470, rfl⟩
abbrev main_call2_call0_v101 : Ref sig .tc := ⟨.hbm, 471, rfl⟩
abbrev main_call2_call0_v102 : Ref sig .tc := ⟨.hbm, 472, rfl⟩
abbrev main_call2_call0_v103 : Ref sig .tc := ⟨.hbm, 473, rfl⟩
abbrev main_call2_call0_v104 : Ref sig .tc := ⟨.hbm, 474, rfl⟩
abbrev main_call2_call0_v105 : Ref sig .tc := ⟨.hbm, 475, rfl⟩
abbrev main_call2_call0_c_26 : Ref sig .tc := ⟨.hbm, 476, rfl⟩
abbrev main_call2_call0_v106 : Ref sig .tc := ⟨.hbm, 477, rfl⟩
abbrev main_call2_call0_v107 : Ref sig .tc := ⟨.hbm, 478, rfl⟩
abbrev main_call2_call0_v108 : Ref sig .tc := ⟨.hbm, 479, rfl⟩
abbrev main_call2_call0_c_27 : Ref sig .tc := ⟨.hbm, 480, rfl⟩
abbrev main_call2_call0_v109 : Ref sig .tc := ⟨.hbm, 481, rfl⟩
abbrev main_call2_call0_v110 : Ref sig .tc := ⟨.hbm, 482, rfl⟩
abbrev main_call2_call0_c_28 : Ref sig .tc := ⟨.hbm, 483, rfl⟩
abbrev main_call2_call0_v111 : Ref sig .tc := ⟨.hbm, 484, rfl⟩
abbrev main_call2_call0_v112 : Ref sig .tc := ⟨.hbm, 485, rfl⟩
abbrev main_call2_call0_v113 : Ref sig .tc := ⟨.hbm, 486, rfl⟩
abbrev main_call2_call0_v114 : Ref sig .tc := ⟨.hbm, 487, rfl⟩
abbrev main_call2_call0_v115 : Ref sig .tc := ⟨.hbm, 488, rfl⟩
abbrev main_call2_call0_c_29 : Ref sig .tc := ⟨.hbm, 489, rfl⟩
abbrev main_call2_call0_v116 : Ref sig .tc := ⟨.hbm, 490, rfl⟩
abbrev main_call2_call0_v117 : Ref sig .tc := ⟨.hbm, 491, rfl⟩
abbrev main_call2_call0_c_30 : Ref sig .tc := ⟨.hbm, 492, rfl⟩
abbrev main_call2_call0_v118 : Ref sig .tc := ⟨.hbm, 493, rfl⟩
abbrev main_call2_call0_v119 : Ref sig .tc := ⟨.hbm, 494, rfl⟩
abbrev main_call2_call0_v120 : Ref sig .tc := ⟨.hbm, 495, rfl⟩
abbrev main_call2_call0_v121 : Ref sig .tc := ⟨.hbm, 496, rfl⟩
abbrev main_call2_call0_v122 : Ref sig .tc := ⟨.hbm, 497, rfl⟩
abbrev main_call2_call0_c_31 : Ref sig .tc := ⟨.hbm, 498, rfl⟩
abbrev main_call2_call0_v123 : Ref sig .tc := ⟨.hbm, 499, rfl⟩
abbrev main_call2_call0_v124 : Ref sig .tc := ⟨.hbm, 500, rfl⟩
abbrev main_call2_call0_c_32 : Ref sig .tc := ⟨.hbm, 501, rfl⟩
abbrev main_call2_call0_v125 : Ref sig .tc := ⟨.hbm, 502, rfl⟩
abbrev main_call2_call0_v126 : Ref sig .tc := ⟨.hbm, 503, rfl⟩
abbrev main_call2_call0_v127 : Ref sig .tc := ⟨.hbm, 504, rfl⟩
abbrev main_call2_call0_v128 : Ref sig .tc := ⟨.hbm, 505, rfl⟩
abbrev main_call2_call0_v129 : Ref sig .tc := ⟨.hbm, 506, rfl⟩
abbrev main_call2_call0_c_33 : Ref sig .tc := ⟨.hbm, 507, rfl⟩
abbrev main_call2_call0_v130 : Ref sig .tc := ⟨.hbm, 508, rfl⟩
abbrev main_call2_call0_v131 : Ref sig .tc := ⟨.hbm, 509, rfl⟩
abbrev main_call2_call0_c_34 : Ref sig .tc := ⟨.hbm, 510, rfl⟩
abbrev main_call2_call0_v132 : Ref sig .tc := ⟨.hbm, 511, rfl⟩
abbrev main_call2_call0_v133 : Ref sig .tc := ⟨.hbm, 512, rfl⟩
abbrev main_call2_call0_v134 : Ref sig .tc := ⟨.hbm, 513, rfl⟩
abbrev main_call2_call0_v135 : Ref sig .tc := ⟨.hbm, 514, rfl⟩
abbrev main_call2_call0_v136 : Ref sig .tc := ⟨.hbm, 515, rfl⟩
abbrev main_call2_call0_v137 : Ref sig .tc := ⟨.hbm, 516, rfl⟩
abbrev main_call2_call0_v138 : Ref sig .tc := ⟨.hbm, 517, rfl⟩
abbrev main_call2_call0_v139 : Ref sig .tc := ⟨.hbm, 518, rfl⟩
abbrev main_call2_call0_c_35 : Ref sig .tc := ⟨.hbm, 519, rfl⟩
abbrev main_call2_call0_v140 : Ref sig .tc := ⟨.hbm, 520, rfl⟩
abbrev main_call2_call0_v141 : Ref sig .tc := ⟨.hbm, 521, rfl⟩
abbrev main_call2_call0_v142 : Ref sig .tc := ⟨.hbm, 522, rfl⟩
abbrev main_call2_call0_c_36 : Ref sig .tc := ⟨.hbm, 523, rfl⟩
abbrev main_call2_call0_v143 : Ref sig .tc := ⟨.hbm, 524, rfl⟩
abbrev main_call2_call0_v144 : Ref sig .tc := ⟨.hbm, 525, rfl⟩
abbrev main_call2_call0_c_37 : Ref sig .tc := ⟨.hbm, 526, rfl⟩
abbrev main_call2_call0_v145 : Ref sig .tc := ⟨.hbm, 527, rfl⟩
abbrev main_call2_call0_v146 : Ref sig .tc := ⟨.hbm, 528, rfl⟩
abbrev main_call2_call0_v147 : Ref sig .tc := ⟨.hbm, 529, rfl⟩
abbrev main_call2_call0_v148 : Ref sig .tc := ⟨.hbm, 530, rfl⟩
abbrev main_call2_call0_v149 : Ref sig .tc := ⟨.hbm, 531, rfl⟩
abbrev main_call2_call0_c_38 : Ref sig .tc := ⟨.hbm, 532, rfl⟩
abbrev main_call2_call0_v150 : Ref sig .tc := ⟨.hbm, 533, rfl⟩
abbrev main_call2_call0_v151 : Ref sig .tc := ⟨.hbm, 534, rfl⟩
abbrev main_call2_call0_c_39 : Ref sig .tc := ⟨.hbm, 535, rfl⟩
abbrev main_call2_call0_v152 : Ref sig .tc := ⟨.hbm, 536, rfl⟩
abbrev main_call2_call0_v153 : Ref sig .tc := ⟨.hbm, 537, rfl⟩
abbrev main_call2_call0_v154 : Ref sig .tc := ⟨.hbm, 538, rfl⟩
abbrev main_call2_call0_v155 : Ref sig .tc := ⟨.hbm, 539, rfl⟩
abbrev main_call2_call0_v156 : Ref sig .tc := ⟨.hbm, 540, rfl⟩
abbrev main_call2_call0_c_40 : Ref sig .tc := ⟨.hbm, 541, rfl⟩
abbrev main_call2_call0_v157 : Ref sig .tc := ⟨.hbm, 542, rfl⟩
abbrev main_call2_call0_v158 : Ref sig .tc := ⟨.hbm, 543, rfl⟩
abbrev main_call2_call0_c_41 : Ref sig .tc := ⟨.hbm, 544, rfl⟩
abbrev main_call2_call0_v159 : Ref sig .tc := ⟨.hbm, 545, rfl⟩
abbrev main_call2_call0_v160 : Ref sig .tc := ⟨.hbm, 546, rfl⟩
abbrev main_call2_call0_v161 : Ref sig .tc := ⟨.hbm, 547, rfl⟩
abbrev main_call2_call0_v162 : Ref sig .tc := ⟨.hbm, 548, rfl⟩
abbrev main_call2_call0_v163 : Ref sig .tc := ⟨.hbm, 549, rfl⟩
abbrev main_call2_call0_c_42 : Ref sig .tc := ⟨.hbm, 550, rfl⟩
abbrev main_call2_call0_v164 : Ref sig .tc := ⟨.hbm, 551, rfl⟩
abbrev main_call2_call0_v165 : Ref sig .tc := ⟨.hbm, 552, rfl⟩
abbrev main_call2_call0_c_43 : Ref sig .tc := ⟨.hbm, 553, rfl⟩
abbrev main_call2_call0_v166 : Ref sig .tc := ⟨.hbm, 554, rfl⟩
abbrev main_call2_call0_v167 : Ref sig .tc := ⟨.hbm, 555, rfl⟩
abbrev main_call2_call0_v168 : Ref sig .tc := ⟨.hbm, 556, rfl⟩
abbrev main_call2_call0_v169 : Ref sig .tc := ⟨.hbm, 557, rfl⟩
abbrev main_call2_call0_v170 : Ref sig .tc := ⟨.hbm, 558, rfl⟩
abbrev main_call2_v31_0 : Ref sig .tc := ⟨.hbm, 559, rfl⟩
abbrev main_call2_call0_v172 : Ref sig .tc := ⟨.hbm, 560, rfl⟩
abbrev main_call2_call0_v173 : Ref sig .tc := ⟨.hbm, 561, rfl⟩
abbrev main_call2_call0_c_44 : Ref sig .tc := ⟨.hbm, 562, rfl⟩
abbrev main_call2_call0_v174 : Ref sig .tc := ⟨.hbm, 563, rfl⟩
abbrev main_call2_v31_1 : Ref sig .tc := ⟨.hbm, 564, rfl⟩
abbrev main_call2_v32 : Ref sig .tc := ⟨.hbm, 565, rfl⟩
abbrev main_call2_c_5 : Ref sig .tc := ⟨.hbm, 566, rfl⟩
abbrev main_call2_v33 : Ref sig .tc := ⟨.hbm, 567, rfl⟩
abbrev main_call2_v34 : Ref sig .tc := ⟨.hbm, 568, rfl⟩
abbrev main_call2_c_6 : Ref sig .tc := ⟨.hbm, 569, rfl⟩
abbrev main_call2_v35 : Ref sig .tc := ⟨.hbm, 570, rfl⟩
abbrev main_call2_v36 : Ref sig .tc := ⟨.hbm, 571, rfl⟩
abbrev main_call2_v37 : Ref sig .tc := ⟨.hbm, 572, rfl⟩
abbrev main_call2_cst : Ref sig .tc := ⟨.hbm, 573, rfl⟩
abbrev main_call2_v38 : Ref sig .tc := ⟨.hbm, 574, rfl⟩
abbrev main_call2_v39 : Ref sig .tc := ⟨.hbm, 575, rfl⟩
abbrev main_call2_v40 : Ref sig .tc := ⟨.hbm, 576, rfl⟩
abbrev main_call2_v41 : Ref sig .tc := ⟨.hbm, 577, rfl⟩
abbrev main_call2_v42 : Ref sig .tc := ⟨.hbm, 578, rfl⟩
abbrev main_call2_v43 : Ref sig .tc := ⟨.hbm, 579, rfl⟩
abbrev main_call2_v44 : Ref sig .tc := ⟨.hbm, 580, rfl⟩
abbrev main_call2_v45 : Ref sig .tc := ⟨.hbm, 581, rfl⟩
abbrev main_v45 : Ref sig .tc := ⟨.hbm, 582, rfl⟩
abbrev main_v46 : Ref sig .tc := ⟨.hbm, 583, rfl⟩
abbrev main_v47 : Ref sig .tc := ⟨.hbm, 584, rfl⟩
abbrev main_v48 : Ref sig .tc := ⟨.hbm, 585, rfl⟩
abbrev main_v49 : Ref sig .tc := ⟨.hbm, 586, rfl⟩
abbrev main_v50 : Ref sig .tc := ⟨.hbm, 587, rfl⟩
abbrev main_v51 : Ref sig .tc := ⟨.hbm, 588, rfl⟩
abbrev main_cst_15 : Ref sig .tc := ⟨.hbm, 589, rfl⟩
abbrev main_v52 : Ref sig .tc := ⟨.hbm, 590, rfl⟩
abbrev main_v53 : Ref sig .tc := ⟨.hbm, 591, rfl⟩
abbrev main_v54 : Ref sig .tc := ⟨.hbm, 592, rfl⟩
abbrev main_cst_16 : Ref sig .tc := ⟨.hbm, 593, rfl⟩
abbrev main_cst_17 : Ref sig .tc := ⟨.hbm, 594, rfl⟩
abbrev main_call4_v0 : Ref sig .tc := ⟨.hbm, 595, rfl⟩
abbrev main_call4_v1 : Ref sig .tc := ⟨.hbm, 596, rfl⟩
abbrev main_call4_v2 : Ref sig .tc := ⟨.hbm, 597, rfl⟩
abbrev main_call4_v3 : Ref sig .tc := ⟨.hbm, 598, rfl⟩
abbrev main_call4_v4 : Ref sig .tc := ⟨.hbm, 599, rfl⟩
abbrev main_call4_v5 : Ref sig .tc := ⟨.hbm, 600, rfl⟩
abbrev main_call4_v6 : Ref sig .tc := ⟨.hbm, 601, rfl⟩
abbrev main_call4_v7 : Ref sig .tc := ⟨.hbm, 602, rfl⟩
abbrev main_call4_v8 : Ref sig .tc := ⟨.hbm, 603, rfl⟩
abbrev main_call4_v9 : Ref sig .tc := ⟨.hbm, 604, rfl⟩
abbrev main_call4_v10 : Ref sig .tc := ⟨.hbm, 605, rfl⟩
abbrev main_call4_v11 : Ref sig .tc := ⟨.hbm, 606, rfl⟩
abbrev main_call4_v12 : Ref sig .tc := ⟨.hbm, 607, rfl⟩
abbrev main_call4_c : Ref sig .tc := ⟨.hbm, 608, rfl⟩
abbrev main_call4_v13 : Ref sig .tc := ⟨.hbm, 609, rfl⟩
abbrev main_call4_v14 : Ref sig .tc := ⟨.hbm, 610, rfl⟩
abbrev main_call4_c_0 : Ref sig .tc := ⟨.hbm, 611, rfl⟩
abbrev main_call4_v15 : Ref sig .tc := ⟨.hbm, 612, rfl⟩
abbrev main_call4_v16 : Ref sig .tc := ⟨.hbm, 613, rfl⟩
abbrev main_call4_c_1 : Ref sig .tc := ⟨.hbm, 614, rfl⟩
abbrev main_call4_v17 : Ref sig .tc := ⟨.hbm, 615, rfl⟩
abbrev main_call4_v18 : Ref sig .tc := ⟨.hbm, 616, rfl⟩
abbrev main_call4_c_2 : Ref sig .tc := ⟨.hbm, 617, rfl⟩
abbrev main_call4_v19 : Ref sig .tc := ⟨.hbm, 618, rfl⟩
abbrev main_call4_v20 : Ref sig .tc := ⟨.hbm, 619, rfl⟩
abbrev main_call4_c_3 : Ref sig .tc := ⟨.hbm, 620, rfl⟩
abbrev main_call4_v21 : Ref sig .tc := ⟨.hbm, 621, rfl⟩
abbrev main_call4_v22 : Ref sig .tc := ⟨.hbm, 622, rfl⟩
abbrev main_call4_v23 : Ref sig .tc := ⟨.hbm, 623, rfl⟩
abbrev main_call4_v24 : Ref sig .tc := ⟨.hbm, 624, rfl⟩
abbrev main_call4_v25 : Ref sig .tc := ⟨.hbm, 625, rfl⟩
abbrev main_call4_v26 : Ref sig .tc := ⟨.hbm, 626, rfl⟩
abbrev main_call4_c_4 : Ref sig .tc := ⟨.hbm, 627, rfl⟩
abbrev main_call4_v27 : Ref sig .tc := ⟨.hbm, 628, rfl⟩
abbrev main_call4_v28 : Ref sig .tc := ⟨.hbm, 629, rfl⟩
abbrev main_call4_v29 : Ref sig .tc := ⟨.hbm, 630, rfl⟩
abbrev main_call4_v30 : Ref sig .tc := ⟨.hbm, 631, rfl⟩
abbrev main_call4_call0_v0 : Ref sig .tc := ⟨.hbm, 632, rfl⟩
abbrev main_call4_call0_c : Ref sig .tc := ⟨.hbm, 633, rfl⟩
abbrev main_call4_call0_v1 : Ref sig .tc := ⟨.hbm, 634, rfl⟩
abbrev main_call4_call0_v2 : Ref sig .tc := ⟨.hbm, 635, rfl⟩
abbrev main_call4_call0_v3 : Ref sig .tc := ⟨.hbm, 636, rfl⟩
abbrev main_call4_call0_v4 : Ref sig .tc := ⟨.hbm, 637, rfl⟩
abbrev main_call4_call0_v5 : Ref sig .tc := ⟨.hbm, 638, rfl⟩
abbrev main_call4_call0_v6 : Ref sig .tc := ⟨.hbm, 639, rfl⟩
abbrev main_call4_call0_c_0 : Ref sig .tc := ⟨.hbm, 640, rfl⟩
abbrev main_call4_call0_v7 : Ref sig .tc := ⟨.hbm, 641, rfl⟩
abbrev main_call4_call0_v8 : Ref sig .tc := ⟨.hbm, 642, rfl⟩
abbrev main_call4_call0_c_1 : Ref sig .tc := ⟨.hbm, 643, rfl⟩
abbrev main_call4_call0_v9 : Ref sig .tc := ⟨.hbm, 644, rfl⟩
abbrev main_call4_call0_v10 : Ref sig .tc := ⟨.hbm, 645, rfl⟩
abbrev main_call4_call0_v11 : Ref sig .tc := ⟨.hbm, 646, rfl⟩
abbrev main_call4_call0_v12 : Ref sig .tc := ⟨.hbm, 647, rfl⟩
abbrev main_call4_call0_v13 : Ref sig .tc := ⟨.hbm, 648, rfl⟩
abbrev main_call4_call0_c_2 : Ref sig .tc := ⟨.hbm, 649, rfl⟩
abbrev main_call4_call0_v14 : Ref sig .tc := ⟨.hbm, 650, rfl⟩
abbrev main_call4_call0_v15 : Ref sig .tc := ⟨.hbm, 651, rfl⟩
abbrev main_call4_call0_c_3 : Ref sig .tc := ⟨.hbm, 652, rfl⟩
abbrev main_call4_call0_v16 : Ref sig .tc := ⟨.hbm, 653, rfl⟩
abbrev main_call4_call0_v17 : Ref sig .tc := ⟨.hbm, 654, rfl⟩
abbrev main_call4_call0_v18 : Ref sig .tc := ⟨.hbm, 655, rfl⟩
abbrev main_call4_call0_v19 : Ref sig .tc := ⟨.hbm, 656, rfl⟩
abbrev main_call4_call0_v20 : Ref sig .tc := ⟨.hbm, 657, rfl⟩
abbrev main_call4_call0_c_4 : Ref sig .tc := ⟨.hbm, 658, rfl⟩
abbrev main_call4_call0_v21 : Ref sig .tc := ⟨.hbm, 659, rfl⟩
abbrev main_call4_call0_v22 : Ref sig .tc := ⟨.hbm, 660, rfl⟩
abbrev main_call4_call0_c_5 : Ref sig .tc := ⟨.hbm, 661, rfl⟩
abbrev main_call4_call0_v23 : Ref sig .tc := ⟨.hbm, 662, rfl⟩
abbrev main_call4_call0_v24 : Ref sig .tc := ⟨.hbm, 663, rfl⟩
abbrev main_call4_call0_v25 : Ref sig .tc := ⟨.hbm, 664, rfl⟩
abbrev main_call4_call0_v26 : Ref sig .tc := ⟨.hbm, 665, rfl⟩
abbrev main_call4_call0_v27 : Ref sig .tc := ⟨.hbm, 666, rfl⟩
abbrev main_call4_call0_c_6 : Ref sig .tc := ⟨.hbm, 667, rfl⟩
abbrev main_call4_call0_v28 : Ref sig .tc := ⟨.hbm, 668, rfl⟩
abbrev main_call4_call0_v29 : Ref sig .tc := ⟨.hbm, 669, rfl⟩
abbrev main_call4_call0_c_7 : Ref sig .tc := ⟨.hbm, 670, rfl⟩
abbrev main_call4_call0_v30 : Ref sig .tc := ⟨.hbm, 671, rfl⟩
abbrev main_call4_call0_v31 : Ref sig .tc := ⟨.hbm, 672, rfl⟩
abbrev main_call4_call0_v32 : Ref sig .tc := ⟨.hbm, 673, rfl⟩
abbrev main_call4_call0_v33 : Ref sig .tc := ⟨.hbm, 674, rfl⟩
abbrev main_call4_call0_v34 : Ref sig .tc := ⟨.hbm, 675, rfl⟩
abbrev main_call4_call0_v35 : Ref sig .tc := ⟨.hbm, 676, rfl⟩
abbrev main_call4_call0_v36 : Ref sig .tc := ⟨.hbm, 677, rfl⟩
abbrev main_call4_call0_v37 : Ref sig .tc := ⟨.hbm, 678, rfl⟩
abbrev main_call4_call0_c_8 : Ref sig .tc := ⟨.hbm, 679, rfl⟩
abbrev main_call4_call0_v38 : Ref sig .tc := ⟨.hbm, 680, rfl⟩
abbrev main_call4_call0_v39 : Ref sig .tc := ⟨.hbm, 681, rfl⟩
abbrev main_call4_call0_v40 : Ref sig .tc := ⟨.hbm, 682, rfl⟩
abbrev main_call4_call0_c_9 : Ref sig .tc := ⟨.hbm, 683, rfl⟩
abbrev main_call4_call0_v41 : Ref sig .tc := ⟨.hbm, 684, rfl⟩
abbrev main_call4_call0_v42 : Ref sig .tc := ⟨.hbm, 685, rfl⟩
abbrev main_call4_call0_c_10 : Ref sig .tc := ⟨.hbm, 686, rfl⟩
abbrev main_call4_call0_v43 : Ref sig .tc := ⟨.hbm, 687, rfl⟩
abbrev main_call4_call0_v44 : Ref sig .tc := ⟨.hbm, 688, rfl⟩
abbrev main_call4_call0_v45 : Ref sig .tc := ⟨.hbm, 689, rfl⟩
abbrev main_call4_call0_v46 : Ref sig .tc := ⟨.hbm, 690, rfl⟩
abbrev main_call4_call0_v47 : Ref sig .tc := ⟨.hbm, 691, rfl⟩
abbrev main_call4_call0_c_11 : Ref sig .tc := ⟨.hbm, 692, rfl⟩
abbrev main_call4_call0_v48 : Ref sig .tc := ⟨.hbm, 693, rfl⟩
abbrev main_call4_call0_v49 : Ref sig .tc := ⟨.hbm, 694, rfl⟩
abbrev main_call4_call0_c_12 : Ref sig .tc := ⟨.hbm, 695, rfl⟩
abbrev main_call4_call0_v50 : Ref sig .tc := ⟨.hbm, 696, rfl⟩
abbrev main_call4_call0_v51 : Ref sig .tc := ⟨.hbm, 697, rfl⟩
abbrev main_call4_call0_v52 : Ref sig .tc := ⟨.hbm, 698, rfl⟩
abbrev main_call4_call0_v53 : Ref sig .tc := ⟨.hbm, 699, rfl⟩
abbrev main_call4_call0_v54 : Ref sig .tc := ⟨.hbm, 700, rfl⟩
abbrev main_call4_call0_c_13 : Ref sig .tc := ⟨.hbm, 701, rfl⟩
abbrev main_call4_call0_v55 : Ref sig .tc := ⟨.hbm, 702, rfl⟩
abbrev main_call4_call0_v56 : Ref sig .tc := ⟨.hbm, 703, rfl⟩
abbrev main_call4_call0_c_14 : Ref sig .tc := ⟨.hbm, 704, rfl⟩
abbrev main_call4_call0_v57 : Ref sig .tc := ⟨.hbm, 705, rfl⟩
abbrev main_call4_call0_v58 : Ref sig .tc := ⟨.hbm, 706, rfl⟩
abbrev main_call4_call0_v59 : Ref sig .tc := ⟨.hbm, 707, rfl⟩
abbrev main_call4_call0_v60 : Ref sig .tc := ⟨.hbm, 708, rfl⟩
abbrev main_call4_call0_v61 : Ref sig .tc := ⟨.hbm, 709, rfl⟩
abbrev main_call4_call0_c_15 : Ref sig .tc := ⟨.hbm, 710, rfl⟩
abbrev main_call4_call0_v62 : Ref sig .tc := ⟨.hbm, 711, rfl⟩
abbrev main_call4_call0_v63 : Ref sig .tc := ⟨.hbm, 712, rfl⟩
abbrev main_call4_call0_c_16 : Ref sig .tc := ⟨.hbm, 713, rfl⟩
abbrev main_call4_call0_v64 : Ref sig .tc := ⟨.hbm, 714, rfl⟩
abbrev main_call4_call0_v65 : Ref sig .tc := ⟨.hbm, 715, rfl⟩
abbrev main_call4_call0_v66 : Ref sig .tc := ⟨.hbm, 716, rfl⟩
abbrev main_call4_call0_v67 : Ref sig .tc := ⟨.hbm, 717, rfl⟩
abbrev main_call4_call0_v68 : Ref sig .tc := ⟨.hbm, 718, rfl⟩
abbrev main_call4_call0_v69 : Ref sig .tc := ⟨.hbm, 719, rfl⟩
abbrev main_call4_call0_v70 : Ref sig .tc := ⟨.hbm, 720, rfl⟩
abbrev main_call4_call0_v71 : Ref sig .tc := ⟨.hbm, 721, rfl⟩
abbrev main_call4_call0_c_17 : Ref sig .tc := ⟨.hbm, 722, rfl⟩
abbrev main_call4_call0_v72 : Ref sig .tc := ⟨.hbm, 723, rfl⟩
abbrev main_call4_call0_v73 : Ref sig .tc := ⟨.hbm, 724, rfl⟩
abbrev main_call4_call0_v74 : Ref sig .tc := ⟨.hbm, 725, rfl⟩
abbrev main_call4_call0_c_18 : Ref sig .tc := ⟨.hbm, 726, rfl⟩
abbrev main_call4_call0_v75 : Ref sig .tc := ⟨.hbm, 727, rfl⟩
abbrev main_call4_call0_v76 : Ref sig .tc := ⟨.hbm, 728, rfl⟩
abbrev main_call4_call0_c_19 : Ref sig .tc := ⟨.hbm, 729, rfl⟩
abbrev main_call4_call0_v77 : Ref sig .tc := ⟨.hbm, 730, rfl⟩
abbrev main_call4_call0_v78 : Ref sig .tc := ⟨.hbm, 731, rfl⟩
abbrev main_call4_call0_v79 : Ref sig .tc := ⟨.hbm, 732, rfl⟩
abbrev main_call4_call0_v80 : Ref sig .tc := ⟨.hbm, 733, rfl⟩
abbrev main_call4_call0_v81 : Ref sig .tc := ⟨.hbm, 734, rfl⟩
abbrev main_call4_call0_c_20 : Ref sig .tc := ⟨.hbm, 735, rfl⟩
abbrev main_call4_call0_v82 : Ref sig .tc := ⟨.hbm, 736, rfl⟩
abbrev main_call4_call0_v83 : Ref sig .tc := ⟨.hbm, 737, rfl⟩
abbrev main_call4_call0_c_21 : Ref sig .tc := ⟨.hbm, 738, rfl⟩
abbrev main_call4_call0_v84 : Ref sig .tc := ⟨.hbm, 739, rfl⟩
abbrev main_call4_call0_v85 : Ref sig .tc := ⟨.hbm, 740, rfl⟩
abbrev main_call4_call0_v86 : Ref sig .tc := ⟨.hbm, 741, rfl⟩
abbrev main_call4_call0_v87 : Ref sig .tc := ⟨.hbm, 742, rfl⟩
abbrev main_call4_call0_v88 : Ref sig .tc := ⟨.hbm, 743, rfl⟩
abbrev main_call4_call0_c_22 : Ref sig .tc := ⟨.hbm, 744, rfl⟩
abbrev main_call4_call0_v89 : Ref sig .tc := ⟨.hbm, 745, rfl⟩
abbrev main_call4_call0_v90 : Ref sig .tc := ⟨.hbm, 746, rfl⟩
abbrev main_call4_call0_c_23 : Ref sig .tc := ⟨.hbm, 747, rfl⟩
abbrev main_call4_call0_v91 : Ref sig .tc := ⟨.hbm, 748, rfl⟩
abbrev main_call4_call0_v92 : Ref sig .tc := ⟨.hbm, 749, rfl⟩
abbrev main_call4_call0_v93 : Ref sig .tc := ⟨.hbm, 750, rfl⟩
abbrev main_call4_call0_v94 : Ref sig .tc := ⟨.hbm, 751, rfl⟩
abbrev main_call4_call0_v95 : Ref sig .tc := ⟨.hbm, 752, rfl⟩
abbrev main_call4_call0_c_24 : Ref sig .tc := ⟨.hbm, 753, rfl⟩
abbrev main_call4_call0_v96 : Ref sig .tc := ⟨.hbm, 754, rfl⟩
abbrev main_call4_call0_v97 : Ref sig .tc := ⟨.hbm, 755, rfl⟩
abbrev main_call4_call0_c_25 : Ref sig .tc := ⟨.hbm, 756, rfl⟩
abbrev main_call4_call0_v98 : Ref sig .tc := ⟨.hbm, 757, rfl⟩
abbrev main_call4_call0_v99 : Ref sig .tc := ⟨.hbm, 758, rfl⟩
abbrev main_call4_call0_v100 : Ref sig .tc := ⟨.hbm, 759, rfl⟩
abbrev main_call4_call0_v101 : Ref sig .tc := ⟨.hbm, 760, rfl⟩
abbrev main_call4_call0_v102 : Ref sig .tc := ⟨.hbm, 761, rfl⟩
abbrev main_call4_call0_v103 : Ref sig .tc := ⟨.hbm, 762, rfl⟩
abbrev main_call4_call0_v104 : Ref sig .tc := ⟨.hbm, 763, rfl⟩
abbrev main_call4_call0_v105 : Ref sig .tc := ⟨.hbm, 764, rfl⟩
abbrev main_call4_call0_c_26 : Ref sig .tc := ⟨.hbm, 765, rfl⟩
abbrev main_call4_call0_v106 : Ref sig .tc := ⟨.hbm, 766, rfl⟩
abbrev main_call4_call0_v107 : Ref sig .tc := ⟨.hbm, 767, rfl⟩
abbrev main_call4_call0_v108 : Ref sig .tc := ⟨.hbm, 768, rfl⟩
abbrev main_call4_call0_c_27 : Ref sig .tc := ⟨.hbm, 769, rfl⟩
abbrev main_call4_call0_v109 : Ref sig .tc := ⟨.hbm, 770, rfl⟩
abbrev main_call4_call0_v110 : Ref sig .tc := ⟨.hbm, 771, rfl⟩
abbrev main_call4_call0_c_28 : Ref sig .tc := ⟨.hbm, 772, rfl⟩
abbrev main_call4_call0_v111 : Ref sig .tc := ⟨.hbm, 773, rfl⟩
abbrev main_call4_call0_v112 : Ref sig .tc := ⟨.hbm, 774, rfl⟩
abbrev main_call4_call0_v113 : Ref sig .tc := ⟨.hbm, 775, rfl⟩
abbrev main_call4_call0_v114 : Ref sig .tc := ⟨.hbm, 776, rfl⟩
abbrev main_call4_call0_v115 : Ref sig .tc := ⟨.hbm, 777, rfl⟩
abbrev main_call4_call0_c_29 : Ref sig .tc := ⟨.hbm, 778, rfl⟩
abbrev main_call4_call0_v116 : Ref sig .tc := ⟨.hbm, 779, rfl⟩
abbrev main_call4_call0_v117 : Ref sig .tc := ⟨.hbm, 780, rfl⟩
abbrev main_call4_call0_c_30 : Ref sig .tc := ⟨.hbm, 781, rfl⟩
abbrev main_call4_call0_v118 : Ref sig .tc := ⟨.hbm, 782, rfl⟩
abbrev main_call4_call0_v119 : Ref sig .tc := ⟨.hbm, 783, rfl⟩
abbrev main_call4_call0_v120 : Ref sig .tc := ⟨.hbm, 784, rfl⟩
abbrev main_call4_call0_v121 : Ref sig .tc := ⟨.hbm, 785, rfl⟩
abbrev main_call4_call0_v122 : Ref sig .tc := ⟨.hbm, 786, rfl⟩
abbrev main_call4_call0_c_31 : Ref sig .tc := ⟨.hbm, 787, rfl⟩
abbrev main_call4_call0_v123 : Ref sig .tc := ⟨.hbm, 788, rfl⟩
abbrev main_call4_call0_v124 : Ref sig .tc := ⟨.hbm, 789, rfl⟩
abbrev main_call4_call0_c_32 : Ref sig .tc := ⟨.hbm, 790, rfl⟩
abbrev main_call4_call0_v125 : Ref sig .tc := ⟨.hbm, 791, rfl⟩
abbrev main_call4_call0_v126 : Ref sig .tc := ⟨.hbm, 792, rfl⟩
abbrev main_call4_call0_v127 : Ref sig .tc := ⟨.hbm, 793, rfl⟩
abbrev main_call4_call0_v128 : Ref sig .tc := ⟨.hbm, 794, rfl⟩
abbrev main_call4_call0_v129 : Ref sig .tc := ⟨.hbm, 795, rfl⟩
abbrev main_call4_call0_c_33 : Ref sig .tc := ⟨.hbm, 796, rfl⟩
abbrev main_call4_call0_v130 : Ref sig .tc := ⟨.hbm, 797, rfl⟩
abbrev main_call4_call0_v131 : Ref sig .tc := ⟨.hbm, 798, rfl⟩
abbrev main_call4_call0_c_34 : Ref sig .tc := ⟨.hbm, 799, rfl⟩
abbrev main_call4_call0_v132 : Ref sig .tc := ⟨.hbm, 800, rfl⟩
abbrev main_call4_call0_v133 : Ref sig .tc := ⟨.hbm, 801, rfl⟩
abbrev main_call4_call0_v134 : Ref sig .tc := ⟨.hbm, 802, rfl⟩
abbrev main_call4_call0_v135 : Ref sig .tc := ⟨.hbm, 803, rfl⟩
abbrev main_call4_call0_v136 : Ref sig .tc := ⟨.hbm, 804, rfl⟩
abbrev main_call4_call0_v137 : Ref sig .tc := ⟨.hbm, 805, rfl⟩
abbrev main_call4_call0_v138 : Ref sig .tc := ⟨.hbm, 806, rfl⟩
abbrev main_call4_call0_v139 : Ref sig .tc := ⟨.hbm, 807, rfl⟩
abbrev main_call4_call0_c_35 : Ref sig .tc := ⟨.hbm, 808, rfl⟩
abbrev main_call4_call0_v140 : Ref sig .tc := ⟨.hbm, 809, rfl⟩
abbrev main_call4_call0_v141 : Ref sig .tc := ⟨.hbm, 810, rfl⟩
abbrev main_call4_call0_v142 : Ref sig .tc := ⟨.hbm, 811, rfl⟩
abbrev main_call4_call0_c_36 : Ref sig .tc := ⟨.hbm, 812, rfl⟩
abbrev main_call4_call0_v143 : Ref sig .tc := ⟨.hbm, 813, rfl⟩
abbrev main_call4_call0_v144 : Ref sig .tc := ⟨.hbm, 814, rfl⟩
abbrev main_call4_call0_c_37 : Ref sig .tc := ⟨.hbm, 815, rfl⟩
abbrev main_call4_call0_v145 : Ref sig .tc := ⟨.hbm, 816, rfl⟩
abbrev main_call4_call0_v146 : Ref sig .tc := ⟨.hbm, 817, rfl⟩
abbrev main_call4_call0_v147 : Ref sig .tc := ⟨.hbm, 818, rfl⟩
abbrev main_call4_call0_v148 : Ref sig .tc := ⟨.hbm, 819, rfl⟩
abbrev main_call4_call0_v149 : Ref sig .tc := ⟨.hbm, 820, rfl⟩
abbrev main_call4_call0_c_38 : Ref sig .tc := ⟨.hbm, 821, rfl⟩
abbrev main_call4_call0_v150 : Ref sig .tc := ⟨.hbm, 822, rfl⟩
abbrev main_call4_call0_v151 : Ref sig .tc := ⟨.hbm, 823, rfl⟩
abbrev main_call4_call0_c_39 : Ref sig .tc := ⟨.hbm, 824, rfl⟩
abbrev main_call4_call0_v152 : Ref sig .tc := ⟨.hbm, 825, rfl⟩
abbrev main_call4_call0_v153 : Ref sig .tc := ⟨.hbm, 826, rfl⟩
abbrev main_call4_call0_v154 : Ref sig .tc := ⟨.hbm, 827, rfl⟩
abbrev main_call4_call0_v155 : Ref sig .tc := ⟨.hbm, 828, rfl⟩
abbrev main_call4_call0_v156 : Ref sig .tc := ⟨.hbm, 829, rfl⟩
abbrev main_call4_call0_c_40 : Ref sig .tc := ⟨.hbm, 830, rfl⟩
abbrev main_call4_call0_v157 : Ref sig .tc := ⟨.hbm, 831, rfl⟩
abbrev main_call4_call0_v158 : Ref sig .tc := ⟨.hbm, 832, rfl⟩
abbrev main_call4_call0_c_41 : Ref sig .tc := ⟨.hbm, 833, rfl⟩
abbrev main_call4_call0_v159 : Ref sig .tc := ⟨.hbm, 834, rfl⟩
abbrev main_call4_call0_v160 : Ref sig .tc := ⟨.hbm, 835, rfl⟩
abbrev main_call4_call0_v161 : Ref sig .tc := ⟨.hbm, 836, rfl⟩
abbrev main_call4_call0_v162 : Ref sig .tc := ⟨.hbm, 837, rfl⟩
abbrev main_call4_call0_v163 : Ref sig .tc := ⟨.hbm, 838, rfl⟩
abbrev main_call4_call0_c_42 : Ref sig .tc := ⟨.hbm, 839, rfl⟩
abbrev main_call4_call0_v164 : Ref sig .tc := ⟨.hbm, 840, rfl⟩
abbrev main_call4_call0_v165 : Ref sig .tc := ⟨.hbm, 841, rfl⟩
abbrev main_call4_call0_c_43 : Ref sig .tc := ⟨.hbm, 842, rfl⟩
abbrev main_call4_call0_v166 : Ref sig .tc := ⟨.hbm, 843, rfl⟩
abbrev main_call4_call0_v167 : Ref sig .tc := ⟨.hbm, 844, rfl⟩
abbrev main_call4_call0_v168 : Ref sig .tc := ⟨.hbm, 845, rfl⟩
abbrev main_call4_call0_v169 : Ref sig .tc := ⟨.hbm, 846, rfl⟩
abbrev main_call4_call0_v170 : Ref sig .tc := ⟨.hbm, 847, rfl⟩
abbrev main_call4_v31_0 : Ref sig .tc := ⟨.hbm, 848, rfl⟩
abbrev main_call4_call0_v172 : Ref sig .tc := ⟨.hbm, 849, rfl⟩
abbrev main_call4_call0_v173 : Ref sig .tc := ⟨.hbm, 850, rfl⟩
abbrev main_call4_call0_c_44 : Ref sig .tc := ⟨.hbm, 851, rfl⟩
abbrev main_call4_call0_v174 : Ref sig .tc := ⟨.hbm, 852, rfl⟩
abbrev main_call4_v31_1 : Ref sig .tc := ⟨.hbm, 853, rfl⟩
abbrev main_call4_v32 : Ref sig .tc := ⟨.hbm, 854, rfl⟩
abbrev main_call4_c_5 : Ref sig .tc := ⟨.hbm, 855, rfl⟩
abbrev main_call4_v33 : Ref sig .tc := ⟨.hbm, 856, rfl⟩
abbrev main_call4_v34 : Ref sig .tc := ⟨.hbm, 857, rfl⟩
abbrev main_call4_c_6 : Ref sig .tc := ⟨.hbm, 858, rfl⟩
abbrev main_call4_v35 : Ref sig .tc := ⟨.hbm, 859, rfl⟩
abbrev main_call4_v36 : Ref sig .tc := ⟨.hbm, 860, rfl⟩
abbrev main_call4_v37 : Ref sig .tc := ⟨.hbm, 861, rfl⟩
abbrev main_call4_cst : Ref sig .tc := ⟨.hbm, 862, rfl⟩
abbrev main_call4_v38 : Ref sig .tc := ⟨.hbm, 863, rfl⟩
abbrev main_call4_v39 : Ref sig .tc := ⟨.hbm, 864, rfl⟩
abbrev main_call4_v40 : Ref sig .tc := ⟨.hbm, 865, rfl⟩
abbrev main_call4_v41 : Ref sig .tc := ⟨.hbm, 866, rfl⟩
abbrev main_call4_v42 : Ref sig .tc := ⟨.hbm, 867, rfl⟩
abbrev main_call4_v43 : Ref sig .tc := ⟨.hbm, 868, rfl⟩
abbrev main_call4_v44 : Ref sig .tc := ⟨.hbm, 869, rfl⟩
abbrev main_call4_v45 : Ref sig .tc := ⟨.hbm, 870, rfl⟩
abbrev main_v55 : Ref sig .tc := ⟨.hbm, 871, rfl⟩
abbrev main_cst_18 : Ref sig .tc := ⟨.hbm, 872, rfl⟩
abbrev main_v56 : Ref sig .tc := ⟨.hbm, 873, rfl⟩
abbrev main_v57 : Ref sig .tc := ⟨.hbm, 874, rfl⟩
abbrev main_v58 : Ref sig .tc := ⟨.hbm, 875, rfl⟩
abbrev main_v59 : Ref sig .tc := ⟨.hbm, 876, rfl⟩
abbrev main_v60 : Ref sig .tc := ⟨.hbm, 877, rfl⟩
abbrev main_v61 : Ref sig .tc := ⟨.hbm, 878, rfl⟩
abbrev main_v62 : Ref sig .tc := ⟨.hbm, 879, rfl⟩
abbrev main_cst_19 : Ref sig .tc := ⟨.hbm, 880, rfl⟩
abbrev main_v63 : Ref sig .tc := ⟨.hbm, 881, rfl⟩
abbrev main_v64 : Ref sig .tc := ⟨.hbm, 882, rfl⟩
abbrev main_cst_20 : Ref sig .tc := ⟨.hbm, 883, rfl⟩
abbrev main_v65 : Ref sig .tc := ⟨.hbm, 884, rfl⟩
abbrev main_cst_21 : Ref sig .tc := ⟨.hbm, 885, rfl⟩
abbrev main_v66 : Ref sig .tc := ⟨.hbm, 886, rfl⟩
abbrev main_v67 : Ref sig .tc := ⟨.hbm, 887, rfl⟩
abbrev main_v68 : Ref sig .tc := ⟨.hbm, 888, rfl⟩
abbrev main_v69 : Ref sig .tc := ⟨.hbm, 889, rfl⟩
abbrev main_v70 : Ref sig .tc := ⟨.hbm, 890, rfl⟩
abbrev main_v71 : Ref sig .tc := ⟨.hbm, 891, rfl⟩
abbrev main_cst_22 : Ref sig .tc := ⟨.hbm, 892, rfl⟩
abbrev main_v72 : Ref sig .tc := ⟨.hbm, 893, rfl⟩
abbrev main_v73 : Ref sig .tc := ⟨.hbm, 894, rfl⟩
abbrev main_v74 : Ref sig .tc := ⟨.hbm, 895, rfl⟩
abbrev main_v75 : Ref sig .tc := ⟨.hbm, 896, rfl⟩
abbrev main_call5_v0 : Ref sig .tc := ⟨.hbm, 897, rfl⟩
abbrev main_call5_cst : Ref sig .tc := ⟨.hbm, 898, rfl⟩
abbrev main_call5_c : Ref sig .tc := ⟨.hbm, 899, rfl⟩
abbrev main_call5_v1_0 : Ref sig .tc := ⟨.hbm, 900, rfl⟩
abbrev main_v76 : Ref sig .tc := ⟨.hbm, 901, rfl⟩
abbrev main_call6_v0 : Ref sig .tc := ⟨.hbm, 902, rfl⟩
abbrev main_call6_v1 : Ref sig .tc := ⟨.hbm, 903, rfl⟩
abbrev main_call6_v2 : Ref sig .tc := ⟨.hbm, 904, rfl⟩
abbrev main_call6_v3 : Ref sig .tc := ⟨.hbm, 905, rfl⟩
abbrev main_call6_v4 : Ref sig .tc := ⟨.hbm, 906, rfl⟩
abbrev main_v77 : Ref sig .tc := ⟨.hbm, 907, rfl⟩
abbrev main_v78 : Ref sig .tc := ⟨.hbm, 908, rfl⟩
abbrev main_v79 : Ref sig .tc := ⟨.hbm, 909, rfl⟩
abbrev main_call7_v0 : Ref sig .tc := ⟨.hbm, 910, rfl⟩
abbrev main_call7_cst : Ref sig .tc := ⟨.hbm, 911, rfl⟩
abbrev main_call7_c : Ref sig .tc := ⟨.hbm, 912, rfl⟩
abbrev main_call7_v1_0 : Ref sig .tc := ⟨.hbm, 913, rfl⟩
abbrev main_v80 : Ref sig .tc := ⟨.hbm, 914, rfl⟩
abbrev main_v81 : Ref sig .tc := ⟨.hbm, 915, rfl⟩
abbrev main_v82 : Ref sig .tc := ⟨.hbm, 916, rfl⟩
abbrev main_v83 : Ref sig .tc := ⟨.hbm, 917, rfl⟩
abbrev main_v84 : Ref sig .tc := ⟨.hbm, 918, rfl⟩

abbrev nD : Nat := 1
abbrev τ : Topo := Topo.v7x

variable {F : FTy → Type} [FloatOps F]
-- ==== Proof.Words.lean ====
/-
  The counter-based generator on one pair of 32-bit words: twenty rounds of add, rotate and exclusive-or,
  in five groups of four, a pair of key words added after each group.
-/
module

public import Idealize.ShloMosaic.Lib.IdealHost

@[expose] public section

namespace Cert.Words

/-- A word. -/
abbrev W := BitVec 32

/-- One round: the words' sum, and the second word turned left by `a` (right by `b = 32 - a`) against it. -/
def turn (a b : W) (p : W × W) : W × W := (p.1 + p.2, (p.1 + p.2) ^^^ ((p.2 <<< a) ||| (p.2 >>> b)))

/-- The key words `k`, `l` added, the second with the group's number. -/
def inject (k l i : W) (p : W × W) : W × W := (p.1 + k, p.2 + l + i)

/-- A group of four rounds with the first set of turns. -/
def groupA (p : W × W) : W × W := turn 6 26 (turn 26 6 (turn 15 17 (turn 13 19 p)))

/-- A group of four rounds with the second set of turns. -/
def groupB (p : W × W) : W × W := turn 24 8 (turn 16 16 (turn 29 3 (turn 17 15 p)))

/-- The third key word. -/
def third (k l : W) : W := k ^^^ l ^^^ 466688986#32

/-- The twenty rounds on counter words `c`, `d` under the key `k`, `l`. -/
def cipher (k l c d : W) : W × W :=
  inject (third k l) k 5 (groupA
  (inject l (third k l) 4 (groupB
  (inject k l 3 (groupA
  (inject (third k l) k 2 (groupB
  (inject l (third k l) 1 (groupA (c + k, d + l))))))))))

/-- The random word at a counter: the two words of the output against each other. -/
def bits (k l c d : W) : W := (cipher k l c d).1 ^^^ (cipher k l c d).2

/-- The two words of the seed. -/
def seedHi : W := Idealize.ShloMosaic.IntOp.shrui .host 42#32 32#32
@[inherit_doc seedHi]
def seedLo : W := 42#32 &&& 4294967295#32

/-- The two words of the `r`-th key split off the seed. -/
def subkey (r : W) : W × W := cipher seedHi seedLo 0 r

/-- The random word of the `r`-th key at a counter below 2³². -/
def randBits (r n : W) : W := bits (subkey r).1 (subkey r).2 0 n

end Cert.Words
-- ==== Proof.KernelCipher.lean ====
/-
  The kernel's random words: at every place of a block, the two draws' rounds are the generator's rounds.
-/
module

public import proofs.«01_k».proof.Proof.Gen.KernelIdeal.Skeleton
public import proofs.«01_k».proof.Proof.Words
public import Idealize.ShloMosaic.Lib.Pipeline.Value

@[expose] public section

noncomputable section

namespace Cert.KernelCipher

open Idealize.ShloMosaic Cert.KernelIdeal Cert.KernelIdeal.Gen Cert.Words

/-- The block's word vectors. -/
abbrev V := IVec S512x1024 32

/-- A word added in last is added in first. -/
theorem inject_eq (k l i : W) (p : W × W) : (p.1 + k, p.2 + (l + i)) = inject k l i p := by
  simp [inject, BitVec.add_assoc]

/-- A counter's high word is zero. -/
theorem start (k : W) : (0 : W) + k = k := by simp

variable (k l t a p : W) (j : S512x1024.Idx)

/-! ## The first draw -/

theorem first_a : (k0_pay12 (F := Ideal) a p k l j, k0_pay13 (F := Ideal) a p k l j)
    = turn 26 6 (turn 15 17 (turn 13 19 (k, k0_pay7 (F := Ideal) a p l j))) := rfl

theorem first_b (x y : V) : (k0_pay24 (F := Ideal) k l t x y j, k0_pay23 (F := Ideal) k l t x y j)
    = (fun q : W × W => (q.1 + q.2, q.2)) (inject t k 2 (groupB (inject l t 1 (turn 6 26 (x j, y j))))) := by
  rw [← inject_eq, ← inject_eq]; rfl

theorem first_c (x y : V) (q : W × W) (hx : x j = q.2) (hy : y j = q.1 + q.2) :
    (k0_pay37 (F := Ideal) k l x y k0_pay25 j, k0_pay36 (F := Ideal) k l x y k0_pay25 j)
    = (fun q : W × W => (q.1 + q.2, q.2)) (turn 29 3 (turn 17 15 (inject k l 3 (groupA q)))) := by
  obtain ⟨q1, q2⟩ := q
  rw [← inject_eq]
  simp only at hx hy
  have h26 : (y j, k0_pay26 x y k0_pay25 j) = turn 13 19 (q1, q2) := by
    rw [turn, ← hy, ← hx]; rfl
  unfold groupA; rw [← h26]; rfl

theorem first_d (x y : V) (q : W × W) (hx : x j = q.2) (hy : y j = q.1 + q.2) :
    (k0_pay50 (F := Ideal) l t x y k0_pay38 j, k0_pay49 (F := Ideal) l t x y k0_pay38 j)
    = (fun q : W × W => (q.1 + t, q.2)) (groupA (inject l t 4 (turn 24 8 (turn 16 16 q)))) := by
  obtain ⟨q1, q2⟩ := q
  rw [← inject_eq]
  simp only at hx hy
  have h : (y j, k0_pay39 x y k0_pay38 j) = turn 16 16 (q1, q2) := by
    rw [turn, ← hy, ← hx]; rfl
  rw [← h]; rfl

/-- The vectors the first draw leaves for its mask. -/
def first (k l a p : W) : V × V :=
  let t : W := third k l
  let x71 := k0_pay12 (F := Ideal) a p k l
  let x77 := k0_pay13 (F := Ideal) a p k l
  let x122 := k0_pay23 (F := Ideal) k l t x71 x77
  let x123 := k0_pay24 (F := Ideal) k l t x71 x77
  let x169 := k0_pay36 (F := Ideal) k l x122 x123 k0_pay25
  let x170 := k0_pay37 (F := Ideal) k l x122 x123 k0_pay25
  (k0_pay49 (F := Ideal) l t x169 x170 k0_pay38, k0_pay50 (F := Ideal) l t x169 x170 k0_pay38)

/-- The first draw is the generator's word at the place's counter. -/
theorem first_bits (n : W) (h : k0_pay7 (F := Ideal) a p l j = n + l) :
    (first k l a p).2 j ^^^ ((first k l a p).1 j + (k + 5#32)) = bits k l 0 n := by
  have ha := first_a k l a p j
  rw [h] at ha
  have hb := first_b k l (third k l) j (k0_pay12 (F := Ideal) a p k l) (k0_pay13 (F := Ideal) a p k l)
  rw [ha] at hb
  dsimp only at hb
  obtain ⟨hb1, hb2⟩ := Prod.mk.inj hb
  have hc := first_c k l j (k0_pay23 (F := Ideal) k l (third k l) (k0_pay12 (F := Ideal) a p k l) (k0_pay13 (F := Ideal) a p k l))
    (k0_pay24 (F := Ideal) k l (third k l) (k0_pay12 (F := Ideal) a p k l) (k0_pay13 (F := Ideal) a p k l)) _ hb2 hb1
  dsimp only at hc
  obtain ⟨hc1, hc2⟩ := Prod.mk.inj hc
  have hd := Prod.ext_iff.mp (first_d l (third k l) j _ _ _ hc2 hc1)
  have h1 : (first k l a p).1 j = _ := hd.2
  have h2 : (first k l a p).2 j = _ := hd.1
  rw [h1, h2, bits, cipher, start, ← inject_eq (third k l) k 5]
  rfl

/-! ## The second draw -/

theorem second_a (b : W) (v : V) :
    (k0_pay68 (F := Ideal) l (k0_pay53 (F := Ideal) b v l) t (k0_pay54 (F := Ideal) b v k l) (k0_pay55 (F := Ideal) b v l) k0_pay56 j,
      k0_pay67 (F := Ideal) l (k0_pay53 (F := Ideal) b v l) t (k0_pay54 (F := Ideal) b v k l) (k0_pay55 (F := Ideal) b v l) k0_pay56 j)
    = (fun q : W × W => (q.1 + q.2, q.2)) (turn 29 3 (turn 17 15 (inject l t 1 (groupA (k, k0_pay53 (F := Ideal) b v l j))))) := by
  rw [← inject_eq]; rfl

theorem second_b (x y z : V) (q : W × W) (hx : x j = q.2) (hy : y j = q.1 + q.2) (hz : z j = q.2 <<< (16#32 : W)) :
    (k0_pay81 (F := Ideal) k t x y z k0_pay70 j, k0_pay82 (F := Ideal) k l t x y z k0_pay70 j)
    = inject k l 3 (groupA (inject t k 2 (turn 24 8 (turn 16 16 q)))) := by
  obtain ⟨q1, q2⟩ := q
  rw [← inject_eq, ← inject_eq]
  simp only at hx hy hz
  have h : (y j, k0_pay71 x y z k0_pay70 j) = turn 16 16 (q1, q2) := by
    show (y j, y j ^^^ (z j ||| x j >>> (16#32 : W))) = _
    rw [hx, hy, hz]; rfl
  rw [← h]; rfl

theorem second_c (x y : V) :
    (k0_pay93 (F := Ideal) l t x y j, k0_pay94 (F := Ideal) l t x y j)
    = turn 15 17 (turn 13 19 (inject l t 4 (groupB (x j, y j)))) := by
  rw [← inject_eq]; rfl

/-- The vectors the second draw leaves for its choice. -/
def second (k l b : W) (v : V) : V × V :=
  let t : W := third k l
  let x251 := k0_pay53 (F := Ideal) b v l
  let x255 := k0_pay54 (F := Ideal) b v k l
  let x257 := k0_pay55 (F := Ideal) b v l
  let x301 := k0_pay67 (F := Ideal) l x251 t x255 x257 k0_pay56
  let x302 := k0_pay68 (F := Ideal) l x251 t x255 x257 k0_pay56
  let x304 := k0_pay69 (F := Ideal) l x251 t x255 x257 k0_pay56
  let x350 := k0_pay81 (F := Ideal) k t x301 x302 x304 k0_pay70
  let x353 := k0_pay82 (F := Ideal) k l t x301 x302 x304 k0_pay70
  (k0_pay93 (F := Ideal) l t x350 x353, k0_pay94 (F := Ideal) l t x350 x353)

/-- The second draw's last rounds. -/
def rest (k t : W) (q : W × W) : W :=
  ((turn 6 26 (turn 26 6 q)).1 + t) ^^^ ((turn 6 26 (turn 26 6 q)).2 + (k + 5#32))

/-- The second draw is the generator's word at the place's counter. -/
theorem second_bits (b : W) (v : V) (n : W) (h : k0_pay53 (F := Ideal) b v l j = n + l) :
    rest k (third k l) ((second k l b v).1 j, (second k l b v).2 j) = bits k l 0 n := by
  have ha := second_a k l (third k l) j b v
  rw [h] at ha
  dsimp only at ha
  obtain ⟨ha1, ha2⟩ := Prod.mk.inj ha
  have hb := second_b k l (third k l) j
    (k0_pay67 (F := Ideal) l (k0_pay53 (F := Ideal) b v l) (third k l) (k0_pay54 (F := Ideal) b v k l) (k0_pay55 (F := Ideal) b v l) k0_pay56)
    (k0_pay68 (F := Ideal) l (k0_pay53 (F := Ideal) b v l) (third k l) (k0_pay54 (F := Ideal) b v k l) (k0_pay55 (F := Ideal) b v l) k0_pay56)
    (k0_pay69 (F := Ideal) l (k0_pay53 (F := Ideal) b v l) (third k l) (k0_pay54 (F := Ideal) b v k l) (k0_pay55 (F := Ideal) b v l) k0_pay56)
    (turn 29 3 (turn 17 15 (inject l (third k l) 1 (groupA (k, n + l))))) ha2 ha1
    (by rw [show (k0_pay69 (F := Ideal) l (k0_pay53 (F := Ideal) b v l) (third k l) (k0_pay54 (F := Ideal) b v k l) (k0_pay55 (F := Ideal) b v l) k0_pay56) j = (k0_pay67 (F := Ideal) l (k0_pay53 (F := Ideal) b v l) (third k l) (k0_pay54 (F := Ideal) b v k l) (k0_pay55 (F := Ideal) b v l) k0_pay56) j <<< (16#32 : W) from rfl, ha2])
  have hc := second_c l (third k l) j
    (k0_pay81 (F := Ideal) k (third k l) (k0_pay67 (F := Ideal) l (k0_pay53 (F := Ideal) b v l) (third k l) (k0_pay54 (F := Ideal) b v k l) (k0_pay55 (F := Ideal) b v l) k0_pay56)
      (k0_pay68 (F := Ideal) l (k0_pay53 (F := Ideal) b v l) (third k l) (k0_pay54 (F := Ideal) b v k l) (k0_pay55 (F := Ideal) b v l) k0_pay56)
      (k0_pay69 (F := Ideal) l (k0_pay53 (F := Ideal) b v l) (third k l) (k0_pay54 (F := Ideal) b v k l) (k0_pay55 (F := Ideal) b v l) k0_pay56) k0_pay70)
    (k0_pay82 (F := Ideal) k l (third k l) (k0_pay67 (F := Ideal) l (k0_pay53 (F := Ideal) b v l) (third k l) (k0_pay54 (F := Ideal) b v k l) (k0_pay55 (F := Ideal) b v l) k0_pay56)
      (k0_pay68 (F := Ideal) l (k0_pay53 (F := Ideal) b v l) (third k l) (k0_pay54 (F := Ideal) b v k l) (k0_pay55 (F := Ideal) b v l) k0_pay56)
      (k0_pay69 (F := Ideal) l (k0_pay53 (F := Ideal) b v l) (third k l) (k0_pay54 (F := Ideal) b v k l) (k0_pay55 (F := Ideal) b v l) k0_pay56) k0_pay70)
  rw [hb] at hc
  have h1 : ((second k l b v).1 j, (second k l b v).2 j) = _ := hc
  rw [h1, bits, cipher, rest, start, ← inject_eq (third k l) k 5]
  rfl

/-! ## The counters -/

/-- A place's counter in the block of grid point `a`: its row's number times the row length, and its column. -/
theorem counter_first (r : Fin 512) (c : Fin 1024) (a : Fin 32) :
    k0_pay7 (F := Ideal) (BitVec.ofNat 32 a) 0#32 l (ValueIdx.ix2 r c)
      = BitVec.ofNat 32 ((a.val * 512 + r.val) * 1024 + c.val) + l := by
  have hr : iota .tc S512x1024 32 [0] iota_S512x1024_d0_w32 (ValueIdx.ix2 r c) = BitVec.ofNat 32 r.val :=
    iota_single_apply _ _ _ _ _ _
  have hc : iota .tc S512x1024 32 [1] iota_S512x1024_d1_w32 (ValueIdx.ix2 r c) = BitVec.ofNat 32 c.val :=
    iota_single_apply _ _ _ _ _ _
  have h : k0_pay7 (F := Ideal) (BitVec.ofNat 32 a) 0#32 l (ValueIdx.ix2 r c)
      = (iota .tc S512x1024 32 [0] iota_S512x1024_d0_w32 (ValueIdx.ix2 r c) * 1024#32
          + iota .tc S512x1024 32 [1] iota_S512x1024_d1_w32 (ValueIdx.ix2 r c))
        + ((0#32 + BitVec.ofNat 32 a.val * 512#32) * 1024#32 + l) := rfl
  rw [hr, hc] at h
  rw [h, ← BitVec.add_assoc]
  congr 1
  apply BitVec.eq_of_toNat_eq
  simp [BitVec.toNat_add, BitVec.toNat_mul, BitVec.toNat_ofNat]
  omega

@[inherit_doc counter_first]
theorem counter_second (r : Fin 512) (c : Fin 1024) (a : Fin 32) :
    k0_pay53 (F := Ideal) ((0#32 + BitVec.ofNat 32 a.val * 512#32) * 1024#32) k0_pay6 l (ValueIdx.ix2 r c)
      = BitVec.ofNat 32 ((a.val * 512 + r.val) * 1024 + c.val) + l :=
  counter_first l r c a

end Cert.KernelCipher
-- ==== Proof.KernelBlock.lean ====
/-
  What one grid point leaves in its two output blocks, as a function of the blocks it reads.
-/
module

public import proofs.«01_k».proof.Proof.Gen.KernelIdeal.Frame
public import proofs.«01_k».proof.Proof.KernelCipher
public import Idealize.ShloMosaic.Lib.VecWindow
public import Idealize.ShloMosaic.Lib.IdealHost

@[expose] public section

noncomputable section

namespace Cert.KernelBlock

open Idealize.ShloMosaic Idealize.ShloMosaic.TcCoe Cert.KernelIdeal Cert.KernelIdeal.Gen Cert.Words Cert.KernelCipher
open ValueIdx (ix2)

/-- The column of each place. -/
def column : V := iota .tc S512x1024 32 [1] iota_S512x1024_d1_w32

/-- The block's logits after the random mask: its scores, the mask's threshold, exponent and random words. -/
def masked (a : W) (x0 : Vec Ideal S2x2 .i32) (x1 : Vec Ideal S1x1 .f32) (x2 : Vec Ideal S1x1 .i32)
    (x3 : Vec Ideal S512x8 .f32) (x4 : Vec Ideal S8x1024 .f32) (x6 : Vec Ideal S1x1024 .f32) : FVec Ideal S512x1024 .f32 :=
  k0_pay51 (k0_pay2 x3 x4 (x1 (ix2 0 0))) x6 (k0_pay5 (k0_pay3 x6) (k0_pay4 x6)) (x0 (ix2 0 0))
    (first (x0 (ix2 0 0)) (x0 (ix2 0 1)) a (x2 (ix2 0 0))).1 (first (x0 (ix2 0 0)) (x0 (ix2 0 1)) a (x2 (ix2 0 0))).2 5#32

/-- The block's codes. -/
def codes (a : W) (x0 : Vec Ideal S2x2 .i32) (x1 : Vec Ideal S1x1 .f32) (x2 : Vec Ideal S1x1 .i32)
    (x3 : Vec Ideal S512x8 .f32) (x4 : Vec Ideal S8x1024 .f32) (x6 : Vec Ideal S1x1024 .f32) : IVec S1x1x512 32 :=
  k0_pay52 (k0_pay2 x3 x4 (x1 (ix2 0 0))) x6 (k0_pay5 (k0_pay3 x6) (k0_pay4 x6)) column (x0 (ix2 0 0))
    (first (x0 (ix2 0 0)) (x0 (ix2 0 1)) a (x2 (ix2 0 0))).1 (first (x0 (ix2 0 0)) (x0 (ix2 0 1)) a (x2 (ix2 0 0))).2 5#32

/-- The counter of the block's first place. -/
def base (a p : W) : W := (p + a * 512#32) * 1024#32

/-- The block's choices: the place of each row's largest masked logit with noise. -/
def chosen (a : W) (x0 : Vec Ideal S2x2 .i32) (x1 : Vec Ideal S1x1 .f32) (x2 : Vec Ideal S1x1 .i32)
    (x3 : Vec Ideal S512x8 .f32) (x4 : Vec Ideal S8x1024 .f32) (x6 : Vec Ideal S1x1024 .f32) : IVec S512x1024 1 :=
  k0_pay95 column (masked a x0 x1 x2 x3 x4 x6) (x0 (ix2 1 0)) (third (x0 (ix2 1 0)) (x0 (ix2 1 1)))
    (second (x0 (ix2 1 0)) (x0 (ix2 1 1)) (base a (x2 (ix2 0 0))) k0_pay6).1
    (second (x0 (ix2 1 0)) (x0 (ix2 1 1)) (base a (x2 (ix2 0 0))) k0_pay6).2

/-- A word loaded from a whole table is the table's word there. -/
theorem read_word {s : Shape} {e : EltTy} {sp : Space} (arg : Memref sig .tc sp s e) (harg : arg.IsWhole) (x : Vec Ideal s e)
    {off : Fin s.rank → ℕ} {size : Fin s.rank → ℕ} (inb : ∀ a, off a + size a ≤ s.size a) (y : (Rect.unit off size inb).shape.Idx) :
    arg.view.readAt (Elt Ideal) (Rect.unit off size inb).toLoadRect (harg.unread x) y = x ((Rect.unit off size inb).idx y) := by
  show arg.view.read (Elt Ideal) (harg.unread x) ((Rect.unit off size inb).idx y) = _
  rw [harg.read_unread]

variable (c : Dev nD) (i : grid0.Coords) (arg1 : Memref sig .tc .smem S2x2 .i32) (harg1 : arg1.IsWhole) (arg2 : Memref sig .tc .smem S1x1 .f32) (harg2 : arg2.IsWhole) (arg3 : Memref sig .tc .smem S1x1 .i32) (harg3 : arg3.IsWhole) (arg4 : Memref sig .tc .vmem S512x8 .f32) (harg4 : arg4.IsWhole) (arg5 : Memref sig .tc .vmem S8x1024 .f32) (harg5 : arg5.IsWhole) (arg6 : Memref sig .tc .vmem S1024x8 .f32) (harg6 : arg6.IsWhole) (arg7 : Memref sig .tc .vmem S1x1024 .f32) (harg7 : arg7.IsWhole) (arg8 : Memref sig .tc .vmem S512x8 .f32) (harg8 : arg8.IsWhole) (arg9 : Memref sig .tc .vmem S1x1x512 .i32) (harg9 : arg9.IsWhole)
    (x0 : Vec Ideal S2x2 .i32) (x1 : Vec Ideal S1x1 .f32) (x2 : Vec Ideal S1x1 .i32) (x3 : Vec Ideal S512x8 .f32) (x4 : Vec Ideal S8x1024 .f32) (x5 : Vec Ideal S1024x8 .f32) (x6 : Vec Ideal S1x1024 .f32)

theorem key00 : kernelRun0_A.sl.r_6 c arg1 harg1 x0 = x0 (ix2 0 0) :=
  (read_word arg1 harg1 x0 _ _).trans (congrArg x0 (by funext a; apply Fin.ext; revert a; decide))
theorem key01 : kernelRun0_A.sl.r_7 c arg1 harg1 x0 = x0 (ix2 0 1) :=
  (read_word arg1 harg1 x0 _ _).trans (congrArg x0 (by funext a; apply Fin.ext; revert a; decide))
theorem key10 : kernelRun0_A.sl.r_17 c arg1 harg1 x0 = x0 (ix2 1 0) :=
  (read_word arg1 harg1 x0 _ _).trans (congrArg x0 (by funext a; apply Fin.ext; revert a; decide))
theorem key11 : kernelRun0_A.sl.r_18 c arg1 harg1 x0 = x0 (ix2 1 1) :=
  (read_word arg1 harg1 x0 _ _).trans (congrArg x0 (by funext a; apply Fin.ext; revert a; decide))
theorem scale : kernelRun0_A.sl.r c arg2 harg2 x1 = x1 (ix2 0 0) :=
  (read_word arg2 harg2 x1 _ _).trans (congrArg x1 (by funext a; apply Fin.ext; revert a; decide))
theorem place : kernelRun0_A.sl.r_5 c arg3 harg3 x2 = x2 (ix2 0 0) :=
  (read_word arg3 harg3 x2 _ _).trans (congrArg x2 (by funext a; apply Fin.ext; revert a; decide))
theorem usage : kernelRun0_A.sl.r_2 c arg7 harg7 x6 = x6 := by
  unfold kernelRun0_A.sl.r_2
  rw [View.readAt_full, harg7.read_unread]
theorem scores : kernelRun0_A.sl.r_1 c arg2 harg2 arg4 harg4 arg5 harg5 x1 x3 x4 = k0_pay2 x3 x4 (x1 (ix2 0 0)) := by
  unfold kernelRun0_A.sl.r_1
  rw [View.readAt_full, View.readAt_full, harg4.read_unread, harg5.read_unread, scale]
theorem exponent : kernelRun0_A.sl.r_8 c arg7 harg7 x6 = k0_pay5 (k0_pay3 x6) (k0_pay4 x6) := by
  unfold kernelRun0_A.sl.r_8 kernelRun0_A.sl.r_3 kernelRun0_A.sl.r_4
  rw [View.readAt_full, harg7.read_unread]

theorem first1 : kernelRun0_A.sl.r_15 c i arg1 harg1 arg3 harg3 x0 x2
    = (first (x0 (ix2 0 0)) (x0 (ix2 0 1)) (BitVec.ofNat 32 (i 0).val) (x2 (ix2 0 0))).1 := by
  rw [← key00 c arg1 harg1 x0, ← key01 c arg1 harg1 x0, ← place c arg3 harg3 x2]; rfl
theorem first2 : kernelRun0_A.sl.r_16 c i arg1 harg1 arg3 harg3 x0 x2
    = (first (x0 (ix2 0 0)) (x0 (ix2 0 1)) (BitVec.ofNat 32 (i 0).val) (x2 (ix2 0 0))).2 := by
  rw [← key00 c arg1 harg1 x0, ← key01 c arg1 harg1 x0, ← place c arg3 harg3 x2]; rfl
theorem second1 : kernelRun0_A.sl.r_28 c i arg1 harg1 arg3 harg3 x0 x2
    = (second (x0 (ix2 1 0)) (x0 (ix2 1 1)) (base (BitVec.ofNat 32 (i 0).val) (x2 (ix2 0 0))) k0_pay6).1 := by
  rw [← key10 c arg1 harg1 x0, ← key11 c arg1 harg1 x0, ← place c arg3 harg3 x2]; rfl
theorem second2 : kernelRun0_A.sl.r_29 c i arg1 harg1 arg3 harg3 x0 x2
    = (second (x0 (ix2 1 0)) (x0 (ix2 1 1)) (base (BitVec.ofNat 32 (i 0).val) (x2 (ix2 0 0))) k0_pay6).2 := by
  rw [← key10 c arg1 harg1 x0, ← key11 c arg1 harg1 x0, ← place c arg3 harg3 x2]; rfl

theorem masked_run : kernelRun0_A.sl.r_19 c i arg1 harg1 arg2 harg2 arg3 harg3 arg4 harg4 arg5 harg5 arg7 harg7 x0 x1 x2 x3 x4 x6
    = masked (BitVec.ofNat 32 (i 0).val) x0 x1 x2 x3 x4 x6 := by
  unfold kernelRun0_A.sl.r_19
  rw [scores, usage, exponent, key00, first1, first2]; rfl

theorem chosen_run : kernelRun0_A.sl.r_30 c i arg1 harg1 arg2 harg2 arg3 harg3 arg4 harg4 arg5 harg5 arg7 harg7 x0 x1 x2 x3 x4 x6
    = chosen (BitVec.ofNat 32 (i 0).val) x0 x1 x2 x3 x4 x6 := by
  unfold kernelRun0_A.sl.r_30 kernelRun0_A.sl.v253 kernelRun0_A.sl.v252
  rw [masked_run, key10, key11, second1, second2]; rfl

/-- The code block a grid point writes. -/
theorem out_codes : out0_A_8 c i arg1 harg1 arg2 harg2 arg3 harg3 arg4 harg4 arg5 harg5 arg6 harg6 arg7 harg7 arg8 harg8 arg9 harg9 x0 x1 x2 x3 x4 x5 x6
    = codes (BitVec.ofNat 32 (i 0).val) x0 x1 x2 x3 x4 x6 := by
  unfold out0_A_8 kernelRun0_A
  dsimp only
  rw [View.read_writes_full, scores, usage, exponent, key00, first1, first2]; rfl

/-- The row block a grid point writes. -/
theorem out_rows : out0_A_7 c i arg1 harg1 arg2 harg2 arg3 harg3 arg4 harg4 arg5 harg5 arg6 harg6 arg7 harg7 arg8 harg8 arg9 harg9 x0 x1 x2 x3 x4 x5 x6
    = k0_pay1 (chosen (BitVec.ofNat 32 (i 0).val) x0 x1 x2 x3 x4 x6) x5 := by
  unfold out0_A_7 kernelRun0_A
  dsimp only
  rw [View.read_writes_full, chosen_run, View.readAt_full, harg6.read_unread]

end Cert.KernelBlock
-- ==== Proof.Top.lean ====
/-
  The first of a row's largest elements.
-/
module

public import Idealize.ShloMosaic.Lib.IdealHost

@[expose] public section

namespace Cert.Top

/-- `i` is the first place where the row `f` is largest. -/
def IsTop (f : Fin 1024 → EReal) (i : Fin 1024) : Prop := (∀ j, f j ≤ f i) ∧ ∀ j, j < i → f j < f i

theorem exists_top (f : Fin 1024 → EReal) : ∃ i, IsTop f i := by
  obtain ⟨m, hm⟩ := Finite.exists_max f
  let s : Set (Fin 1024) := {i | f i = f m}
  have hs : s.Nonempty := ⟨m, rfl⟩
  have hw : WellFounded ((· < ·) : Fin 1024 → Fin 1024 → Prop) := wellFounded_lt
  refine ⟨hw.min s hs, ?_, ?_⟩
  · intro j
    have : f (hw.min s hs) = f m := hw.min_mem s hs
    rw [this]; exact hm j
  · intro j hj
    have h1 : f (hw.min s hs) = f m := hw.min_mem s hs
    rw [h1]
    refine lt_of_le_of_ne (hm j) fun h => ?_
    exact hw.not_lt_min s h hj

theorem IsTop.unique {f : Fin 1024 → EReal} {i j : Fin 1024} (hi : IsTop f i) (hj : IsTop f j) : i = j := by
  rcases lt_trichotomy i j with h | h | h
  · exact absurd (hi.1 j) (not_le.mpr (hj.2 i h))
  · exact h
  · exact absurd (hj.1 i) (not_le.mpr (hi.2 j h))

/-- The first place where a row is largest. -/
noncomputable def top (f : Fin 1024 → EReal) : Fin 1024 := Classical.choose (exists_top f)

theorem top_spec (f : Fin 1024 → EReal) : IsTop f (top f) := Classical.choose_spec (exists_top f)

theorem IsTop.eq_top {f : Fin 1024 → EReal} {i : Fin 1024} (hi : IsTop f i) : i = top f := hi.unique (top_spec f)

/-- A strictly increasing image of a row has its top where the row has. -/
theorem IsTop.of_mono {f g : Fin 1024 → EReal} (h : ∀ a b, g a < g b ↔ f a < f b) {i : Fin 1024} (hi : IsTop f i) : IsTop g i :=
  ⟨fun j => not_lt.mp fun hlt => absurd ((h _ _).mp hlt) (not_lt.mpr (hi.1 j)), fun j hj => (h _ _).mpr (hi.2 j hj)⟩

end Cert.Top
-- ==== Proof.KernelChoice.lean ====
/-
  The kernel's search for the first of a row's largest elements: the smallest column where the row meets its maximum.
-/
module

public import proofs.«01_k».proof.Proof.KernelBlock
public import proofs.«01_k».proof.Proof.Top

@[expose] public section

set_option maxRecDepth 16384

noncomputable section

namespace Cert.KernelChoice

open Idealize.ShloMosaic Idealize.ShloMosaic.TcCoe Cert.KernelIdeal Cert.KernelIdeal.Gen Cert.Words Cert.KernelBlock Cert.Top
open ValueIdx (ix1 ix2)

/-- Each row's maximum, laid along the row. -/
def crest (X : FVec Ideal S512x1024 .f32) : FVec Ideal S512x1024 .f32 :=
  broadcastTo S512x1024 (shapeCast S512x1 (multiReduction .maximumf [1] S512 X 0xFF800000#32 reduces_S512x1024_S512 (.inl rfl) rfl)
    shapeCasts_S512_S512x1) broadcasts_S512x1_S512x1024

/-- The column where the row meets its maximum, or 1024. -/
def marks (X : FVec Ideal S512x1024 .f32) : IVec S512x1024 32 := select (cmpf .oeq X (crest X)) column (broadcast S512x1024 1024#32)

/-- The smallest such column of each row. -/
def firsts (X : FVec Ideal S512x1024 .f32) : IVec S512 32 :=
  multiReductionI .minsi [1] S512 (marks X) 2147483647#32 reduces_S512x1024_S512 rfl

theorem lift_eq (r : Fin 512) (k : Fin 1024) : reduces_S512x1024_S512.lift (ix1 r) k = ix2 r k := by
  funext a; match a with | ⟨0, _⟩ => rfl | ⟨1, _⟩ => rfl

theorem fold_max (f : Fin 1024 → EReal) (z : EReal) (hz : z = ⊥) {i : Fin 1024} (hi : ∀ j, f j ≤ f i) :
    Finset.univ.fold max z f = f i := by
  subst hz
  apply le_antisymm
  · rw [Finset.fold_max_le]; exact ⟨bot_le, fun j _ => hi j⟩
  · rw [Finset.le_fold_max]; exact .inr ⟨i, Finset.mem_univ _, le_rfl⟩

theorem crest_at (X : FVec Ideal S512x1024 .f32) (r : Fin 512) (k : Fin 1024) {i : Fin 1024}
    (hi : ∀ j, (X (ix2 r j) : EReal) ≤ X (ix2 r i)) : crest X (ix2 r k) = X (ix2 r i) := by
  refine (broadcastTo_apply _ _ (ix2 r k) (ix2 r 0) ?_).trans ?_
  · intro a; match a with | ⟨0, _⟩ => rfl | ⟨1, _⟩ => rfl
  refine (shapeCast_apply _ _ (ix2 r 0) (ix1 r) ?_).trans ?_
  · rw [Shape.rowMajor_val_one, Shape.rowMajor_val_two]; show r.val = r.val * 1 + 0; omega
  refine (Ideal.multiReduction_maximumf_single _ _ _ _ _ _).trans ?_
  have e : X ∘ reduces_S512x1024_S512.lift (ix1 r) = fun k : Fin 1024 => X (ix2 r k) := by
    funext k; exact congrArg X (lift_eq r k)
  rw [e]
  refine fold_max (fun k => X (ix2 r k)) _ ?_ hi
  simp [Ideal.ofBits, Ideal.ieee]

/-- The smallest of a family of words, below a bound. -/
theorem fold_min {ι : Type} [DecidableEq ι] (s : Finset ι) (z : BitVec 32) (w : ι → BitVec 32) :
    (∀ k ∈ s, (s.fold IKind.minsi.op z w).toInt ≤ (w k).toInt) ∧ (s.fold IKind.minsi.op z w = z ∨ ∃ k ∈ s, s.fold IKind.minsi.op z w = w k) := by
  induction s using Finset.induction_on with
  | empty => exact ⟨fun k hk => absurd hk (Finset.notMem_empty k), .inl (by simp)⟩
  | insert a s ha ih =>
    rw [Finset.fold_insert ha]
    show (∀ k ∈ insert a s, (if (w a).slt _ = true then w a else _).toInt ≤ _) ∧ ((if (w a).slt _ = true then w a else _) = z ∨ ∃ k ∈ insert a s, (if (w a).slt _ = true then w a else _) = w k)
    split
    · rename_i h
      have h : (w a).toInt < _ := BitVec.slt_iff_toInt_lt.mp h
      refine ⟨fun k hk => ?_, .inr ⟨a, Finset.mem_insert_self a s, rfl⟩⟩
      rcases Finset.mem_insert.mp hk with rfl | hk
      · exact le_rfl
      · exact le_trans h.le (ih.1 k hk)
    · rename_i h
      have h := fun h' => h (BitVec.slt_iff_toInt_lt.mpr h')
      refine ⟨fun k hk => ?_, ?_⟩
      · rcases Finset.mem_insert.mp hk with rfl | hk
        · exact not_lt.mp h
        · exact ih.1 k hk
      · rcases ih.2 with h2 | ⟨k, hk, h2⟩
        · exact .inl h2
        · exact .inr ⟨k, Finset.mem_insert_of_mem hk, h2⟩

theorem column_at (r : Fin 512) (k : Fin 1024) : column (ix2 r k) = BitVec.ofNat 32 k.val :=
  iota_single_apply .tc S512x1024 32 _ _ (ix2 r k)

theorem toInt_small (n : ℕ) (h : n ≤ 1024) : (BitVec.ofNat 32 n).toInt = n := by
  rw [BitVec.toInt_eq_toNat_of_lt] <;> simp [BitVec.toNat_ofNat] <;> omega

theorem marks_at (X : FVec Ideal S512x1024 .f32) (r : Fin 512) (k i : Fin 1024) (hi : ∀ j, (X (ix2 r j) : EReal) ≤ X (ix2 r i)) :
    marks X (ix2 r k) = if (X (ix2 r k) : EReal) = X (ix2 r i) then BitVec.ofNat 32 k.val else 1024#32 := by
  have hc := crest_at X r k hi
  show (if FloatOps.cmpf .oeq (X (ix2 r k)) (crest X (ix2 r k)) = 1#1 then column (ix2 r k) else 1024#32) = _
  rw [hc, column_at]
  by_cases h : (X (ix2 r k) : EReal) = X (ix2 r i)
  · rw [if_pos h, if_pos]; rw [Ideal.cmpf_def]; simp [Ideal.cmp, h]
  · rw [if_neg h, if_neg]; rw [Ideal.cmpf_def]; simp [Ideal.cmp, h]

/-- The search finds the first of the row's largest elements. -/
theorem firsts_at (X : FVec Ideal S512x1024 .f32) (r : Fin 512) {i : Fin 1024} (hi : IsTop (fun k => X (ix2 r k)) i) :
    firsts X (ix1 r) = BitVec.ofNat 32 i.val := by
  have e : firsts X (ix1 r) = (Finset.univ : Finset (Fin 1024)).fold IKind.minsi.op 2147483647#32
      (fun k => marks X (ix2 r k)) := by
    refine (multiReductionI_eq_fold _ _ _ _ _ _).trans ((Shape.Reduces.fold_filter_drop_single reduces_S512x1024_S512 _ _ _ _).trans ?_)
    congr 1
    funext k; exact congrArg (marks X) (lift_eq r k)
  rw [e]
  obtain ⟨h1, h2⟩ := fold_min (Finset.univ : Finset (Fin 1024)) 2147483647#32 (fun k => marks X (ix2 r k))
  have hm := h1 i (Finset.mem_univ _)
  rw [marks_at X r i i hi.1, if_pos rfl, toInt_small _ i.isLt.le] at hm
  have := i.isLt
  rcases h2 with h2 | ⟨k, -, h2⟩
  · rw [h2] at hm
    have : (2147483647#32 : BitVec 32).toInt = 2147483647 := by decide
    omega
  · rw [h2] at hm ⊢
    rw [marks_at X r k i hi.1] at hm ⊢
    by_cases hk : (X (ix2 r k) : EReal) = X (ix2 r i)
    · rw [if_pos hk] at hm ⊢
      rw [toInt_small _ k.isLt.le] at hm
      have : ¬ k < i := fun hlt => absurd hk (ne_of_lt (hi.2 k hlt))
      have : k = i := by apply Fin.ext; have := Fin.not_lt.mp this; have : i.val ≤ k.val := this; omega
      rw [this]
    · rw [if_neg hk] at hm
      rw [show (1024#32 : BitVec 32).toInt = 1024 by decide] at hm
      omega

end Cert.KernelChoice
-- ==== Proof.Lines.lean ====
/-
  Straight lines of host operations in which every buffer is written once: the operations come with
  positions that rise along the line, each operation writes the buffer at its own position and reads
  buffers at lower positions only. After such a line every operation is at a fixed point: carrying it
  out again would change nothing. So each operation is an EQUATION between the contents the line leaves,
  and the value of a long line is read off its equations, in any order, with no fold to unroll.
-/
module

public import Idealize.ShloMosaic.Lib.StableHlo.Run

@[expose] public section

set_option maxRecDepth 16384

noncomputable section

namespace Cert.Lines

open Idealize.ShloMosaic Idealize.ShloMosaic.TcCoe Idealize.ShloMosaic.StableHlo

variable {τ : Topo} {sig : RefSig} {Val : EltTy → Type}

/-- The position of a buffer: its index in its memory space. -/
def pos (r : Ref sig .tc) : Nat := r.idx.val

/-- An operation at position `n`: it writes one buffer, at position `n`, and what it writes there is
    decided by the buffers at lower positions. -/
structure Step (op : HloOp τ sig Val) (n : Nat) : Prop where
  touches : op.bufs ⊆ tcRefs τ sig
  fixed : op.fresh = ∅
  writes : ∃ y : Ref sig .tc, pos y = n ∧ op.writes = {Proc.devRef .tc y} ∧
    ∀ F G : Valuation τ sig Val, (∀ r : Ref sig .tc, pos r < n → F (Proc.devRef .tc r) = G (Proc.devRef .tc r)) →
      op.result F (Proc.devRef .tc y) = op.result G (Proc.devRef .tc y)

/-- A line whose positions rise, from at least `n` to below `m`. -/
inductive Rising : Nat → Nat → List (HloOp τ sig Val) → Prop
  | nil (n : Nat) : Rising n n []
  | cons {n k m : Nat} {op : HloOp τ sig Val} {ops : List (HloOp τ sig Val)} (h : n ≤ k) (hs : Step op k)
      (ht : Rising (k + 1) m ops) : Rising n m (op :: ops)

theorem Rising.append {n m k : Nat} {a b : List (HloOp τ sig Val)} (ha : Rising n m a) (hb : Rising m k b) :
    Rising n k (a ++ b) := by
  induction ha with
  | nil _ => exact hb
  | cons h hs _ ih => exact .cons h hs (ih hb)

/-- A buffer at offset `a` stands below offset `b`. -/
theorem below (a b : Nat) {p n : Nat} (h : p = n + a) (hab : Nat.blt a b = true) : p < n + b := by
  have := of_decide_eq_true (p := a < b) (by simpa [Nat.blt_eq] using hab)
  omega

/-- The next operation at the very next position. -/
theorem Rising.next {n m : Nat} {op : HloOp τ sig Val} {ops : List (HloOp τ sig Val)} (hs : Step op n)
    (ht : Rising (n + 1) m ops) : Rising n m (op :: ops) := .cons le_rfl hs ht

theorem Rising.touches {n m : Nat} {ops : List (HloOp τ sig Val)} (h : Rising n m ops) :
    ops.Forall fun op => op.bufs ⊆ tcRefs τ sig := by
  induction h with
  | nil _ => trivial
  | cons _ hs _ ih => exact (List.forall_cons _ _ _).mpr ⟨hs.touches, ih⟩

theorem Rising.fixed {n m : Nat} {ops : List (HloOp τ sig Val)} (h : Rising n m ops) : ∀ op ∈ ops, op.fresh = ∅ := by
  induction h with
  | nil _ => intro op hop; cases hop
  | cons _ hs _ ih =>
    intro op hop
    rcases List.mem_cons.mp hop with rfl | h'
    · exact hs.fixed
    · exact ih op h'

/-- A buffer below the line's positions keeps its contents. -/
theorem Rising.keeps {n m : Nat} {ops : List (HloOp τ sig Val)} (h : Rising n m ops) :
    ∀ (V : Valuation τ sig Val) (r : Ref sig .tc), pos r < n → after ops V (Proc.devRef .tc r) = V (Proc.devRef .tc r) := by
  induction h with
  | nil _ => intro V r _; rfl
  | @cons n k m op ops h hs _ ih =>
    intro V r hr
    obtain ⟨y, hy, hw, _⟩ := hs.writes
    rw [after_cons, ih _ r (by omega)]
    refine HloOp.result_of_not_mem _ _ ?_
    rw [hw, Finset.mem_singleton]
    exact devRef_ne_of_ne fun he => by subst he; omega

/-- After the line, every operation of it leaves everything as it is. -/
theorem Rising.fix {n m : Nat} {ops : List (HloOp τ sig Val)} (h : Rising n m ops) :
    ∀ V : Valuation τ sig Val, ops.Forall fun op => op.result (after ops V) = after ops V := by
  induction h with
  | nil _ => intro V; trivial
  | @cons n k m op ops h hs ht ih =>
    intro V
    refine (List.forall_cons _ _ _).mpr ⟨?_, ih _⟩
    obtain ⟨y, hy, hw, hd⟩ := hs.writes
    funext b
    by_cases hb : b ∈ op.writes
    · rw [hw, Finset.mem_singleton] at hb
      subst hb
      rw [after_cons, ht.keeps _ y (by omega)]
      refine hd _ _ fun r hr => ?_
      rw [ht.keeps _ r (by omega)]
      refine HloOp.result_of_not_mem _ _ ?_
      rw [hw, Finset.mem_singleton]
      exact devRef_ne_of_ne fun he => by subst he; omega
    · exact HloOp.result_of_not_mem _ _ hb

/-! ## The operations at their positions -/

section Steps
variable {n : Nat}

theorem step_nullary (y : Ref sig .tc) (v : y.ty.Contents Val) (hy) (h : pos y = n) :
    Step (StableHlo.nullary y v hy : HloOp τ sig Val) n :=
  ⟨nullary_bufs_sub .., rfl, y, h, rfl, fun F G _ => by rw [nullary_result, nullary_result]⟩

theorem step_unary (x y : Ref sig .tc) (f : x.ty.Contents Val → y.ty.Contents Val) (hx hy) (h : pos y = n)
    (h₁ : pos x < n) : Step (StableHlo.unary x y f hx hy : HloOp τ sig Val) n :=
  ⟨unary_bufs_sub .., rfl, y, h, rfl, fun F G e => by rw [unary_result, unary_result, e x h₁]⟩

theorem step_binary (a b y : Ref sig .tc) (f : a.ty.Contents Val → b.ty.Contents Val → y.ty.Contents Val) (ha hb hy)
    (h : pos y = n) (h₁ : pos a < n) (h₂ : pos b < n) : Step (StableHlo.binary a b y f ha hb hy : HloOp τ sig Val) n :=
  ⟨binary_bufs_sub .., rfl, y, h, rfl, fun F G e => by rw [binary_result, binary_result, e a h₁, e b h₂]⟩

theorem step_ternary (c a b y : Ref sig .tc)
    (f : c.ty.Contents Val → a.ty.Contents Val → b.ty.Contents Val → y.ty.Contents Val) (hc ha hb hy)
    (h : pos y = n) (h₀ : pos c < n) (h₁ : pos a < n) (h₂ : pos b < n) :
    Step (StableHlo.ternary c a b y f hc ha hb hy : HloOp τ sig Val) n :=
  ⟨ternary_bufs_sub .., rfl, y, h, rfl, fun F G e => by rw [ternary_result, ternary_result, e c h₀, e a h₁, e b h₂]⟩

theorem step_quaternary (a b c e y : Ref sig .tc)
    (f : a.ty.Contents Val → b.ty.Contents Val → c.ty.Contents Val → e.ty.Contents Val → y.ty.Contents Val) (ha hb hc he hy)
    (h : pos y = n) (h₁ : pos a < n) (h₂ : pos b < n) (h₃ : pos c < n) (h₄ : pos e < n) :
    Step (StableHlo.quaternary a b c e y f ha hb hc he hy : HloOp τ sig Val) n :=
  ⟨quaternary_bufs_sub .., rfl, y, h, rfl, fun F G g => by
    rw [quaternary_result, quaternary_result, g a h₁, g b h₂, g c h₃, g e h₄]⟩

theorem step_reshape (x y : Ref sig .tc) (he hn hx hy) (h : pos y = n) (h₁ : pos x < n) :
    Step (StableHlo.reshape x y he hn hx hy : HloOp τ sig Val) n :=
  ⟨reshape_bufs_sub .., rfl, y, h, rfl, fun F G e => by rw [reshape_result, reshape_result, e x h₁]⟩

end Steps

/-! ## The operations as equations -/

section Eqs
variable {Z : Valuation τ sig Val}

theorem eq_nullary {y : Ref sig .tc} {v : y.ty.Contents Val} {hy}
    (h : (StableHlo.nullary y v hy : HloOp τ sig Val).result Z = Z) : Z (Proc.devRef .tc y) = v :=
  (congrFun h _).symm.trans (nullary_result ..)

theorem eq_unary {x y : Ref sig .tc} {f : x.ty.Contents Val → y.ty.Contents Val} {hx hy}
    (h : (StableHlo.unary x y f hx hy : HloOp τ sig Val).result Z = Z) :
    Z (Proc.devRef .tc y) = f (Z (Proc.devRef .tc x)) :=
  (congrFun h _).symm.trans (unary_result ..)

theorem eq_binary {a b y : Ref sig .tc} {f : a.ty.Contents Val → b.ty.Contents Val → y.ty.Contents Val} {ha hb hy}
    (h : (StableHlo.binary a b y f ha hb hy : HloOp τ sig Val).result Z = Z) :
    Z (Proc.devRef .tc y) = f (Z (Proc.devRef .tc a)) (Z (Proc.devRef .tc b)) :=
  (congrFun h _).symm.trans (binary_result ..)

theorem eq_ternary {c a b y : Ref sig .tc}
    {f : c.ty.Contents Val → a.ty.Contents Val → b.ty.Contents Val → y.ty.Contents Val} {hc ha hb hy}
    (h : (StableHlo.ternary c a b y f hc ha hb hy : HloOp τ sig Val).result Z = Z) :
    Z (Proc.devRef .tc y) = f (Z (Proc.devRef .tc c)) (Z (Proc.devRef .tc a)) (Z (Proc.devRef .tc b)) :=
  (congrFun h _).symm.trans (ternary_result ..)

theorem eq_quaternary {a b c e y : Ref sig .tc}
    {f : a.ty.Contents Val → b.ty.Contents Val → c.ty.Contents Val → e.ty.Contents Val → y.ty.Contents Val} {ha hb hc he hy}
    (h : (StableHlo.quaternary a b c e y f ha hb hc he hy : HloOp τ sig Val).result Z = Z) :
    Z (Proc.devRef .tc y) = f (Z (Proc.devRef .tc a)) (Z (Proc.devRef .tc b)) (Z (Proc.devRef .tc c)) (Z (Proc.devRef .tc e)) :=
  (congrFun h _).symm.trans (quaternary_result ..)

theorem eq_reshape {x y : Ref sig .tc} {he hn hx hy}
    (h : (StableHlo.reshape x y he hn hx hy : HloOp τ sig Val).result Z = Z) :
    Z (Proc.devRef .tc y) = fun i => he ▸ shapeCast y.ty.shape (Z (Proc.devRef .tc x)) hn i :=
  (congrFun h _).symm.trans (reshape_result ..)

/-! The same for a function's typed references, the contents read at the value's type. -/

/-- What a typed reference holds. -/
def val (Z : Valuation τ sig Val) {T : BufTy} (x : TRef sig T) : T.Contents Val := x.ofBuf (Z (Proc.devRef .tc x.ref))

variable {Ta Tb Tc Td Ty : BufTy}

theorem val_nullary {y : TRef sig Ty} {v : Ty.Contents Val}
    (h : (TRef.nullary y v : HloOp τ sig Val).result Z = Z) : val Z y = v := by
  obtain ⟨y, rfl, _, _⟩ := y
  exact eq_nullary h

theorem val_unary {a : TRef sig Ta} {y : TRef sig Ty} {f : Ta.Contents Val → Ty.Contents Val}
    (h : (TRef.unary a y f : HloOp τ sig Val).result Z = Z) : val Z y = f (val Z a) := by
  obtain ⟨y, rfl, _, _⟩ := y
  obtain ⟨a, rfl, _, _⟩ := a
  exact eq_unary h

theorem val_binary {a : TRef sig Ta} {b : TRef sig Tb} {y : TRef sig Ty} {f : Ta.Contents Val → Tb.Contents Val → Ty.Contents Val}
    (h : (TRef.binary a b y f : HloOp τ sig Val).result Z = Z) : val Z y = f (val Z a) (val Z b) := by
  obtain ⟨y, rfl, _, _⟩ := y
  obtain ⟨a, rfl, _, _⟩ := a
  obtain ⟨b, rfl, _, _⟩ := b
  exact eq_binary h

theorem val_ternary {c : TRef sig Tc} {a : TRef sig Ta} {b : TRef sig Tb} {y : TRef sig Ty}
    {f : Tc.Contents Val → Ta.Contents Val → Tb.Contents Val → Ty.Contents Val}
    (h : (TRef.ternary c a b y f : HloOp τ sig Val).result Z = Z) : val Z y = f (val Z c) (val Z a) (val Z b) := by
  obtain ⟨y, rfl, _, _⟩ := y
  obtain ⟨a, rfl, _, _⟩ := a
  obtain ⟨b, rfl, _, _⟩ := b
  obtain ⟨c, rfl, _, _⟩ := c
  exact eq_ternary h

theorem val_quaternary {a : TRef sig Ta} {b : TRef sig Tb} {c : TRef sig Tc} {d : TRef sig Td} {y : TRef sig Ty}
    {f : Ta.Contents Val → Tb.Contents Val → Tc.Contents Val → Td.Contents Val → Ty.Contents Val}
    (h : (TRef.quaternary a b c d y f : HloOp τ sig Val).result Z = Z) :
    val Z y = f (val Z a) (val Z b) (val Z c) (val Z d) := by
  obtain ⟨y, rfl, _, _⟩ := y
  obtain ⟨a, rfl, _, _⟩ := a
  obtain ⟨b, rfl, _, _⟩ := b
  obtain ⟨c, rfl, _, _⟩ := c
  obtain ⟨d, rfl, _, _⟩ := d
  exact eq_quaternary h

theorem val_reshape {x : TRef sig Ta} {y : TRef sig Ty} {he : Ta.elt = Ty.elt} {hn : Ta.shape.ShapeCasts Ty.shape}
    (h : (TRef.reshape x y he hn : HloOp τ sig Val).result Z = Z) :
    val Z y = fun i => he ▸ shapeCast Ty.shape (val Z x) hn i := by
  obtain ⟨y, rfl, _, _⟩ := y
  obtain ⟨x, rfl, _, _⟩ := x
  exact eq_reshape h

end Eqs

end Cert.Lines
-- ==== Proof.HostCipher.lean ====
/-
  The generator as a line of host operations over tensors of words: per element it is the cipher of
  Words.lean. The operations are grouped as rounds and key additions, over records naming the buffers,
  so that one lemma about a round serves every round of every call.
-/
module

public import proofs.«01_k».proof.Proof.Lines
public import proofs.«01_k».proof.Proof.Words

@[expose] public section

set_option maxRecDepth 16384

noncomputable section

namespace Cert.HostCipher

open Idealize.ShloMosaic Idealize.ShloMosaic.TcCoe Idealize.ShloMosaic.StableHlo
open Cert.Lines Cert.Words

/-- The shape of a scalar. -/
abbrev Sc : Shape := ⟨0, ![]⟩

variable {τ : Topo} {sig : RefSig} {F : FTy → Type} [FloatOps F]

/-- A tensor of words. -/
abbrev WRef (sig : RefSig) (s : Shape) := TRef sig ⟨s, .i32⟩

/-- The buffers of one round. -/
structure Round (sig : RefSig) (s : Shape) where
  y0 : WRef sig s
  ca : WRef sig Sc
  ba : WRef sig s
  sa : WRef sig s
  cb : WRef sig Sc
  bb : WRef sig s
  sb : WRef sig s
  o : WRef sig s
  y1 : WRef sig s

/-- The buffers of one key addition. -/
structure Keys (sig : RefSig) (s : Shape) where
  bk : WRef sig s
  y0 : WRef sig s
  bl : WRef sig s
  t : WRef sig s
  c : WRef sig Sc
  bc : WRef sig s
  y1 : WRef sig s

/-- The buffers of four rounds and a key addition. -/
structure Group (sig : RefSig) (s : Shape) where
  r1 : Round sig s
  r2 : Round sig s
  r3 : Round sig s
  r4 : Round sig s
  k : Keys sig s

/-- The buffers of the whole cipher. -/
structure Bufs (sig : RefSig) (s : Shape) where
  x : WRef sig Sc
  c : WRef sig Sc
  third : WRef sig Sc
  bk : WRef sig s
  y0 : WRef sig s
  bl : WRef sig s
  y1 : WRef sig s
  g1 : Group sig s
  g2 : Group sig s
  g3 : Group sig s
  g4 : Group sig s
  g5 : Group sig s

section Ops
variable {s : Shape} (hb : Sc.BroadcastsInDim s ![])

/-- One round's operations. -/
def roundOps (x0 x1 : WRef sig s) (R : Round sig s) (a b : W) : List (HloOp τ sig (Elt F)) :=
  [TRef.binary x0 x1 R.y0 addi,
   TRef.nullary R.ca (constantI Sc 32 a),
   TRef.unary R.ca R.ba (broadcastInDim s ![] hb),
   TRef.binary x1 R.ba R.sa Host.shli,
   TRef.nullary R.cb (constantI Sc 32 b),
   TRef.unary R.cb R.bb (broadcastInDim s ![] hb),
   TRef.binary x1 R.bb R.sb Host.shrui,
   TRef.binary R.sa R.sb R.o ori,
   TRef.binary R.y0 R.o R.y1 xori]

/-- One key addition's operations. -/
def keyOps (x0 x1 : WRef sig s) (k l : WRef sig Sc) (K : Keys sig s) (i : W) : List (HloOp τ sig (Elt F)) :=
  [TRef.unary k K.bk (broadcastInDim s ![] hb),
   TRef.binary x0 K.bk K.y0 addi,
   TRef.unary l K.bl (broadcastInDim s ![] hb),
   TRef.binary x1 K.bl K.t addi,
   TRef.nullary K.c (constantI Sc 32 i),
   TRef.unary K.c K.bc (broadcastInDim s ![] hb),
   TRef.binary K.t K.bc K.y1 addi]

/-- A group's operations, first set of turns. -/
def groupAOps (x0 x1 : WRef sig s) (k l : WRef sig Sc) (G : Group sig s) (i : W) : List (HloOp τ sig (Elt F)) :=
  roundOps hb x0 x1 G.r1 13 19 ++ (roundOps hb G.r1.y0 G.r1.y1 G.r2 15 17 ++ (roundOps hb G.r2.y0 G.r2.y1 G.r3 26 6
    ++ (roundOps hb G.r3.y0 G.r3.y1 G.r4 6 26 ++ keyOps hb G.r4.y0 G.r4.y1 k l G.k i)))

/-- A group's operations, second set of turns. -/
def groupBOps (x0 x1 : WRef sig s) (k l : WRef sig Sc) (G : Group sig s) (i : W) : List (HloOp τ sig (Elt F)) :=
  roundOps hb x0 x1 G.r1 17 15 ++ (roundOps hb G.r1.y0 G.r1.y1 G.r2 29 3 ++ (roundOps hb G.r2.y0 G.r2.y1 G.r3 16 16
    ++ (roundOps hb G.r3.y0 G.r3.y1 G.r4 24 8 ++ keyOps hb G.r4.y0 G.r4.y1 k l G.k i)))

/-- The operations before the rounds. -/
def startOps (k l : WRef sig Sc) (c d : WRef sig s) (B : Bufs sig s) : List (HloOp τ sig (Elt F)) :=
  [TRef.binary k l B.x xori,
   TRef.nullary B.c (constantI Sc 32 466688986#32),
   TRef.binary B.x B.c B.third xori,
   TRef.unary k B.bk (broadcastInDim s ![] hb),
   TRef.binary c B.bk B.y0 addi,
   TRef.unary l B.bl (broadcastInDim s ![] hb),
   TRef.binary d B.bl B.y1 addi]

/-- The cipher's operations. -/
def cipherOps (k l : WRef sig Sc) (c d : WRef sig s) (B : Bufs sig s) : List (HloOp τ sig (Elt F)) :=
  startOps hb k l c d B ++ (groupAOps hb B.y0 B.y1 l B.third B.g1 1 ++ (groupBOps hb B.g1.k.y0 B.g1.k.y1 B.third k B.g2 2
    ++ (groupAOps hb B.g2.k.y0 B.g2.k.y1 k l B.g3 3 ++ (groupBOps hb B.g3.k.y0 B.g3.k.y1 l B.third B.g4 4
      ++ groupAOps hb B.g4.k.y0 B.g4.k.y1 B.third k B.g5 5))))

end Ops

/-! ## Positions -/

/-- The buffers of a round at nine positions in a row. -/
structure Round.At {s : Shape} (R : Round sig s) (n : Nat) : Prop where
  y0 : pos R.y0.ref = n
  ca : pos R.ca.ref = n + 1
  ba : pos R.ba.ref = n + 2
  sa : pos R.sa.ref = n + 3
  cb : pos R.cb.ref = n + 4
  bb : pos R.bb.ref = n + 5
  sb : pos R.sb.ref = n + 6
  o : pos R.o.ref = n + 7
  y1 : pos R.y1.ref = n + 8

/-- The buffers of a key addition at seven positions in a row. -/
structure Keys.At {s : Shape} (K : Keys sig s) (n : Nat) : Prop where
  bk : pos K.bk.ref = n
  y0 : pos K.y0.ref = n + 1
  bl : pos K.bl.ref = n + 2
  t : pos K.t.ref = n + 3
  c : pos K.c.ref = n + 4
  bc : pos K.bc.ref = n + 5
  y1 : pos K.y1.ref = n + 6

/-- The buffers of a group at 43 positions in a row. -/
structure Group.At {s : Shape} (G : Group sig s) (n : Nat) : Prop where
  r1 : G.r1.At n
  r2 : G.r2.At (n + 9)
  r3 : G.r3.At (n + 18)
  r4 : G.r4.At (n + 27)
  k : G.k.At (n + 36)

/-- The buffers of a cipher at 222 positions in a row. -/
structure Bufs.At {s : Shape} (B : Bufs sig s) (n : Nat) : Prop where
  x : pos B.x.ref = n
  c : pos B.c.ref = n + 1
  third : pos B.third.ref = n + 2
  bk : pos B.bk.ref = n + 3
  y0 : pos B.y0.ref = n + 4
  bl : pos B.bl.ref = n + 5
  y1 : pos B.y1.ref = n + 6
  g1 : B.g1.At (n + 7)
  g2 : B.g2.At (n + 50)
  g3 : B.g3.At (n + 93)
  g4 : B.g4.At (n + 136)
  g5 : B.g5.At (n + 179)

section Rises
variable {s : Shape} (hb : Sc.BroadcastsInDim s ![]) {n : Nat}

theorem rising_round {x0 x1 : WRef sig s} {R : Round sig s} (a b : W) (hR : R.At n) (h0 : pos x0.ref < n) (h1 : pos x1.ref < n) :
    Rising n (n + 9) (roundOps hb x0 x1 R a b : List (HloOp τ sig (Elt F))) := by
  obtain ⟨e0, e1, e2, e3, e4, e5, e6, e7, e8⟩ := hR
  exact .next (step_binary _ _ _ _ _ _ _ e0 (by omega) (by omega)) (.next (step_nullary _ _ _ e1)
    (.next (step_unary _ _ _ _ _ e2 (by omega)) (.next (step_binary _ _ _ _ _ _ _ e3 (by omega) (by omega))
    (.next (step_nullary _ _ _ e4) (.next (step_unary _ _ _ _ _ e5 (by omega))
    (.next (step_binary _ _ _ _ _ _ _ e6 (by omega) (by omega)) (.next (step_binary _ _ _ _ _ _ _ e7 (by omega) (by omega))
    (.next (step_binary _ _ _ _ _ _ _ e8 (by omega) (by omega)) (.nil _)))))))))

theorem rising_key {x0 x1 : WRef sig s} {k l : WRef sig Sc} {K : Keys sig s} (i : W) (hK : K.At n)
    (h0 : pos x0.ref < n) (h1 : pos x1.ref < n) (hk : pos k.ref < n) (hl : pos l.ref < n) :
    Rising n (n + 7) (keyOps hb x0 x1 k l K i : List (HloOp τ sig (Elt F))) := by
  obtain ⟨e0, e1, e2, e3, e4, e5, e6⟩ := hK
  exact .next (step_unary _ _ _ _ _ e0 (by omega)) (.next (step_binary _ _ _ _ _ _ _ e1 (by omega) (by omega))
    (.next (step_unary _ _ _ _ _ e2 (by omega)) (.next (step_binary _ _ _ _ _ _ _ e3 (by omega) (by omega))
    (.next (step_nullary _ _ _ e4) (.next (step_unary _ _ _ _ _ e5 (by omega))
    (.next (step_binary _ _ _ _ _ _ _ e6 (by omega) (by omega)) (.nil _)))))))

theorem rising_groupA {x0 x1 : WRef sig s} {k l : WRef sig Sc} {G : Group sig s} (i : W) (hG : G.At n)
    (h0 : pos x0.ref < n) (h1 : pos x1.ref < n) (hk : pos k.ref < n) (hl : pos l.ref < n) :
    Rising n (n + 43) (groupAOps hb x0 x1 k l G i : List (HloOp τ sig (Elt F))) := by
  obtain ⟨a, b, c, d, e⟩ := hG
  exact (rising_round hb _ _ a h0 h1).append
    ((rising_round hb _ _ b (by rw [a.y0]; omega) (by rw [a.y1]; omega)).append
    ((rising_round hb _ _ c (by rw [b.y0]; omega) (by rw [b.y1]; omega)).append
    ((rising_round hb _ _ d (by rw [c.y0]; omega) (by rw [c.y1]; omega)).append
    (rising_key hb _ e (by rw [d.y0]; omega) (by rw [d.y1]; omega) (by omega) (by omega)))))

theorem rising_groupB {x0 x1 : WRef sig s} {k l : WRef sig Sc} {G : Group sig s} (i : W) (hG : G.At n)
    (h0 : pos x0.ref < n) (h1 : pos x1.ref < n) (hk : pos k.ref < n) (hl : pos l.ref < n) :
    Rising n (n + 43) (groupBOps hb x0 x1 k l G i : List (HloOp τ sig (Elt F))) := by
  obtain ⟨a, b, c, d, e⟩ := hG
  exact (rising_round hb _ _ a h0 h1).append
    ((rising_round hb _ _ b (by rw [a.y0]; omega) (by rw [a.y1]; omega)).append
    ((rising_round hb _ _ c (by rw [b.y0]; omega) (by rw [b.y1]; omega)).append
    ((rising_round hb _ _ d (by rw [c.y0]; omega) (by rw [c.y1]; omega)).append
    (rising_key hb _ e (by rw [d.y0]; omega) (by rw [d.y1]; omega) (by omega) (by omega)))))

theorem rising_start {k l : WRef sig Sc} {c d : WRef sig s} {B : Bufs sig s} (hB : B.At n)
    (hk : pos k.ref < n) (hl : pos l.ref < n) (hc : pos c.ref < n) (hd : pos d.ref < n) :
    Rising n (n + 7) (startOps hb k l c d B : List (HloOp τ sig (Elt F))) := by
  obtain ⟨e0, e1, e2, e3, e4, e5, e6, -, -, -, -, -⟩ := hB
  exact .next (step_binary _ _ _ _ _ _ _ e0 (by omega) (by omega)) (.next (step_nullary _ _ _ e1)
    (.next (step_binary _ _ _ _ _ _ _ e2 (by omega) (by omega)) (.next (step_unary _ _ _ _ _ e3 (by omega))
    (.next (step_binary _ _ _ _ _ _ _ e4 (by omega) (by omega)) (.next (step_unary _ _ _ _ _ e5 (by omega))
    (.next (step_binary _ _ _ _ _ _ _ e6 (by omega) (by omega)) (.nil _)))))))

theorem rising_cipher {k l : WRef sig Sc} {c d : WRef sig s} {B : Bufs sig s} (hB : B.At n)
    (hk : pos k.ref < n) (hl : pos l.ref < n) (hc : pos c.ref < n) (hd : pos d.ref < n) :
    Rising n (n + 222) (cipherOps hb k l c d B : List (HloOp τ sig (Elt F))) := by
  have h3 := hB.third
  exact (rising_start hb hB hk hl hc hd).append
    ((rising_groupA hb _ hB.g1 (by rw [hB.y0]; omega) (by rw [hB.y1]; omega) (by omega) (by omega)).append
    ((rising_groupB hb _ hB.g2 (by rw [hB.g1.k.y0]; omega) (by rw [hB.g1.k.y1]; omega) (by omega) (by omega)).append
    ((rising_groupA hb _ hB.g3 (by rw [hB.g2.k.y0]; omega) (by rw [hB.g2.k.y1]; omega) (by omega) (by omega)).append
    ((rising_groupB hb _ hB.g4 (by rw [hB.g3.k.y0]; omega) (by rw [hB.g3.k.y1]; omega) (by omega) (by omega)).append
    (rising_groupA hb _ hB.g5 (by rw [hB.g4.k.y0]; omega) (by rw [hB.g4.k.y1]; omega) (by omega) (by omega))))))

end Rises

/-! ## Values -/

section Values
variable {s : Shape} (hb : Sc.BroadcastsInDim s ![]) {Z : Valuation τ sig (Elt F)}

/-- A line's operations all at their fixed point. -/
abbrev Fixed (Z : Valuation τ sig (Elt F)) (ops : List (HloOp τ sig (Elt F))) : Prop := ops.Forall fun op => op.result Z = Z

theorem Fixed.split {a b : List (HloOp τ sig (Elt F))} (h : Fixed Z (a ++ b)) : Fixed Z a ∧ Fixed Z b := by
  simp only [Fixed, List.forall_iff_forall_mem, List.mem_append] at h ⊢
  exact ⟨fun x hx => h x (.inl hx), fun x hx => h x (.inr hx)⟩

/-- The word a tensor of words holds at an index. -/
abbrev word (Z : Valuation τ sig (Elt F)) (x : WRef sig s) (i : s.Idx) : W := val Z x i

/-- The word a scalar holds. -/
abbrev word0 (Z : Valuation τ sig (Elt F)) (x : WRef sig Sc) : W := val Z x ValueIdx.ix0

/-- Two tensors' words at an index. -/
abbrev pair (Z : Valuation τ sig (Elt F)) (x y : WRef sig s) (i : s.Idx) : W × W := (word Z x i, word Z y i)

theorem word_spread {k : WRef sig Sc} {y : WRef sig s} (h : (TRef.unary k y (broadcastInDim s ![] hb) : HloOp τ sig (Elt F)).result Z = Z)
    (i : s.Idx) : word Z y i = word0 Z k := by
  unfold word word0
  rw [val_unary h]
  exact ValueIdx.broadcastInDim_scalar_apply hb _ _

theorem word_const {y : WRef sig Sc} {a : W} (h : (TRef.nullary y (constantI Sc 32 a) : HloOp τ sig (Elt F)).result Z = Z) :
    word0 Z y = a := by
  unfold word0
  rw [val_nullary h]
  rfl

theorem shl_lit {x a : W} (h : a.toNat < 32) : IntOp.shli .host x a = x <<< a := if_pos h
theorem shr_lit {x a : W} (h : a.toNat < 32) : IntOp.shrui .host x a = x >>> a := if_pos h

theorem round_value {x0 x1 : WRef sig s} {R : Round sig s} {a b : W} (ha : a.toNat < 32) (hb' : b.toNat < 32)
    (h : Fixed Z (roundOps hb x0 x1 R a b)) (i : s.Idx) : pair Z R.y0 R.y1 i = turn a b (pair Z x0 x1 i) := by
  obtain ⟨h1, h2, h3, h4, h5, h6, h7, h8, h9⟩ := h
  have e1 := congrFun (val_binary h1) i
  have e4 := congrFun (val_binary h4) i
  have e7 := congrFun (val_binary h7) i
  have e8 := congrFun (val_binary h8) i
  have e9 := congrFun (val_binary h9) i
  have f3 := word_spread hb h3 i
  have f6 := word_spread hb h6 i
  rw [word_const h2] at f3
  rw [word_const h5] at f6
  have g1 : word Z R.y0 i = word Z x0 i + word Z x1 i := e1
  have g4 : word Z R.sa i = word Z x1 i <<< a := by
    rw [← shl_lit ha]; exact e4.trans (congrArg (IntOp.shli .host (word Z x1 i)) f3)
  have g7 : word Z R.sb i = word Z x1 i >>> b := by
    rw [← shr_lit hb']; exact e7.trans (congrArg (IntOp.shrui .host (word Z x1 i)) f6)
  have g8 : word Z R.o i = word Z R.sa i ||| word Z R.sb i := e8
  have g9 : word Z R.y1 i = word Z R.y0 i ^^^ word Z R.o i := e9
  unfold pair turn
  rw [g9, g8, g7, g4, g1]

theorem key_value {x0 x1 : WRef sig s} {k l : WRef sig Sc} {K : Keys sig s} {i' : W}
    (h : Fixed Z (keyOps hb x0 x1 k l K i')) (i : s.Idx) :
    pair Z K.y0 K.y1 i = inject (word0 Z k) (word0 Z l) i' (pair Z x0 x1 i) := by
  obtain ⟨h1, h2, h3, h4, h5, h6, h7⟩ := h
  have f1 := word_spread hb h1 i
  have f3 := word_spread hb h3 i
  have f6 := word_spread hb h6 i
  rw [word_const h5] at f6
  have g2 : word Z K.y0 i = word Z x0 i + word Z K.bk i := congrFun (val_binary h2) i
  have g4 : word Z K.t i = word Z x1 i + word Z K.bl i := congrFun (val_binary h4) i
  have g7 : word Z K.y1 i = word Z K.t i + word Z K.bc i := congrFun (val_binary h7) i
  unfold pair inject
  rw [g7, g4, g2, f1, f3, f6]

theorem groupA_value {x0 x1 : WRef sig s} {k l : WRef sig Sc} {G : Group sig s} {i' : W}
    (h : Fixed Z (groupAOps hb x0 x1 k l G i')) (i : s.Idx) :
    pair Z G.k.y0 G.k.y1 i = inject (word0 Z k) (word0 Z l) i' (groupA (pair Z x0 x1 i)) := by
  obtain ⟨h1, h⟩ := Fixed.split h
  obtain ⟨h2, h⟩ := Fixed.split h
  obtain ⟨h3, h⟩ := Fixed.split h
  obtain ⟨h4, h⟩ := Fixed.split h
  rw [key_value hb h, round_value hb (by decide) (by decide) h4, round_value hb (by decide) (by decide) h3,
    round_value hb (by decide) (by decide) h2, round_value hb (by decide) (by decide) h1, groupA]

theorem groupB_value {x0 x1 : WRef sig s} {k l : WRef sig Sc} {G : Group sig s} {i' : W}
    (h : Fixed Z (groupBOps hb x0 x1 k l G i')) (i : s.Idx) :
    pair Z G.k.y0 G.k.y1 i = inject (word0 Z k) (word0 Z l) i' (groupB (pair Z x0 x1 i)) := by
  obtain ⟨h1, h⟩ := Fixed.split h
  obtain ⟨h2, h⟩ := Fixed.split h
  obtain ⟨h3, h⟩ := Fixed.split h
  obtain ⟨h4, h⟩ := Fixed.split h
  rw [key_value hb h, round_value hb (by decide) (by decide) h4, round_value hb (by decide) (by decide) h3,
    round_value hb (by decide) (by decide) h2, round_value hb (by decide) (by decide) h1, groupB]

/-- The two output tensors hold, per element, the cipher's words. -/
theorem cipher_value {k l : WRef sig Sc} {c d : WRef sig s} {B : Bufs sig s} (h : Fixed Z (cipherOps hb k l c d B)) (i : s.Idx) :
    pair Z B.g5.k.y0 B.g5.k.y1 i = cipher (word0 Z k) (word0 Z l) (word Z c i) (word Z d i) := by
  obtain ⟨h0, h⟩ := Fixed.split h
  obtain ⟨h1, h⟩ := Fixed.split h
  obtain ⟨h2, h⟩ := Fixed.split h
  obtain ⟨h3, h⟩ := Fixed.split h
  obtain ⟨h4, h5⟩ := Fixed.split h
  obtain ⟨s1, s2, s3, s4, s5, s6, s7⟩ := h0
  have t1 : word0 Z B.x = word0 Z k ^^^ word0 Z l := congrFun (val_binary s1) ValueIdx.ix0
  have t3 : word0 Z B.third = word0 Z B.x ^^^ word0 Z B.c := congrFun (val_binary s3) ValueIdx.ix0
  rw [t1, word_const s2] at t3
  have g5 : word Z B.y0 i = word Z c i + word Z B.bk i := congrFun (val_binary s5) i
  have g7 : word Z B.y1 i = word Z d i + word Z B.bl i := congrFun (val_binary s7) i
  rw [word_spread hb s4] at g5
  rw [word_spread hb s6] at g7
  rw [groupA_value hb h5, groupB_value hb h4, groupA_value hb h3, groupB_value hb h2, groupA_value hb h1, t3,
    pair, g5, g7, cipher, third]

end Values

end Cert.HostCipher
-- ==== Proof.HostSplit.lean ====
/-
  The seed and its split into two keys, as lines of host operations: the key words are the cipher's
  (Words.lean) on the seed.
-/
module

public import proofs.«01_k».proof.Proof.HostCipher
public import Idealize.ShloMosaic.Lib.Pipeline.Value

@[expose] public section

set_option maxRecDepth 16384

noncomputable section

namespace Cert.HostSplit

open Idealize.ShloMosaic Idealize.ShloMosaic.TcCoe Idealize.ShloMosaic.StableHlo
open Idealize.ShloMosaic.ValueIdx (ix0 ix1 ix2)
open Cert.Lines Cert.Words Cert.HostCipher

variable {τ : Topo} {sig : RefSig} {F : FTy → Type} [FloatOps F]

abbrev S1 : Shape := ⟨1, ![1]⟩
abbrev S2 : Shape := ⟨1, ![2]⟩
abbrev S1x2 : Shape := ⟨2, ![1, 2]⟩
abbrev S2x1 : Shape := ⟨2, ![2, 1]⟩
abbrev S2x2 : Shape := ⟨2, ![2, 2]⟩

/-- The buffers of the seed's two words. -/
structure Seed (sig : RefSig) where
  c : WRef sig Sc
  c0 : WRef sig Sc
  h : WRef sig Sc
  h' : WRef sig Sc
  hb : WRef sig S1
  c1 : WRef sig Sc
  l : WRef sig Sc
  l' : WRef sig Sc
  lb : WRef sig S1
  w : WRef sig S2

/-- The buffers of the split. -/
structure Split (sig : RefSig) where
  v0 : WRef sig S1
  v1 : WRef sig Sc
  v2 : WRef sig S1
  v3 : WRef sig Sc
  v4 : TRef sig ⟨S2, .i64⟩
  c : TRef sig ⟨Sc, .i64⟩
  v5 : TRef sig ⟨S2, .i64⟩
  v6 : TRef sig ⟨S2, .i64⟩
  c0 : TRef sig ⟨Sc, .i64⟩
  v7 : TRef sig ⟨S2, .i64⟩
  v8 : TRef sig ⟨S2, .i64⟩
  v9 : WRef sig S2
  v10 : WRef sig S2
  B : Bufs sig S2
  v12 : WRef sig S2x1
  v13 : WRef sig S2x1
  v14 : WRef sig S2x2

/-- The buffers of the two keys cut out of the split. -/
structure Cut (sig : RefSig) where
  a : WRef sig S1x2
  a' : WRef sig S2
  b : WRef sig S1x2
  b' : WRef sig S2

theorem spreads_S1 : Sc.BroadcastsInDim S1 ![] := by decide
theorem spreads_S2 : Sc.BroadcastsInDim S2 ![] := by decide
theorem spreads_col : S2.BroadcastsInDim S2x1 (![0] : Fin 1 → Fin S2x1.rank) := by decide
theorem joins : Shape.Concatenates [S1, S1] S2 0 := by decide
theorem joins_cols : Shape.Concatenates [S2x1, S2x1] S2x2 1 := by decide
theorem cuts_0 : S2.Slices ![0] S1 := by decide
theorem cuts_1 : S2.Slices ![1] S1 := by decide
theorem cuts_row0 : S2x2.Slices ![0, 0] S1x2 := by decide
theorem cuts_row1 : S2x2.Slices ![1, 0] S1x2 := by decide
theorem casts_S1 : S1.ShapeCasts Sc := by decide
theorem casts_row : S1x2.ShapeCasts S2 := by decide
theorem narrower : 32 < 64 := by decide

/-- The seed's operations. -/
def seedOps (B : Seed sig) : List (HloOp τ sig (Elt F)) :=
  [TRef.nullary B.c (constantI Sc 32 42#32),
   TRef.nullary B.c0 (constantI Sc 32 32#32),
   TRef.binary B.c B.c0 B.h Host.shrui,
   TRef.unary B.h B.h' id,
   TRef.unary B.h' B.hb (broadcastInDim S1 ![] spreads_S1),
   TRef.nullary B.c1 (constantI Sc 32 4294967295#32),
   TRef.binary B.c B.c1 B.l andi,
   TRef.unary B.l B.l' id,
   TRef.unary B.l' B.lb (broadcastInDim S1 ![] spreads_S1),
   TRef.binary B.hb B.lb B.w (fun a b => concatenate S2 0 [⟨S1, a⟩, ⟨S1, b⟩] joins)]

/-- The split's operations up to its cipher. -/
def splitOps₁ (w : WRef sig S2) (B : Split sig) : List (HloOp τ sig (Elt F)) :=
  [TRef.unary w B.v0 (extractStridedSlice S1 ![0] · cuts_0),
   TRef.reshape B.v0 B.v1 (rfl : (.i32 : EltTy) = .i32) casts_S1,
   TRef.unary w B.v2 (extractStridedSlice S1 ![1] · cuts_1),
   TRef.reshape B.v2 B.v3 (rfl : (.i32 : EltTy) = .i32) casts_S1,
   TRef.nullary B.v4 (iotaInDim S2 64 0),
   TRef.nullary B.c (constantI Sc 64 1#64),
   TRef.unary B.c B.v5 (broadcastInDim S2 ![] spreads_S2),
   TRef.binary B.v5 B.v4 B.v6 muli,
   TRef.nullary B.c0 (constantI Sc 64 32#64),
   TRef.unary B.c0 B.v7 (broadcastInDim S2 ![] spreads_S2),
   TRef.binary B.v6 B.v7 B.v8 Host.shrui,
   TRef.unary B.v6 B.v9 (trunci 32 · narrower),
   TRef.unary B.v8 B.v10 (trunci 32 · narrower)]

/-- The split's operations after its cipher. -/
def splitOps₂ (B : Split sig) : List (HloOp τ sig (Elt F)) :=
  [TRef.unary B.B.g5.k.y0 B.v12 (broadcastInDim S2x1 ![0] spreads_col),
   TRef.unary B.B.g5.k.y1 B.v13 (broadcastInDim S2x1 ![0] spreads_col),
   TRef.binary B.v12 B.v13 B.v14 (fun a b => concatenate S2x2 1 [⟨S2x1, a⟩, ⟨S2x1, b⟩] joins_cols)]

/-- The split's operations. -/
def splitOps (w : WRef sig S2) (B : Split sig) : List (HloOp τ sig (Elt F)) :=
  splitOps₁ w B ++ (cipherOps spreads_S2 B.v1 B.v3 B.v10 B.v9 B.B ++ splitOps₂ B)

/-- The two keys' operations. -/
def cutOps (k : WRef sig S2x2) (B : Cut sig) : List (HloOp τ sig (Elt F)) :=
  [TRef.unary k B.a (extractStridedSlice S1x2 ![0, 0] · cuts_row0),
   TRef.reshape B.a B.a' (rfl : (.i32 : EltTy) = .i32) casts_row,
   TRef.unary k B.b (extractStridedSlice S1x2 ![1, 0] · cuts_row1),
   TRef.reshape B.b B.b' (rfl : (.i32 : EltTy) = .i32) casts_row]

/-! ## Positions -/

structure Seed.At (B : Seed sig) (n : Nat) : Prop where
  c : pos B.c.ref = n
  c0 : pos B.c0.ref = n + 1
  h : pos B.h.ref = n + 2
  h' : pos B.h'.ref = n + 3
  hb : pos B.hb.ref = n + 4
  c1 : pos B.c1.ref = n + 5
  l : pos B.l.ref = n + 6
  l' : pos B.l'.ref = n + 7
  lb : pos B.lb.ref = n + 8
  w : pos B.w.ref = n + 9

structure Split.At (B : Split sig) (n : Nat) : Prop where
  v0 : pos B.v0.ref = n
  v1 : pos B.v1.ref = n + 1
  v2 : pos B.v2.ref = n + 2
  v3 : pos B.v3.ref = n + 3
  v4 : pos B.v4.ref = n + 4
  c : pos B.c.ref = n + 5
  v5 : pos B.v5.ref = n + 6
  v6 : pos B.v6.ref = n + 7
  c0 : pos B.c0.ref = n + 8
  v7 : pos B.v7.ref = n + 9
  v8 : pos B.v8.ref = n + 10
  v9 : pos B.v9.ref = n + 11
  v10 : pos B.v10.ref = n + 12
  bits : B.B.At (n + 13)
  v12 : pos B.v12.ref = n + 235
  v13 : pos B.v13.ref = n + 236
  v14 : pos B.v14.ref = n + 237

structure Cut.At (B : Cut sig) (n : Nat) : Prop where
  a : pos B.a.ref = n
  a' : pos B.a'.ref = n + 1
  b : pos B.b.ref = n + 2
  b' : pos B.b'.ref = n + 3

theorem rising_seed {B : Seed sig} {n : Nat} (h : B.At n) : Rising n (n + 10) (seedOps B : List (HloOp τ sig (Elt F))) := by
  obtain ⟨e0, e1, e2, e3, e4, e5, e6, e7, e8, e9⟩ := h
  exact .next (step_nullary _ _ _ e0) (.next (step_nullary _ _ _ e1)
    (.next (step_binary _ _ _ _ _ _ _ e2 (by omega) (by omega)) (.next (step_unary _ _ _ _ _ e3 (by omega))
    (.next (step_unary _ _ _ _ _ e4 (by omega)) (.next (step_nullary _ _ _ e5)
    (.next (step_binary _ _ _ _ _ _ _ e6 (by omega) (by omega)) (.next (step_unary _ _ _ _ _ e7 (by omega))
    (.next (step_unary _ _ _ _ _ e8 (by omega)) (.next (step_binary _ _ _ _ _ _ _ e9 (by omega) (by omega)) (.nil _))))))))))

theorem rising_split {w : WRef sig S2} {B : Split sig} {n : Nat} (h : B.At n) (hw : pos w.ref < n) :
    Rising n (n + 238) (splitOps w B : List (HloOp τ sig (Elt F))) := by
  obtain ⟨e0, e1, e2, e3, e4, e5, e6, e7, e8, e9, e10, e11, e12, hB, f0, f1, f2⟩ := h
  have r1 : Rising n (n + 13) (splitOps₁ w B : List (HloOp τ sig (Elt F))) :=
    .next (step_unary _ _ _ _ _ e0 hw)
    (.next (step_reshape _ _ _ _ _ _ e1 (below 0 1 e0 rfl))
    (.next (step_unary _ _ _ _ _ e2 (Nat.lt_of_lt_of_le hw (Nat.le_add_right n 2)))
    (.next (step_reshape _ _ _ _ _ _ e3 (below 2 3 e2 rfl))
    (.next (step_nullary _ _ _ e4) (.next (step_nullary _ _ _ e5)
    (.next (step_unary _ _ _ _ _ e6 (below 5 6 e5 rfl))
    (.next (step_binary _ _ _ _ _ _ _ e7 (below 6 7 e6 rfl) (below 4 7 e4 rfl))
    (.next (step_nullary _ _ _ e8) (.next (step_unary _ _ _ _ _ e9 (below 8 9 e8 rfl))
    (.next (step_binary _ _ _ _ _ _ _ e10 (below 7 10 e7 rfl) (below 9 10 e9 rfl))
    (.next (step_unary _ _ _ _ _ e11 (below 7 11 e7 rfl))
    (.next (step_unary _ _ _ _ _ e12 (below 10 12 e10 rfl)) (.nil _)))))))))))))
  have r2 : Rising (n + 235) (n + 238) (splitOps₂ B : List (HloOp τ sig (Elt F))) :=
    .next (step_unary _ _ _ _ _ f0 (below 229 235 hB.g5.k.y0 rfl))
    (.next (step_unary _ _ _ _ _ f1 (below 234 236 hB.g5.k.y1 rfl))
    (.next (step_binary _ _ _ _ _ _ _ f2 (below 235 237 f0 rfl) (below 236 237 f1 rfl)) (.nil _)))
  exact r1.append ((rising_cipher spreads_S2 hB (below 1 13 e1 rfl) (below 3 13 e3 rfl) (below 12 13 e12 rfl)
    (below 11 13 e11 rfl)).append r2)

theorem rising_cut {k : WRef sig S2x2} {B : Cut sig} {n : Nat} (h : B.At n) (hk : pos k.ref < n) :
    Rising n (n + 4) (cutOps k B : List (HloOp τ sig (Elt F))) := by
  obtain ⟨e0, e1, e2, e3⟩ := h
  exact .next (step_unary _ _ _ _ _ e0 (by omega)) (.next (step_reshape _ _ _ _ _ _ e1 (by omega))
    (.next (step_unary _ _ _ _ _ e2 (by omega)) (.next (step_reshape _ _ _ _ _ _ e3 (by omega)) (.nil _))))

/-! ## Values -/

variable {Z : Valuation τ sig (Elt F)}

theorem seed_value {B : Seed sig} (h : Fixed Z (seedOps B)) :
    word Z B.w (ix1 0) = seedHi ∧ word Z B.w (ix1 1) = seedLo := by
  obtain ⟨h0, h1, h2, h3, h4, h5, h6, h7, h8, h9⟩ := h
  have e2 : word0 Z B.h = IntOp.shrui .host (word0 Z B.c) (word0 Z B.c0) := congrFun (val_binary h2) _
  have e3 : word0 Z B.h' = word0 Z B.h := congrFun (val_unary h3) _
  have e6 : word0 Z B.l = word0 Z B.c &&& word0 Z B.c1 := congrFun (val_binary h6) _
  have e7 : word0 Z B.l' = word0 Z B.l := congrFun (val_unary h7) _
  have e4 := word_spread spreads_S1 h4 (ix1 0)
  have e8 := word_spread spreads_S1 h8 (ix1 0)
  rw [e3, e2, word_const h0, word_const h1] at e4
  rw [e7, e6, word_const h0, word_const h5] at e8
  have e9 := val_binary h9
  constructor
  · refine ((congrFun e9 _).trans (concatenate_pair_apply_left 0 _ _ joins (ix1 0) rfl (ix1 0) ?_)).trans e4
    intro b; match b with | ⟨0, _⟩ => rfl
  · refine ((congrFun e9 _).trans (concatenate_pair_apply_right 0 _ _ joins (ix1 1) rfl rfl (ix1 0) ?_ rfl)).trans e8
    intro b hb; match b with | ⟨0, _⟩ => exact absurd rfl hb

theorem narrow_counter : ∀ r : Fin 2, BitVec.truncate 32 (1#64 * BitVec.ofNat 64 r.val) = BitVec.ofNat 32 r.val := by
  decide
theorem narrow_high : ∀ r : Fin 2, BitVec.truncate 32 (IntOp.shrui .host (1#64 * BitVec.ofNat 64 r.val) 32#64) = 0#32 := by
  decide

theorem split_value {w : WRef sig S2} {B : Split sig} (h : Fixed Z (splitOps w B)) (r : Fin 2) :
    (word Z B.v14 (ix2 r 0), word Z B.v14 (ix2 r 1))
      = cipher (word Z w (ix1 0)) (word Z w (ix1 1)) 0 (BitVec.ofNat 32 r.val) := by
  obtain ⟨h1, h⟩ := Fixed.split h
  obtain ⟨h2, h3⟩ := Fixed.split h
  obtain ⟨a0, a1, a2, a3, a4, a5, a6, a7, a8, a9, a10, a11, a12⟩ := h1
  obtain ⟨b0, b1, b2⟩ := h3
  have k1 : word0 Z B.v1 = word Z w (ix1 0) := by
    refine (congrFun (val_reshape a1) _).trans ?_
    refine (shapeCast_apply _ casts_S1 _ (ix1 0) rfl).trans ?_
    refine (congrFun (val_unary a0) _).trans (extractStridedSlice_apply _ _ cuts_0 _ (ix1 0) ?_)
    intro b; match b with | ⟨0, _⟩ => rfl
  have k3 : word0 Z B.v3 = word Z w (ix1 1) := by
    refine (congrFun (val_reshape a3) _).trans ?_
    refine (shapeCast_apply _ casts_S1 _ (ix1 0) rfl).trans ?_
    refine (congrFun (val_unary a2) _).trans (extractStridedSlice_apply _ _ cuts_1 _ (ix1 1) ?_)
    intro b; match b with | ⟨0, _⟩ => rfl
  have s5 : val Z B.v5 (ix1 r) = (1#64 : BitVec 64) := by
    rw [val_unary a6, val_nullary a5]; exact ValueIdx.broadcastInDim_scalar_apply _ _ _
  have s7 : val Z B.v7 (ix1 r) = (32#64 : BitVec 64) := by
    rw [val_unary a9, val_nullary a8]; exact ValueIdx.broadcastInDim_scalar_apply _ _ _
  have s4 : val Z B.v4 (ix1 r) = BitVec.ofNat 64 r.val := by rw [val_nullary a4]; rfl
  have s6 : val Z B.v6 (ix1 r) = (1#64 * BitVec.ofNat 64 r.val : BitVec 64) :=
    (congrFun (val_binary a7) _).trans (congrArg₂ (fun x y : BitVec 64 => x * y) s5 s4)
  have s8 : val Z B.v8 (ix1 r) = IntOp.shrui .host (1#64 * BitVec.ofNat 64 r.val) 32#64 :=
    (congrFun (val_binary a10) _).trans (congrArg₂ (fun x y : BitVec 64 => IntOp.shrui .host x y) s6 s7)
  have s9 : word Z B.v9 (ix1 r) = BitVec.ofNat 32 r.val := by
    refine ((congrFun (val_unary a11) _).trans (congrArg (fun x : BitVec 64 => x.truncate 32) s6)).trans ?_
    exact narrow_counter r
  have s10 : word Z B.v10 (ix1 r) = 0#32 := by
    refine ((congrFun (val_unary a12) _).trans (congrArg (fun x : BitVec 64 => x.truncate 32) s8)).trans ?_
    exact narrow_high r
  have hc := cipher_value spreads_S2 h2 (ix1 r)
  rw [k1, k3, s9, s10] at hc
  refine Eq.trans ?_ hc
  have c12 : word Z B.v12 (ix2 r 0) = word Z B.B.g5.k.y0 (ix1 r) := by
    refine (congrFun (val_unary b0) _).trans (broadcastInDim_apply _ spreads_col _ _ (ix1 r) ?_)
    intro b; match b with | ⟨0, _⟩ => rfl
  have c13 : word Z B.v13 (ix2 r 0) = word Z B.B.g5.k.y1 (ix1 r) := by
    refine (congrFun (val_unary b1) _).trans (broadcastInDim_apply _ spreads_col _ _ (ix1 r) ?_)
    intro b; match b with | ⟨0, _⟩ => rfl
  refine Prod.ext (Eq.trans ?_ c12) (Eq.trans ?_ c13)
  · refine (congrFun (val_binary b2) _).trans (concatenate_pair_apply_left 1 _ _ joins_cols (ix2 r 0) rfl (ix2 r 0) ?_)
    intro b; match b with | ⟨0, _⟩ => rfl | ⟨1, _⟩ => rfl
  · refine (congrFun (val_binary b2) _).trans (concatenate_pair_apply_right 1 _ _ joins_cols (ix2 r 1) rfl rfl (ix2 r 0) ?_ rfl)
    intro b hb; match b with | ⟨0, _⟩ => rfl | ⟨1, _⟩ => exact absurd rfl hb

theorem cut_value {k : WRef sig S2x2} {B : Cut sig} (h : Fixed Z (cutOps k B)) (j : Fin 2) :
    word Z B.a' (ix1 j) = word Z k (ix2 0 j) ∧ word Z B.b' (ix1 j) = word Z k (ix2 1 j) := by
  obtain ⟨a0, a1, a2, a3⟩ := h
  constructor
  · refine (congrFun (val_reshape a1) _).trans ?_
    refine (shapeCast_apply _ casts_row _ (ix2 0 j) (by revert j; decide)).trans ?_
    refine (congrFun (val_unary a0) _).trans (extractStridedSlice_apply _ _ cuts_row0 _ (ix2 0 j) ?_)
    intro b; match b with | ⟨0, _⟩ => rfl | ⟨1, _⟩ => simp
  · refine (congrFun (val_reshape a3) _).trans ?_
    refine (shapeCast_apply _ casts_row _ (ix2 0 j) (by revert j; decide)).trans ?_
    refine (congrFun (val_unary a2) _).trans (extractStridedSlice_apply _ _ cuts_row1 _ (ix2 1 j) ?_)
    intro b; match b with | ⟨0, _⟩ => rfl | ⟨1, _⟩ => simp

/-- The two keys cut out of the split of the seed. -/
theorem keys_value {S : Seed sig} {B : Split sig} {C : Cut sig} (hs : Fixed Z (seedOps S)) (hp : Fixed Z (splitOps S.w B))
    (hc : Fixed Z (cutOps B.v14 C)) :
    (word Z C.a' (ix1 0), word Z C.a' (ix1 1)) = subkey 0 ∧ (word Z C.b' (ix1 0), word Z C.b' (ix1 1)) = subkey 1 := by
  obtain ⟨s0, s1⟩ := seed_value hs
  have p0 := split_value hp 0
  have p1 := split_value hp 1
  rw [s0, s1] at p0 p1
  rw [(cut_value hc 0).1, (cut_value hc 1).1, (cut_value hc 0).2, (cut_value hc 1).2]
  exact ⟨p0, p1⟩

end Cert.HostSplit
-- ==== Proof.HostDraw.lean ====
/-
  One draw of the reference's uniform numbers, as lines of host operations: element `j` is the cipher's word (Words.lean)
  at the row-major count of `j`, its upper 23 bits read as the fraction of a number in [1, 2), less one.
-/
module

public import proofs.«01_k».proof.Proof.HostSplit
public import Idealize.ShloMosaic.Lib.IdealHost

@[expose] public section

set_option maxRecDepth 16384

noncomputable section

namespace Cert.HostDraw

open Idealize.ShloMosaic Idealize.ShloMosaic.TcCoe Idealize.ShloMosaic.StableHlo
open Idealize.ShloMosaic.ValueIdx (ix0 ix1 ix2 ix5)
open Cert.Lines Cert.Words Cert.HostCipher Cert.HostSplit

variable {τ : Topo} {sig : RefSig} {F : FTy → Type} [FloatOps F]

abbrev One : Shape := ⟨5, ![1, 1, 1, 1, 1]⟩
abbrev Big : Shape := ⟨5, ![16, 1, 32, 32, 1024]⟩

theorem spreads_one : Sc.BroadcastsInDim One ![] := by decide
theorem spreads_all : Sc.BroadcastsInDim Big ![] := by decide
theorem spreads_fill : One.BroadcastsInDim Big (![0, 1, 2, 3, 4] : Fin 5 → Fin Big.rank) := by decide

/-- The buffers of one draw. -/
structure Draw (sig : RefSig) where
  v0 : TRef sig ⟨Sc, .f32⟩
  v1 : TRef sig ⟨Sc, .f32⟩
  v2 : TRef sig ⟨One, .f32⟩
  v3 : TRef sig ⟨One, .f32⟩
  v4 : WRef sig S1
  v5 : WRef sig Sc
  v6 : WRef sig S1
  v7 : WRef sig Sc
  v8 : TRef sig ⟨Big, .i64⟩
  v9 : TRef sig ⟨Big, .i64⟩
  v10 : TRef sig ⟨Big, .i64⟩
  v11 : TRef sig ⟨Big, .i64⟩
  v12 : TRef sig ⟨Big, .i64⟩
  c : TRef sig ⟨Sc, .i64⟩
  v13 : TRef sig ⟨Big, .i64⟩
  v14 : TRef sig ⟨Big, .i64⟩
  c_0 : TRef sig ⟨Sc, .i64⟩
  v15 : TRef sig ⟨Big, .i64⟩
  v16 : TRef sig ⟨Big, .i64⟩
  c_1 : TRef sig ⟨Sc, .i64⟩
  v17 : TRef sig ⟨Big, .i64⟩
  v18 : TRef sig ⟨Big, .i64⟩
  c_2 : TRef sig ⟨Sc, .i64⟩
  v19 : TRef sig ⟨Big, .i64⟩
  v20 : TRef sig ⟨Big, .i64⟩
  c_3 : TRef sig ⟨Sc, .i64⟩
  v21 : TRef sig ⟨Big, .i64⟩
  v22 : TRef sig ⟨Big, .i64⟩
  v23 : TRef sig ⟨Big, .i64⟩
  v24 : TRef sig ⟨Big, .i64⟩
  v25 : TRef sig ⟨Big, .i64⟩
  v26 : TRef sig ⟨Big, .i64⟩
  c_4 : TRef sig ⟨Sc, .i64⟩
  v27 : TRef sig ⟨Big, .i64⟩
  v28 : TRef sig ⟨Big, .i64⟩
  v29 : WRef sig Big
  v30 : WRef sig Big
  B : Bufs sig Big
  v32 : WRef sig Big
  c_5 : WRef sig Sc
  v33 : WRef sig Big
  v34 : WRef sig Big
  c_6 : WRef sig Sc
  v35 : WRef sig Big
  v36 : WRef sig Big
  v37 : TRef sig ⟨Big, .f32⟩
  cst : TRef sig ⟨Sc, .f32⟩
  v38 : TRef sig ⟨Big, .f32⟩
  v39 : TRef sig ⟨Big, .f32⟩
  v40 : TRef sig ⟨One, .f32⟩
  v41 : TRef sig ⟨Big, .f32⟩
  v42 : TRef sig ⟨Big, .f32⟩
  v43 : TRef sig ⟨Big, .f32⟩
  v44 : TRef sig ⟨Big, .f32⟩
  v45 : TRef sig ⟨Big, .f32⟩
  v46 : TRef sig ⟨Big, .f32⟩

/-- The draw's operations up to its cipher. -/
def drawOps₁ (arg0 : WRef sig S2) (arg1 arg2 : TRef sig ⟨Sc, .f32⟩) (B : Draw sig) : List (HloOp τ sig (Elt F)) :=
  [TRef.unary arg1 B.v0 id,
   TRef.unary arg2 B.v1 id,
   TRef.unary B.v0 B.v2 (broadcastInDim One ![] spreads_one),
   TRef.unary B.v1 B.v3 (broadcastInDim One ![] spreads_one),
   TRef.unary arg0 B.v4 (extractStridedSlice S1 ![0] · cuts_0),
   TRef.reshape B.v4 B.v5 (rfl : (.i32 : EltTy) = .i32) casts_S1,
   TRef.unary arg0 B.v6 (extractStridedSlice S1 ![1] · cuts_1),
   TRef.reshape B.v6 B.v7 (rfl : (.i32 : EltTy) = .i32) casts_S1,
   TRef.nullary B.v8 (iotaInDim Big 64 0),
   TRef.nullary B.v9 (iotaInDim Big 64 1),
   TRef.nullary B.v10 (iotaInDim Big 64 2),
   TRef.nullary B.v11 (iotaInDim Big 64 3),
   TRef.nullary B.v12 (iotaInDim Big 64 4),
   TRef.nullary B.c (constantI Sc 64 1048576#64),
   TRef.unary B.c B.v13 (broadcastInDim Big ![] spreads_all),
   TRef.binary B.v13 B.v8 B.v14 muli,
   TRef.nullary B.c_0 (constantI Sc 64 1048576#64),
   TRef.unary B.c_0 B.v15 (broadcastInDim Big ![] spreads_all),
   TRef.binary B.v15 B.v9 B.v16 muli,
   TRef.nullary B.c_1 (constantI Sc 64 32768#64),
   TRef.unary B.c_1 B.v17 (broadcastInDim Big ![] spreads_all),
   TRef.binary B.v17 B.v10 B.v18 muli,
   TRef.nullary B.c_2 (constantI Sc 64 1024#64),
   TRef.unary B.c_2 B.v19 (broadcastInDim Big ![] spreads_all),
   TRef.binary B.v19 B.v11 B.v20 muli,
   TRef.nullary B.c_3 (constantI Sc 64 1#64),
   TRef.unary B.c_3 B.v21 (broadcastInDim Big ![] spreads_all),
   TRef.binary B.v21 B.v12 B.v22 muli,
   TRef.binary B.v14 B.v16 B.v23 addi,
   TRef.binary B.v23 B.v18 B.v24 addi,
   TRef.binary B.v24 B.v20 B.v25 addi,
   TRef.binary B.v25 B.v22 B.v26 addi,
   TRef.nullary B.c_4 (constantI Sc 64 32#64),
   TRef.unary B.c_4 B.v27 (broadcastInDim Big ![] spreads_all),
   TRef.binary B.v26 B.v27 B.v28 Host.shrui,
   TRef.unary B.v26 B.v29 (trunci 32 · narrower),
   TRef.unary B.v28 B.v30 (trunci 32 · narrower)]

/-- The draw's operations after its cipher. -/
def drawOps₂ (B : Draw sig) : List (HloOp τ sig (Elt F)) :=
  [TRef.binary B.B.g5.k.y0 B.B.g5.k.y1 B.v32 xori,
   TRef.nullary B.c_5 (constantI Sc 32 9#32),
   TRef.unary B.c_5 B.v33 (broadcastInDim Big ![] spreads_all),
   TRef.binary B.v32 B.v33 B.v34 Host.shrui,
   TRef.nullary B.c_6 (constantI Sc 32 1065353216#32),
   TRef.unary B.c_6 B.v35 (broadcastInDim Big ![] spreads_all),
   TRef.binary B.v34 B.v35 B.v36 ori,
   TRef.unary B.v36 B.v37 (bitcastToFloat .f32),
   TRef.nullary B.cst (constant Sc .f32 0x3F800000#32),
   TRef.unary B.cst B.v38 (broadcastInDim Big ![] spreads_all),
   TRef.binary B.v37 B.v38 B.v39 subf,
   TRef.binary B.v3 B.v2 B.v40 subf,
   TRef.unary B.v40 B.v41 (broadcastInDim Big ![0, 1, 2, 3, 4] spreads_fill),
   TRef.binary B.v39 B.v41 B.v42 mulf,
   TRef.unary B.v2 B.v43 (broadcastInDim Big ![0, 1, 2, 3, 4] spreads_fill),
   TRef.binary B.v42 B.v43 B.v44 addf,
   TRef.unary B.v2 B.v45 (broadcastInDim Big ![0, 1, 2, 3, 4] spreads_fill),
   TRef.binary B.v45 B.v44 B.v46 maximumf]

/-- The draw's operations. -/
def drawOps (arg0 : WRef sig S2) (arg1 arg2 : TRef sig ⟨Sc, .f32⟩) (B : Draw sig) : List (HloOp τ sig (Elt F)) :=
  drawOps₁ arg0 arg1 arg2 B ++ (cipherOps spreads_all B.v5 B.v7 B.v30 B.v29 B.B ++ drawOps₂ B)

structure Draw.At (B : Draw sig) (n : Nat) : Prop where
  v0 : pos B.v0.ref = n
  v1 : pos B.v1.ref = n + 1
  v2 : pos B.v2.ref = n + 2
  v3 : pos B.v3.ref = n + 3
  v4 : pos B.v4.ref = n + 4
  v5 : pos B.v5.ref = n + 5
  v6 : pos B.v6.ref = n + 6
  v7 : pos B.v7.ref = n + 7
  v8 : pos B.v8.ref = n + 8
  v9 : pos B.v9.ref = n + 9
  v10 : pos B.v10.ref = n + 10
  v11 : pos B.v11.ref = n + 11
  v12 : pos B.v12.ref = n + 12
  c : pos B.c.ref = n + 13
  v13 : pos B.v13.ref = n + 14
  v14 : pos B.v14.ref = n + 15
  c_0 : pos B.c_0.ref = n + 16
  v15 : pos B.v15.ref = n + 17
  v16 : pos B.v16.ref = n + 18
  c_1 : pos B.c_1.ref = n + 19
  v17 : pos B.v17.ref = n + 20
  v18 : pos B.v18.ref = n + 21
  c_2 : pos B.c_2.ref = n + 22
  v19 : pos B.v19.ref = n + 23
  v20 : pos B.v20.ref = n + 24
  c_3 : pos B.c_3.ref = n + 25
  v21 : pos B.v21.ref = n + 26
  v22 : pos B.v22.ref = n + 27
  v23 : pos B.v23.ref = n + 28
  v24 : pos B.v24.ref = n + 29
  v25 : pos B.v25.ref = n + 30
  v26 : pos B.v26.ref = n + 31
  c_4 : pos B.c_4.ref = n + 32
  v27 : pos B.v27.ref = n + 33
  v28 : pos B.v28.ref = n + 34
  v29 : pos B.v29.ref = n + 35
  v30 : pos B.v30.ref = n + 36
  bits : B.B.At (n + 37)
  v32 : pos B.v32.ref = n + 259
  c_5 : pos B.c_5.ref = n + 260
  v33 : pos B.v33.ref = n + 261
  v34 : pos B.v34.ref = n + 262
  c_6 : pos B.c_6.ref = n + 263
  v35 : pos B.v35.ref = n + 264
  v36 : pos B.v36.ref = n + 265
  v37 : pos B.v37.ref = n + 266
  cst : pos B.cst.ref = n + 267
  v38 : pos B.v38.ref = n + 268
  v39 : pos B.v39.ref = n + 269
  v40 : pos B.v40.ref = n + 270
  v41 : pos B.v41.ref = n + 271
  v42 : pos B.v42.ref = n + 272
  v43 : pos B.v43.ref = n + 273
  v44 : pos B.v44.ref = n + 274
  v45 : pos B.v45.ref = n + 275
  v46 : pos B.v46.ref = n + 276

theorem rising_draw {arg0 : WRef sig S2} {arg1 arg2 : TRef sig ⟨Sc, .f32⟩} {B : Draw sig} {n : Nat} (h : B.At n)
    (h0 : pos arg0.ref < n) (h1 : pos arg1.ref < n) (h2 : pos arg2.ref < n) :
    Rising n (n + 277) (drawOps arg0 arg1 arg2 B : List (HloOp τ sig (Elt F))) := by
  have r1 : Rising n (n + 37) (drawOps₁ arg0 arg1 arg2 B : List (HloOp τ sig (Elt F))) := by
    refine .next (step_unary _ _ _ _ _ h.v0 h1) ?_
    refine .next (step_unary _ _ _ _ _ h.v1 (Nat.lt_of_lt_of_le h2 (Nat.le_add_right n 1))) ?_
    refine .next (step_unary _ _ _ _ _ h.v2 (below 0 2 h.v0 rfl)) ?_
    refine .next (step_unary _ _ _ _ _ h.v3 (below 1 3 h.v1 rfl)) ?_
    refine .next (step_unary _ _ _ _ _ h.v4 (Nat.lt_of_lt_of_le h0 (Nat.le_add_right n 4))) ?_
    refine .next (step_reshape _ _ _ _ _ _ h.v5 (below 4 5 h.v4 rfl)) ?_
    refine .next (step_unary _ _ _ _ _ h.v6 (Nat.lt_of_lt_of_le h0 (Nat.le_add_right n 6))) ?_
    refine .next (step_reshape _ _ _ _ _ _ h.v7 (below 6 7 h.v6 rfl)) ?_
    refine .next (step_nullary _ _ _ h.v8) ?_
    refine .next (step_nullary _ _ _ h.v9) ?_
    refine .next (step_nullary _ _ _ h.v10) ?_
    refine .next (step_nullary _ _ _ h.v11) ?_
    refine .next (step_nullary _ _ _ h.v12) ?_
    refine .next (step_nullary _ _ _ h.c) ?_
    refine .next (step_unary _ _ _ _ _ h.v13 (below 13 14 h.c rfl)) ?_
    refine .next (step_binary _ _ _ _ _ _ _ h.v14 (below 14 15 h.v13 rfl) (below 8 15 h.v8 rfl)) ?_
    refine .next (step_nullary _ _ _ h.c_0) ?_
    refine .next (step_unary _ _ _ _ _ h.v15 (below 16 17 h.c_0 rfl)) ?_
    refine .next (step_binary _ _ _ _ _ _ _ h.v16 (below 17 18 h.v15 rfl) (below 9 18 h.v9 rfl)) ?_
    refine .next (step_nullary _ _ _ h.c_1) ?_
    refine .next (step_unary _ _ _ _ _ h.v17 (below 19 20 h.c_1 rfl)) ?_
    refine .next (step_binary _ _ _ _ _ _ _ h.v18 (below 20 21 h.v17 rfl) (below 10 21 h.v10 rfl)) ?_
    refine .next (step_nullary _ _ _ h.c_2) ?_
    refine .next (step_unary _ _ _ _ _ h.v19 (below 22 23 h.c_2 rfl)) ?_
    refine .next (step_binary _ _ _ _ _ _ _ h.v20 (below 23 24 h.v19 rfl) (below 11 24 h.v11 rfl)) ?_
    refine .next (step_nullary _ _ _ h.c_3) ?_
    refine .next (step_unary _ _ _ _ _ h.v21 (below 25 26 h.c_3 rfl)) ?_
    refine .next (step_binary _ _ _ _ _ _ _ h.v22 (below 26 27 h.v21 rfl) (below 12 27 h.v12 rfl)) ?_
    refine .next (step_binary _ _ _ _ _ _ _ h.v23 (below 15 28 h.v14 rfl) (below 18 28 h.v16 rfl)) ?_
    refine .next (step_binary _ _ _ _ _ _ _ h.v24 (below 28 29 h.v23 rfl) (below 21 29 h.v18 rfl)) ?_
    refine .next (step_binary _ _ _ _ _ _ _ h.v25 (below 29 30 h.v24 rfl) (below 24 30 h.v20 rfl)) ?_
    refine .next (step_binary _ _ _ _ _ _ _ h.v26 (below 30 31 h.v25 rfl) (below 27 31 h.v22 rfl)) ?_
    refine .next (step_nullary _ _ _ h.c_4) ?_
    refine .next (step_unary _ _ _ _ _ h.v27 (below 32 33 h.c_4 rfl)) ?_
    refine .next (step_binary _ _ _ _ _ _ _ h.v28 (below 31 34 h.v26 rfl) (below 33 34 h.v27 rfl)) ?_
    refine .next (step_unary _ _ _ _ _ h.v29 (below 31 35 h.v26 rfl)) ?_
    refine .next (step_unary _ _ _ _ _ h.v30 (below 34 36 h.v28 rfl)) ?_
    exact .nil _
  have r2 : Rising (n + 259) (n + 277) (drawOps₂ B : List (HloOp τ sig (Elt F))) := by
    refine .next (step_binary _ _ _ _ _ _ _ h.v32 (below 253 259 h.bits.g5.k.y0 rfl) (below 258 259 h.bits.g5.k.y1 rfl)) ?_
    refine .next (step_nullary _ _ _ h.c_5) ?_
    refine .next (step_unary _ _ _ _ _ h.v33 (below 260 261 h.c_5 rfl)) ?_
    refine .next (step_binary _ _ _ _ _ _ _ h.v34 (below 259 262 h.v32 rfl) (below 261 262 h.v33 rfl)) ?_
    refine .next (step_nullary _ _ _ h.c_6) ?_
    refine .next (step_unary _ _ _ _ _ h.v35 (below 263 264 h.c_6 rfl)) ?_
    refine .next (step_binary _ _ _ _ _ _ _ h.v36 (below 262 265 h.v34 rfl) (below 264 265 h.v35 rfl)) ?_
    refine .next (step_unary _ _ _ _ _ h.v37 (below 265 266 h.v36 rfl)) ?_
    refine .next (step_nullary _ _ _ h.cst) ?_
    refine .next (step_unary _ _ _ _ _ h.v38 (below 267 268 h.cst rfl)) ?_
    refine .next (step_binary _ _ _ _ _ _ _ h.v39 (below 266 269 h.v37 rfl) (below 268 269 h.v38 rfl)) ?_
    refine .next (step_binary _ _ _ _ _ _ _ h.v40 (below 3 270 h.v3 rfl) (below 2 270 h.v2 rfl)) ?_
    refine .next (step_unary _ _ _ _ _ h.v41 (below 270 271 h.v40 rfl)) ?_
    refine .next (step_binary _ _ _ _ _ _ _ h.v42 (below 269 272 h.v39 rfl) (below 271 272 h.v41 rfl)) ?_
    refine .next (step_unary _ _ _ _ _ h.v43 (below 2 273 h.v2 rfl)) ?_
    refine .next (step_binary _ _ _ _ _ _ _ h.v44 (below 272 274 h.v42 rfl) (below 273 274 h.v43 rfl)) ?_
    refine .next (step_unary _ _ _ _ _ h.v45 (below 2 275 h.v2 rfl)) ?_
    refine .next (step_binary _ _ _ _ _ _ _ h.v46 (below 275 276 h.v45 rfl) (below 274 276 h.v44 rfl)) ?_
    exact .nil _
  exact r1.append ((rising_cipher spreads_all h.bits (below 5 37 h.v5 rfl) (below 7 37 h.v7 rfl) (below 36 37 h.v30 rfl)
    (below 35 37 h.v29 rfl)).append r2)

/-! ## Values -/

/-- The row-major count of an element. -/
def count (n : Fin 16) (h w : Fin 32) (k : Fin 1024) : Nat := ((n.val * 32 + h.val) * 32 + w.val) * 1024 + k.val

/-- A random word's upper 23 bits as a fraction. -/
def frac (b : W) : EReal := Ideal.ofBits .f32 ((b >>> 9#32) ||| 1065353216#32) - Ideal.ofBits .f32 0x3F800000#32

theorem counter_sum (n z h w k : Nat) :
    (1048576#64 * BitVec.ofNat 64 n + 1048576#64 * BitVec.ofNat 64 z + 32768#64 * BitVec.ofNat 64 h
      + 1024#64 * BitVec.ofNat 64 w + 1#64 * BitVec.ofNat 64 k)
      = BitVec.ofNat 64 (1048576 * n + 1048576 * z + 32768 * h + 1024 * w + k) := by
  apply BitVec.eq_of_toNat_eq
  simp only [BitVec.toNat_add, BitVec.toNat_mul, BitVec.toNat_ofNat]
  omega

theorem counter_low (N : Nat) : BitVec.truncate 32 (BitVec.ofNat 64 N) = BitVec.ofNat 32 N := by
  apply BitVec.eq_of_toNat_eq
  simp only [BitVec.truncate_eq_setWidth, BitVec.toNat_setWidth, BitVec.toNat_ofNat]
  omega

theorem counter_high (N : Nat) (hN : N < 4294967296) :
    BitVec.truncate 32 (IntOp.shrui .host (BitVec.ofNat 64 N) 32#64) = 0#32 := by
  have e : IntOp.shrui .host (BitVec.ofNat 64 N) 32#64 = BitVec.ofNat 64 N >>> 32 := by
    unfold IntOp.shrui; rw [if_pos (by decide)]; rfl
  rw [e]
  apply BitVec.eq_of_toNat_eq
  simp only [BitVec.truncate_eq_setWidth, BitVec.toNat_setWidth, BitVec.toNat_ushiftRight, BitVec.toNat_ofNat,
    Nat.shiftRight_eq_div_pow]
  omega

section Values
variable {Z : Valuation τ sig (Elt Ideal)}

theorem spread_i64 {s : Shape} {hb : Sc.BroadcastsInDim s ![]} {x : TRef sig ⟨Sc, .i64⟩} {y : TRef sig ⟨s, .i64⟩}
    {v : BitVec 64} (hc : (TRef.nullary x (constantI Sc 64 v) : HloOp τ sig (Elt Ideal)).result Z = Z)
    (h : (TRef.unary x y (broadcastInDim s ![] hb) : HloOp τ sig (Elt Ideal)).result Z = Z) (j : s.Idx) :
    val Z y j = v := by
  rw [val_unary h, val_nullary hc]; exact ValueIdx.broadcastInDim_scalar_apply _ _ _

theorem draw_counter {arg0 : WRef sig S2} {arg1 arg2 : TRef sig ⟨Sc, .f32⟩} {B : Draw sig}
    (hf : Fixed Z (drawOps₁ arg0 arg1 arg2 B)) (n : Fin 16) (h w : Fin 32) (k : Fin 1024) :
    word Z B.v29 (ix5 n 0 h w k) = BitVec.ofNat 32 (count n h w k) ∧ word Z B.v30 (ix5 n 0 h w k) = 0#32 := by
  obtain ⟨_, _, _, _, _, _, _, _, a8, a9, a10, a11, a12, c0, a13, a14, c1, a15, a16, c2, a17, a18, c3, a19, a20, c4, a21, a22,
    a23, a24, a25, a26, c5, a27, a28, a29, a30⟩ := hf
  generalize hj : (ix5 n 0 h w k : Big.Idx) = j
  have s13 := spread_i64 c0 a13 j
  have s15 := spread_i64 c1 a15 j
  have s17 := spread_i64 c2 a17 j
  have s19 := spread_i64 c3 a19 j
  have s21 := spread_i64 c4 a21 j
  have s27 := spread_i64 c5 a27 j
  have s8 : val Z B.v8 j = BitVec.ofNat 64 n.val := by rw [val_nullary a8, ← hj]; rfl
  have s9 : val Z B.v9 j = BitVec.ofNat 64 0 := by rw [val_nullary a9, ← hj]; rfl
  have s10 : val Z B.v10 j = BitVec.ofNat 64 h.val := by rw [val_nullary a10, ← hj]; rfl
  have s11 : val Z B.v11 j = BitVec.ofNat 64 w.val := by rw [val_nullary a11, ← hj]; rfl
  have s12 : val Z B.v12 j = BitVec.ofNat 64 k.val := by rw [val_nullary a12, ← hj]; rfl
  have mul := fun {x y z : BitVec 64} (e : z = x * y) => e
  have e14 : val Z B.v14 j = (_ * _ : BitVec 64) := (congrFun (val_binary a14) j).trans (congrArg₂ (fun x y : BitVec 64 => x * y) s13 s8)
  have e16 : val Z B.v16 j = (_ * _ : BitVec 64) := (congrFun (val_binary a16) j).trans (congrArg₂ (fun x y : BitVec 64 => x * y) s15 s9)
  have e18 : val Z B.v18 j = (_ * _ : BitVec 64) := (congrFun (val_binary a18) j).trans (congrArg₂ (fun x y : BitVec 64 => x * y) s17 s10)
  have e20 : val Z B.v20 j = (_ * _ : BitVec 64) := (congrFun (val_binary a20) j).trans (congrArg₂ (fun x y : BitVec 64 => x * y) s19 s11)
  have e22 : val Z B.v22 j = (_ * _ : BitVec 64) := (congrFun (val_binary a22) j).trans (congrArg₂ (fun x y : BitVec 64 => x * y) s21 s12)
  have e23 : val Z B.v23 j = (_ + _ : BitVec 64) := (congrFun (val_binary a23) j).trans (congrArg₂ (fun x y : BitVec 64 => x + y) e14 e16)
  have e24 : val Z B.v24 j = (_ + _ : BitVec 64) := (congrFun (val_binary a24) j).trans (congrArg₂ (fun x y : BitVec 64 => x + y) e23 e18)
  have e25 : val Z B.v25 j = (_ + _ : BitVec 64) := (congrFun (val_binary a25) j).trans (congrArg₂ (fun x y : BitVec 64 => x + y) e24 e20)
  have e26 : val Z B.v26 j = (_ + _ : BitVec 64) := (congrFun (val_binary a26) j).trans (congrArg₂ (fun x y : BitVec 64 => x + y) e25 e22)
  have e26' := e26.trans (counter_sum _ _ _ _ _)
  have hN : 1048576 * n.val + 1048576 * 0 + 32768 * h.val + 1024 * w.val + k.val = count n h w k := by unfold count; omega
  rw [hN] at e26'
  have e28 : val Z B.v28 j = IntOp.shrui .host (BitVec.ofNat 64 (count n h w k)) 32#64 :=
    (congrFun (val_binary a28) j).trans (congrArg₂ (fun x y : BitVec 64 => IntOp.shrui .host x y) e26' s27)
  constructor
  · exact ((congrFun (val_unary a29) j).trans (congrArg (fun x : BitVec 64 => x.truncate 32) e26')).trans (counter_low _)
  · refine ((congrFun (val_unary a30) j).trans (congrArg (fun x : BitVec 64 => x.truncate 32) e28)).trans
      (counter_high _ ?_)
    have := n.isLt; have := h.isLt; have := w.isLt; have := k.isLt
    unfold count; omega

theorem key_word {k : WRef sig S2} {x : WRef sig S1} {y : WRef sig Sc} {o : Nat} {hs : S2.Slices ![o] S1}
    (h0 : (TRef.unary k x (extractStridedSlice S1 ![o] · hs) : HloOp τ sig (Elt Ideal)).result Z = Z)
    (h1 : (TRef.reshape x y (rfl : (.i32 : EltTy) = .i32) casts_S1 : HloOp τ sig (Elt Ideal)).result Z = Z)
    (i : Fin 2) (hi : i.val = o) : word0 Z y = word Z k (ix1 i) := by
  refine (congrFun (val_reshape h1) _).trans ?_
  refine (shapeCast_apply _ casts_S1 _ (ix1 0) rfl).trans ?_
  refine (congrFun (val_unary h0) _).trans (extractStridedSlice_apply _ _ hs _ (ix1 i) ?_)
  intro b; match b with | ⟨0, _⟩ => exact hi

theorem draw_value {arg0 : WRef sig S2} {arg1 arg2 : TRef sig ⟨Sc, .f32⟩} {B : Draw sig}
    (hf : Fixed Z (drawOps arg0 arg1 arg2 B)) (n : Fin 16) (h w : Fin 32) (k : Fin 1024) :
    val Z B.v46 (ix5 n 0 h w k)
      = max (val Z arg1 ix0) (frac (bits (word Z arg0 (ix1 0)) (word Z arg0 (ix1 1)) 0 (BitVec.ofNat 32 (count n h w k)))
          * (val Z arg2 ix0 - val Z arg1 ix0) + val Z arg1 ix0) := by
  obtain ⟨h1, hf⟩ := Fixed.split hf
  obtain ⟨h2, h3⟩ := Fixed.split hf
  obtain ⟨c29, c30⟩ := draw_counter h1 n h w k
  obtain ⟨a0, a1, a2, a3, a4, a5, a6, a7, _⟩ := h1
  obtain ⟨b32, d5, b33, b34, d6, b35, b36, b37, d, b38, b39, b40, b41, b42, b43, b44, b45, b46⟩ := h3
  have k5 := key_word a4 a5 0 rfl
  have k7 := key_word a6 a7 1 rfl
  have hc := cipher_value spreads_all h2 (ix5 n 0 h w k)
  rw [k5, k7, c29, c30] at hc
  generalize (ix5 n 0 h w k : Big.Idx) = j at *
  generalize hb : bits (word Z arg0 (ix1 0)) (word Z arg0 (ix1 1)) 0 (BitVec.ofNat 32 (count n h w k)) = b
  have e32 : word Z B.v32 j = b := by
    rw [← hb]
    refine (congrFun (val_binary b32) j).trans ?_
    have e0 := congrArg Prod.fst hc
    have e1 := congrArg Prod.snd hc
    exact congrArg₂ (fun x y : W => x ^^^ y) e0 e1
  have e33 : word Z B.v33 j = 9#32 := by
    refine (word_spread spreads_all b33 j).trans (word_const d5)
  have e34 : word Z B.v34 j = b >>> 9#32 :=
    (congrFun (val_binary b34) j).trans ((congrArg₂ (fun x y : W => IntOp.shrui .host x y) e32 e33).trans (shr_lit (by decide)))
  have e35 : word Z B.v35 j = 1065353216#32 := by
    refine (word_spread spreads_all b35 j).trans (word_const d6)
  have e36 : word Z B.v36 j = (b >>> 9#32) ||| 1065353216#32 :=
    (congrFun (val_binary b36) j).trans (congrArg₂ (fun x y : W => x ||| y) e34 e35)
  have e37 : val Z B.v37 j = Ideal.ofBits .f32 ((b >>> 9#32) ||| 1065353216#32) :=
    (congrFun (val_unary b37) j).trans (congrArg (fun x : W => Ideal.ofBits .f32 x) e36)
  have e38 : val Z B.v38 j = Ideal.ofBits .f32 0x3F800000#32 := by
    rw [val_unary b38, val_nullary d]; exact ValueIdx.broadcastInDim_scalar_apply _ _ _
  have e39 : val Z B.v39 j = frac b := (congrFun (val_binary b39) j).trans (congrArg₂ (fun x y : EReal => x - y) e37 e38)
  have e2 : ∀ i, val Z B.v2 i = val Z arg1 ix0 := fun i => by
    rw [val_unary a2, val_unary a0]; exact ValueIdx.broadcastInDim_scalar_apply _ _ _
  have e3 : ∀ i, val Z B.v3 i = val Z arg2 ix0 := fun i => by
    rw [val_unary a3, val_unary a1]; exact ValueIdx.broadcastInDim_scalar_apply _ _ _
  have e40 : ∀ i, val Z B.v40 i = (val Z arg2 ix0 : EReal) - val Z arg1 ix0 := fun i =>
    (congrFun (val_binary b40) i).trans (congrArg₂ (fun x y : EReal => x - y) (e3 i) (e2 i))
  have e41 : val Z B.v41 j = (val Z arg2 ix0 : EReal) - val Z arg1 ix0 := (congrFun (val_unary b41) j).trans (e40 _)
  have e43 : val Z B.v43 j = val Z arg1 ix0 := (congrFun (val_unary b43) j).trans (e2 _)
  have e45 : val Z B.v45 j = val Z arg1 ix0 := (congrFun (val_unary b45) j).trans (e2 _)
  have e42 : val Z B.v42 j = (_ * _ : EReal) := (congrFun (val_binary b42) j).trans (congrArg₂ (fun x y : EReal => x * y) e39 e41)
  have e44 : val Z B.v44 j = (_ + _ : EReal) := (congrFun (val_binary b44) j).trans (congrArg₂ (fun x y : EReal => x + y) e42 e43)
  exact (congrFun (val_binary b46) j).trans (congrArg₂ (fun x y : EReal => max x y) e45 e44)

end Values

end Cert.HostDraw
-- ==== Proof.Spec.lean ====
/-
  The quantizer's quantities for one pixel, over the extended reals.
-/
module

public import proofs.«01_k».proof.Proof.HostDraw
public import proofs.«01_k».proof.Proof.Top

@[expose] public section

noncomputable section

namespace Cert.Spec

open Idealize.ShloMosaic Cert.Words
open Cert.HostDraw (frac)

/-- A literal. -/
abbrev lit (b : BitVec 32) : EReal := Ideal.ofBits .f32 b

/-- The squared distance of a vector to a codeword. -/
def dist (x c : Fin 8 → EReal) : EReal := ((∑ d, x d * x d) + ∑ d, c d * c d) - lit 0x40000000#32 * ∑ d, x d * c d

/-- The score of a codeword: the distance times the temperature's factor. -/
def score (x c : Fin 8 → EReal) (t : EReal) : EReal := dist x c * (max t (lit 0x33D6BF95#32) * lit 0xBD000000#32)

/-- One for a codeword in use. -/
def inUse (f : EReal) : EReal := if lit 0x33D6BF95#32 < f then 1 else 0

/-- The share of the codewords in use. -/
def used (f : Fin 1024 → EReal) : EReal := min 1 (max 0 (Ideal.div (∑ k, inUse (f k)) (lit 0x44800000#32)))

/-- The exponent of the mask. -/
def power (f : Fin 1024 → EReal) : EReal := lit 0xC1100000#32 * (used f * used f) + lit 0x41200000#32

/-- The score after the random mask. -/
def masked (x : Fin 8 → EReal) (c : Fin 1024 → Fin 8 → EReal) (t : EReal) (f : Fin 1024 → EReal) (u : Fin 1024 → EReal)
    (k : Fin 1024) : EReal :=
  if FloatOps.powf (F := Ideal) (φ := .f32) (u k) (power f) < f k then score x (c k) t - lit 0x4E6E6B28#32 else score x (c k) t

/-- The noise made of a draw. -/
def noise (u : EReal) : EReal := -Ideal.log (-Ideal.log (max (lit 0x1E3CE508#32) u))

/-- The pixel's draws: of the `r`-th key, in the order of the reference. -/
def draw (r : W) (p : ℕ) (k : Fin 1024) : EReal := frac (randBits r (BitVec.ofNat 32 (p * 1024 + k.val)))

variable (x : Fin 8 → EReal) (c : Fin 1024 → Fin 8 → EReal) (t : EReal) (f : Fin 1024 → EReal) (p : ℕ)

/-- The masked score of the pixel `p`, with noise. -/
def noisy (k : Fin 1024) : EReal := masked x c t f (draw 0 p) k + noise (draw 1 p k)

/-- The pixel's code. -/
def code : Fin 1024 := Top.top (masked x c t f (draw 0 p))

/-- The codeword the pixel takes. -/
def taken : Fin 1024 := Top.top (noisy x c t f p)

/-- The place of a pixel in the batch. -/
def pixel (n : Fin 16) (h w : Fin 32) : ℕ := (n.val * 32 + h.val) * 32 + w.val

/-- The quantized image. -/
def image (x : Fin 16 → Fin 8 → Fin 32 → Fin 32 → EReal) (n : Fin 16) (d : Fin 8) (h w : Fin 32) : EReal :=
  c (taken (fun d => x n d h w) c t f (pixel n h w)) d

/-- The codes. -/
def codes (x : Fin 16 → Fin 8 → Fin 32 → Fin 32 → EReal) (n : Fin 16) (h w : Fin 32) : W :=
  BitVec.ofNat 32 (code (fun d => x n d h w) c t f (pixel n h w)).val

end Cert.Spec
-- ==== Proof.Lits.lean ====
/-
  The literals' values.
-/
module

public import Idealize.ShloMosaic.Lib.IdealHost

@[expose] public section

namespace Cert.Lits

open Idealize.ShloMosaic

theorem zero : Ideal.ofBits .f32 0x00000000#32 = 0 := Ideal.ofBits_zero_f32
theorem one : Ideal.ofBits .f32 0x3F800000#32 = 1 := Ideal.ofBits_one_f32

theorem ten : Ideal.ofBits .f32 0x41200000#32 = ((10 : ℝ) : EReal) := by
  simp [Ideal.ofBits, Ideal.ieee]
  rw [← EReal.coe_mul]; norm_num
theorem neg_nine : Ideal.ofBits .f32 0xC1100000#32 = ((-9 : ℝ) : EReal) := by
  simp [Ideal.ofBits, Ideal.ieee]; rw [← EReal.coe_mul]; norm_num
theorem two : Ideal.ofBits .f32 0x40000000#32 = ((2 : ℝ) : EReal) := by
  simp [Ideal.ofBits, Ideal.ieee]; rw [← EReal.coe_mul]; norm_num
theorem thirtytwo : Ideal.ofBits .f32 0x42000000#32 = ((32 : ℝ) : EReal) := by
  simp [Ideal.ofBits, Ideal.ieee]; rw [← EReal.coe_mul]; norm_num
theorem neg_share : Ideal.ofBits .f32 0xBD000000#32 = ((-(1/32) : ℝ) : EReal) := by
  simp [Ideal.ofBits, Ideal.ieee]; rw [← EReal.coe_mul]; norm_num
theorem many : ∃ r : ℝ, Ideal.ofBits .f32 0x4E6E6B28#32 = (r : EReal) := ⟨_, rfl⟩
theorem small : ∃ r : ℝ, Ideal.ofBits .f32 0x33D6BF95#32 = (r : EReal) := ⟨_, rfl⟩
theorem tiny : ∃ r : ℝ, 0 < r ∧ r < 1 ∧ Ideal.ofBits .f32 0x1E3CE508#32 = (r : EReal) := by
  refine ⟨(((2 : ℤ) ^ 23 + 0x3CE508 : ℤ) : ℝ) * (2 : ℝ) ^ (-90 : ℤ), ?_, ?_, ?_⟩
  · positivity
  · norm_num
  · simp [Ideal.ofBits, Ideal.ieee]

end Cert.Lits
-- ==== Proof.KernelScore.lean ====
/-
  The kernel's arithmetic on one block, at a place.
-/
module

public import proofs.«01_k».proof.Proof.KernelChoice
public import proofs.«01_k».proof.Proof.Spec
public import proofs.«01_k».proof.Proof.Lits
public import Idealize.ShloMosaic.Lib.Pointwise

@[expose] public section

set_option maxRecDepth 16384

noncomputable section

namespace Cert.KernelScore

open Idealize.ShloMosaic Idealize.ShloMosaic.TcCoe Cert.KernelIdeal Cert.KernelIdeal.Gen Cert.Words Cert.KernelBlock Cert.KernelCipher
open Cert.Top Cert.Spec
open Cert.HostDraw (frac)

theorem score_at (v0 : Vec Ideal S512x8 .f32) (v2 : Vec Ideal S8x1024 .f32) (t : EReal) (r : Fin 512) (k : Fin 1024) :
    k0_pay2 v0 v2 t (ix2 r k) = score (fun d => v0 (ix2 r d)) (fun d => v2 (ix2 d k)) t := by
  unfold k0_pay2
  pointwise
  rfl

/-- A truth word widened and read as a number. -/
theorem flag (p : Prop) [Decidable p] :
    FloatOps.sitofp (F := Ideal) .f32 (BitVec.setWidth 32 (BitVec.ofBool (decide p))) = (if p then 1 else 0 : EReal) := by
  by_cases h : p
  · rw [if_pos h, decide_eq_true h]; show ((((BitVec.setWidth 32 (BitVec.ofBool true)).toInt : ℤ) : ℝ) : EReal) = 1
    rw [show (BitVec.setWidth 32 (BitVec.ofBool true)).toInt = 1 by decide]; simp
  · rw [if_neg h, decide_eq_false h]; show ((((BitVec.setWidth 32 (BitVec.ofBool false)).toInt : ℤ) : ℝ) : EReal) = 0
    rw [show (BitVec.setWidth 32 (BitVec.ofBool false)).toInt = 0 by decide]; simp

theorem used_at (v : Vec Ideal S1x1024 .f32) : k0_pay3 v = used (fun k => v (ix2 0 k)) := by
  unfold k0_pay3
  pointwise
  simp only [flag, Fin.sum_univ_one]
  rfl

theorem nine : (0 : EReal) - (lit 0x41200000#32 - 1) = lit 0xC1100000#32 := by
  unfold lit
  rw [Lits.ten, Lits.neg_nine, zero_sub, ← EReal.coe_one, ← EReal.coe_sub, ← EReal.coe_neg]; norm_num

theorem power_at (v : Vec Ideal S1x1024 .f32) : k0_pay5 (k0_pay3 v) (k0_pay4 v) = power (fun k => v (ix2 0 k)) := by
  unfold k0_pay5 k0_pay4
  rw [used_at]
  show ((lit 0x00000000#32 - (lit 0x41200000#32 - lit 0x3F800000#32)) * _) * _ + lit 0x41200000#32 = _
  unfold lit
  rw [Lits.zero, Lits.one, nine, mul_assoc]; rfl

theorem masked_at (X : FVec Ideal S512x1024 .f32) (v : Vec Ideal S1x1024 .f32) (e : EReal) (w : W) (a b : IVec S512x1024 32)
    (r : Fin 512) (k : Fin 1024) :
    k0_pay51 X v e w a b 5#32 (ix2 r k) = if FloatOps.powf (F := Ideal) (φ := .f32) (frac (b (ix2 r k) ^^^ (a (ix2 r k) + (w + 5#32)))) e < v (ix2 0 k)
      then X (ix2 r k) - lit 0x4E6E6B28#32 else X (ix2 r k) := by
  unfold k0_pay51
  pointwise
  rw [frac, Lits.one]; rfl

/-- The block's masked logits with noise. -/
def noisy (X : FVec Ideal S512x1024 .f32) (w t : W) (q1 q2 : V) : FVec Ideal S512x1024 .f32 :=
  addf X (subf (broadcast S512x1024 (Scalar.ofBits .f32 0x00000000#32)) (log (subf (broadcast S512x1024 (Scalar.ofBits .f32 0x00000000#32))
    (log (maximumf (broadcast S512x1024 (Scalar.ofBits .f32 0x1E3CE508#32))
      (subf (bitcastToFloat .f32 (ori (shrui (fun j => rest w t (q1 j, q2 j)) (broadcast S512x1024 9#32)) (broadcast S512x1024 1065353216#32)))
        (broadcast S512x1024 (Scalar.ofBits .f32 0x3F800000#32))))))))

theorem chosen_eq (X : FVec Ideal S512x1024 .f32) (w t : W) (q1 q2 : V) :
    k0_pay95 column X w t q1 q2 = cmpi .eq column (broadcastTo S512x1024 (shapeCast S512x1
      (KernelChoice.firsts (noisy X w t q1 q2)) shapeCasts_S512_S512x1) broadcasts_S512x1_S512x1024) := rfl

theorem noisy_at (X : FVec Ideal S512x1024 .f32) (w t : W) (q1 q2 : V) (r : Fin 512) (k : Fin 1024) :
    noisy X w t q1 q2 (ix2 r k) = X (ix2 r k) + noise (frac (rest w t (q1 (ix2 r k), q2 (ix2 r k)))) := by
  unfold noisy
  pointwise
  rw [noise, frac, Lits.one, zero_sub, zero_sub]; rfl

/-- A choice at a place: whether the column is the row's first largest. -/
theorem chosen_at (X : FVec Ideal S512x1024 .f32) (w t : W) (q1 q2 : V) (r : Fin 512) {i : Fin 1024}
    (hi : IsTop (fun k => noisy X w t q1 q2 (ix2 r k)) i) (k : Fin 1024) :
    k0_pay95 column X w t q1 q2 (ix2 r k) = BitVec.ofBool (decide (k = i)) := by
  rw [chosen_eq]
  have hf := KernelChoice.firsts_at (noisy X w t q1 q2) r hi
  generalize KernelChoice.firsts (noisy X w t q1 q2) = Y at hf ⊢
  have hk := KernelChoice.column_at r k
  pointwise
  show IntOp.cmpi .eq (column (ValueIdx.ix2 r k)) (Y (ValueIdx.ix1 r)) = _
  rw [hk, hf]
  refine congrArg BitVec.ofBool ?_
  by_cases h : k = i
  · simp [h]
  · have hne : ¬ BitVec.ofNat 32 k.val = BitVec.ofNat 32 i.val := fun e => h (Fin.ext (by
      have e := congrArg BitVec.toNat e
      have h1 := k.isLt; have h2 := i.isLt
      rw [BitVec.toNat_ofNat, BitVec.toNat_ofNat] at e
      omega))
    simp [h, hne]

theorem rows_at (c : IVec S512x1024 1) (x5 : Vec Ideal S1024x8 .f32) (r : Fin 512) (d : Fin 8) {i : Fin 1024}
    (hi : ∀ k, c (ix2 r k) = BitVec.ofBool (decide (k = i))) : k0_pay1 c x5 (ix2 r d) = x5 (ix2 i d) := by
  unfold k0_pay1
  pointwise
  simp only [hi]
  simp only [flag, ite_mul, one_mul, zero_mul, Finset.sum_ite_eq', Finset.mem_univ, if_true]

end Cert.KernelScore
-- ==== Proof.KernelWindows.lean ====
/-
  One grid point's two blocks, and what its windows read.
-/
module

public import proofs.«01_k».proof.Proof.KernelScore
public import Idealize.ShloMosaic.Lib.Pipeline.ValueKit

@[expose] public section

set_option maxRecDepth 16384

noncomputable section

namespace Cert.KernelWindows

open Idealize.ShloMosaic Idealize.ShloMosaic.TcCoe Cert.KernelIdeal Cert.KernelIdeal.Gen Cert.Words Cert.KernelBlock Cert.KernelCipher
open Cert.Top Cert.Spec Cert.KernelScore

section Block

variable (a : Fin 32) (x0 : Vec Ideal S2x2 .i32) (x1 : Vec Ideal S1x1 .f32) (x2 : Vec Ideal S1x1 .i32)
  (x3 : Vec Ideal S512x8 .f32) (x4 : Vec Ideal S8x1024 .f32) (x5 : Vec Ideal S1024x8 .f32) (x6 : Vec Ideal S1x1024 .f32)
  (h2 : x2 (ix2 0 0) = 0#32)

include h2 in
theorem masked_block (h0 : (x0 (ix2 0 0), x0 (ix2 0 1)) = subkey 0) (r : Fin 512) (k : Fin 1024) :
    KernelBlock.masked (BitVec.ofNat 32 a.val) x0 x1 x2 x3 x4 x6 (ix2 r k)
      = Spec.masked (fun d => x3 (ix2 r d)) (fun k d => x4 (ix2 d k)) (x1 (ix2 0 0)) (fun k => x6 (ix2 0 k)) (draw 0 (a.val * 512 + r.val)) k := by
  obtain ⟨e0, e1⟩ := Prod.mk.inj h0
  unfold KernelBlock.masked
  rw [show x0 (ValueIdx.ix2 0 0) = x0 (ix2 0 0) from rfl, show x0 (ValueIdx.ix2 0 1) = x0 (ix2 0 1) from rfl,
    show x2 (ValueIdx.ix2 0 0) = x2 (ix2 0 0) from rfl, show x1 (ValueIdx.ix2 0 0) = x1 (ix2 0 0) from rfl, h2]
  rw [masked_at, power_at, score_at]
  have hb := first_bits (x0 (ix2 0 0)) (x0 (ix2 0 1)) (BitVec.ofNat 32 a.val) 0#32 (ix2 r k) _ (counter_first (x0 (ix2 0 1)) r k a)
  rw [hb, e0, e1]
  rfl

theorem codes_eq : codes (BitVec.ofNat 32 a.val) x0 x1 x2 x3 x4 x6
    = shapeCast S1x1x512 (KernelChoice.firsts (KernelBlock.masked (BitVec.ofNat 32 a.val) x0 x1 x2 x3 x4 x6)) shapeCasts_S512_S1x1x512 := rfl

include h2 in
theorem codes_block (h0 : (x0 (ix2 0 0), x0 (ix2 0 1)) = subkey 0) (r : Fin 512) :
    codes (BitVec.ofNat 32 a.val) x0 x1 x2 x3 x4 x6 (ix3 0 0 r)
      = BitVec.ofNat 32 (code (fun d => x3 (ix2 r d)) (fun k d => x4 (ix2 d k)) (x1 (ix2 0 0)) (fun k => x6 (ix2 0 k)) (a.val * 512 + r.val)).val := by
  rw [codes_eq]
  refine (shapeCast_apply _ _ (ix3 0 0 r) (ix1 r) ?_).trans ?_
  · rw [Shape.rowMajor_val_one, Shape.rowMajor_val_three]; show r.val = (0 * 1 + 0) * 512 + r.val; omega
  refine KernelChoice.firsts_at _ r ?_
  have e : (fun k => KernelBlock.masked (BitVec.ofNat 32 a.val) x0 x1 x2 x3 x4 x6 (ix2 r k)) = _ :=
    funext (masked_block a x0 x1 x2 x3 x4 x6 h2 h0 r)
  exact e ▸ top_spec _

include h2 in
theorem rows_block (h0 : (x0 (ix2 0 0), x0 (ix2 0 1)) = subkey 0) (h1 : (x0 (ix2 1 0), x0 (ix2 1 1)) = subkey 1) (r : Fin 512) (d : Fin 8) :
    k0_pay1 (chosen (BitVec.ofNat 32 a.val) x0 x1 x2 x3 x4 x6) x5 (ix2 r d)
      = x5 (ix2 (taken (fun d => x3 (ix2 r d)) (fun k d => x4 (ix2 d k)) (x1 (ix2 0 0)) (fun k => x6 (ix2 0 k)) (a.val * 512 + r.val)) d) := by
  obtain ⟨e0, e1⟩ := Prod.mk.inj h1
  refine rows_at _ x5 r d fun k => ?_
  unfold chosen
  refine chosen_at _ _ _ _ _ r ?_ k
  have e : ∀ k, KernelScore.noisy (KernelBlock.masked (BitVec.ofNat 32 a.val) x0 x1 x2 x3 x4 x6) (x0 (ix2 1 0)) (third (x0 (ix2 1 0)) (x0 (ix2 1 1)))
    (second (x0 (ix2 1 0)) (x0 (ix2 1 1)) (base (BitVec.ofNat 32 a.val) (x2 (ix2 0 0))) k0_pay6).1
    (second (x0 (ix2 1 0)) (x0 (ix2 1 1)) (base (BitVec.ofNat 32 a.val) (x2 (ix2 0 0))) k0_pay6).2 (ix2 r k)
      = Spec.noisy (fun d => x3 (ix2 r d)) (fun k d => x4 (ix2 d k)) (x1 (ix2 0 0)) (fun k => x6 (ix2 0 k)) (a.val * 512 + r.val) k := fun k => by
    rw [noisy_at, masked_block a x0 x1 x2 x3 x4 x6 h2 h0, h2]
    have hb := second_bits (x0 (ix2 1 0)) (x0 (ix2 1 1)) (ix2 r k) (base (BitVec.ofNat 32 a.val) 0#32) k0_pay6 _ (counter_second (x0 (ix2 1 1)) r k a)
    rw [hb, e0, e1]
    rfl
  exact (funext e : (fun k => _) = _) ▸ top_spec _

end Block

variable (m : (ℓ : Loc nD τ sig) → Buf (Elt Ideal) ℓ) (c : Dev nD)

theorem point : ∀ t : Fin grid0.N, (grid0.coords t 0).val = t.val := by decide +kernel
theorem index0 : ∀ t : Fin grid0.N, win0_0.index t = ![0, 0] := by decide +kernel
theorem index1 : ∀ t : Fin grid0.N, win0_1.index t = ![0, 0] := by decide +kernel
theorem index2 : ∀ t : Fin grid0.N, win0_2.index t = ![0, 0] := by decide +kernel
theorem index3 : ∀ t : Fin grid0.N, win0_3.index t = ![t.val, 0] := by decide +kernel
theorem index4 : ∀ t : Fin grid0.N, win0_4.index t = ![0, 0] := by decide +kernel
theorem index5 : ∀ t : Fin grid0.N, win0_5.index t = ![0, 0] := by decide +kernel
theorem index6 : ∀ t : Fin grid0.N, win0_6.index t = ![0, 0] := by decide +kernel
theorem index7 : ∀ t : Fin grid0.N, win0_7.index t = ![t.val, 0] := by decide +kernel
theorem index8 : ∀ t : Fin grid0.N, win0_8.index t = ![t.val, 0, 0] := by decide +kernel

theorem keys_block (t : Fin grid0.N) (i j : Fin 2) : (iblk m c 0 t : Vec Ideal S2x2 .i32) (ix2 i j) = (V m c main_v17 : Vec Ideal S2x2 .i32) (ix2 i j) := by
  blk_ext [iblk, index0 t]
theorem temp_block (t : Fin grid0.N) (i j : Fin 1) : (iblk m c 1 t : Vec Ideal S1x1 .f32) (ix2 i j) = (V m c main_v2 : Vec Ideal S1x1 .f32) (ix2 i j) := by
  blk_ext [iblk, index1 t]
theorem place_block (t : Fin grid0.N) (i j : Fin 1) : (iblk m c 2 t : Vec Ideal S1x1 .i32) (ix2 i j) = (V m c main_v21 : Vec Ideal S1x1 .i32) (ix2 i j) := by
  blk_ext [iblk, index2 t]
theorem vectors_block (t : Fin grid0.N) (r : Fin 512) (d : Fin 8) (p : Fin 16384) (hp : p.val = t.val * 512 + r.val) :
    (iblk m c 3 t : Vec Ideal S512x8 .f32) (ix2 r d) = (V m c main_v20 : Vec Ideal S16384x8 .f32) (ix2 p d) := by
  blk_ext [iblk, index3 t]
theorem bookT_block (t : Fin grid0.N) (d : Fin 8) (k : Fin 1024) : (iblk m c 4 t : Vec Ideal S8x1024 .f32) (ix2 d k) = (V m c main_v1 : Vec Ideal S8x1024 .f32) (ix2 d k) := by
  blk_ext [iblk, index4 t]
theorem book_block (t : Fin grid0.N) (k : Fin 1024) (d : Fin 8) : (iblk m c 5 t : Vec Ideal S1024x8 .f32) (ix2 k d) = (V m c main_v0 : Vec Ideal S1024x8 .f32) (ix2 k d) := by
  blk_ext [iblk, index5 t]
theorem usage_block (t : Fin grid0.N) (k : Fin 1024) : (iblk m c 6 t : Vec Ideal S1x1024 .f32) (ix2 0 k) = (V m c main_arg3 : Vec Ideal S1x1024 .f32) (ix2 0 k) := by
  blk_ext [iblk, index6 t]

/-- The vector, the codebook, the temperature and the usage the launch reads. -/
def xs (p : Fin 16384) (d : Fin 8) : EReal := (V m c main_v20 : Vec Ideal S16384x8 .f32) (ix2 p d)
def cs (k : Fin 1024) (d : Fin 8) : EReal := (V m c main_v1 : Vec Ideal S8x1024 .f32) (ix2 d k)
def ts : EReal := (V m c main_v2 : Vec Ideal S1x1 .f32) (ix2 0 0)
def fs (k : Fin 1024) : EReal := (V m c main_arg3 : Vec Ideal S1x1024 .f32) (ix2 0 k)

end Cert.KernelWindows
-- ==== Proof.KernelArrays.lean ====
/-
  The kernel's two arrays after the launch.
-/
module

public import proofs.«01_k».proof.Proof.KernelWindows

@[expose] public section

set_option maxRecDepth 16384

noncomputable section

namespace Cert.KernelArrays

open Idealize.ShloMosaic Idealize.ShloMosaic.TcCoe Cert.KernelIdeal Cert.KernelIdeal.Gen Cert.Words Cert.KernelBlock Cert.KernelCipher
open Cert.Top Cert.Spec Cert.KernelScore Cert.KernelWindows

variable (m : (ℓ : Loc nD τ sig) → Buf (Elt Ideal) ℓ) (c : Dev nD)

theorem rows_array (hp : (V m c main_v21 : IVec S1x1 32) (ix2 0 0) = 0#32)
    (h0 : ((V m c main_v17 : IVec S2x2 32) (ix2 0 0), (V m c main_v17 : IVec S2x2 32) (ix2 0 1)) = subkey 0)
    (h1 : ((V m c main_v17 : IVec S2x2 32) (ix2 1 0), (V m c main_v17 : IVec S2x2 32) (ix2 1 1)) = subkey 1) :
    (dats m 0 c).arrAt 7 cfg0.N = fun i : S16384x8.Idx =>
      (V m c main_v0 : Vec Ideal S1024x8 .f32) (ix2 (taken (xs m c (i 0)) (cs m c) (ts m c) (fs m c) (i 0).val) (i 1)) := by
  refine (dats m 0 c).arrAt_eq_of_covers 7 _ (by decide +kernel) fun t hf y => ?_
  blk_simp
  rw [after0_7]
  unfold outsAt0
  dsimp only
  rw [out_rows, point t]
  obtain ⟨r, d, rfl⟩ : ∃ (r : Fin 512) (d : Fin 8), y = (ix2 r d : S512x8.Idx) :=
    ⟨y 0, y 1, by funext a; match a with | ⟨0, _⟩ => rfl | ⟨1, _⟩ => rfl⟩
  have ht : t.val < 32 := t.isLt
  have hr : r.val < 512 := r.isLt
  refine (rows_block ⟨t.val, ht⟩ _ _ _ _ _ _ _ ((place_block m c t 0 0).trans hp) ?_ ?_ r d).trans ?_
  · rw [keys_block, keys_block]; exact h0
  · rw [keys_block, keys_block]; exact h1
  have e3 : (fun d => (iblk m c 3 t : Vec Ideal S512x8 .f32) (ix2 r d)) = xs m c ⟨t.val * 512 + r.val, by omega⟩ :=
    funext fun d => vectors_block m c t r d _ rfl
  have e4 : (fun k d => (iblk m c 4 t : Vec Ideal S8x1024 .f32) (ix2 d k)) = cs m c := funext fun k => funext fun d => bookT_block m c t d k
  have e6 : (fun k => (iblk m c 6 t : Vec Ideal S1x1024 .f32) (ix2 0 k)) = fs m c := funext fun k => usage_block m c t k
  refine (book_block m c t _ d).trans ?_
  rw [e3, e4, e6, temp_block]
  have hq : ∀ (q : Fin 16384) (n : ℕ) (d' : Fin 8), q.val = t.val * 512 + r.val → n = t.val * 512 + r.val → d' = d →
      (V m c main_v0 : Vec Ideal S1024x8 .f32) (ix2 (taken (xs m c ⟨t.val * 512 + r.val, by omega⟩) (cs m c) (ts m c) (fs m c) (t.val * 512 + r.val)) d)
        = (V m c main_v0 : Vec Ideal S1024x8 .f32) (ix2 (taken (xs m c q) (cs m c) (ts m c) (fs m c) n) d') := by
    intro q n d' h1 h2 h3
    have hq : q = ⟨t.val * 512 + r.val, by omega⟩ := Fin.ext h1
    rw [hq]; subst h2; subst h3; rfl
  refine hq _ _ _ ?_ ?_ ?_
  · blk_simp [index7 t]
  · rw [index7]; rfl
  · apply Fin.ext
    blk_simp [index7 t]

theorem codes_array (hp : (V m c main_v21 : IVec S1x1 32) (ix2 0 0) = 0#32)
    (h0 : ((V m c main_v17 : IVec S2x2 32) (ix2 0 0), (V m c main_v17 : IVec S2x2 32) (ix2 0 1)) = subkey 0) :
    (dats m 0 c).arrAt 8 cfg0.N = fun i : S32x1x512.Idx =>
      BitVec.ofNat 32 (code (xs m c ⟨(i 0).val * 512 + (i 2).val, by have h0 : (i 0).val < 32 := (i 0).isLt; have h2 : (i 2).val < 512 := (i 2).isLt; omega⟩)
        (cs m c) (ts m c) (fs m c) ((i 0).val * 512 + (i 2).val)).val := by
  refine (dats m 0 c).arrAt_eq_of_covers 8 _ (by decide +kernel) fun t hf y => ?_
  blk_simp
  rw [after0_8]
  unfold outsAt0
  dsimp only
  rw [out_codes, point t]
  obtain ⟨r, rfl⟩ : ∃ r : Fin 512, y = (ix3 0 0 r : S1x1x512.Idx) :=
    ⟨y 2, by funext a; match a with | ⟨0, _⟩ => exact Subsingleton.elim (α := Fin 1) _ _ | ⟨1, _⟩ => exact Subsingleton.elim (α := Fin 1) _ _ | ⟨2, _⟩ => rfl⟩
  have ht : t.val < 32 := t.isLt
  have hr : r.val < 512 := r.isLt
  refine (codes_block ⟨t.val, ht⟩ _ _ _ _ _ _ ((place_block m c t 0 0).trans hp) ?_ r).trans ?_
  · rw [keys_block, keys_block]; exact h0
  have e3 : (fun d => (iblk m c 3 t : Vec Ideal S512x8 .f32) (ix2 r d)) = xs m c ⟨t.val * 512 + r.val, by omega⟩ :=
    funext fun d => vectors_block m c t r d _ rfl
  have e4 : (fun k d => (iblk m c 4 t : Vec Ideal S8x1024 .f32) (ix2 d k)) = cs m c := funext fun k => funext fun d => bookT_block m c t d k
  have e6 : (fun k => (iblk m c 6 t : Vec Ideal S1x1024 .f32) (ix2 0 k)) = fs m c := funext fun k => usage_block m c t k
  rw [e3, e4, e6, temp_block]
  have hq : ∀ (q : ℕ) (h : q < 16384), q = t.val * 512 + r.val →
      BitVec.ofNat 32 (code (xs m c ⟨t.val * 512 + r.val, by omega⟩) (cs m c) (ts m c) (fs m c) (t.val * 512 + r.val)).val
        = BitVec.ofNat 32 (code (xs m c ⟨q, h⟩) (cs m c) (ts m c) (fs m c) q).val := by
    rintro _ _ rfl; rfl
  refine hq _ _ ?_
  rw [index8]
  show t.val * 512 + (0 * 512 + r.val) = _
  omega

end Cert.KernelArrays
-- ==== Proof.KernelEntry.lean ====
/-
  What the host leaves in the kernel's operands before the launch.
-/
module

public import proofs.«01_k».proof.Proof.HostSplit
public import proofs.«01_k».proof.Proof.Gen.KernelIdeal.Frame
public import Idealize.ShloMosaic.Lib.Pipeline.Value
public import Idealize.ShloMosaic.Lib.IdealHost

@[expose] public section

set_option maxRecDepth 16384

noncomputable section

namespace Cert.KernelEntry

open Idealize.ShloMosaic Idealize.ShloMosaic.TcCoe Idealize.SL.Sem Idealize.ShloMosaic.StableHlo
open Cert.KernelIdeal Cert.KernelIdeal.Gen Cert.Lines Cert.HostCipher Cert.HostSplit Cert.Words
open ValueIdx (ix1 ix2 ix3 ix4)

variable {F : FTy → Type} [FloatOps F]

/-- The cipher's buffers of a call. -/
def cipherBufs (φ : fn_threefry2x32.Bufs) : HostCipher.Bufs sig HostSplit.S2 :=
  ⟨φ.v0, φ.c, φ.v1, φ.v2, φ.v3, φ.v4, φ.v5,
    ⟨⟨φ.v6, φ.c_0, φ.v7, φ.v8, φ.c_1, φ.v9, φ.v10, φ.v11, φ.v12⟩,
      ⟨φ.v13, φ.c_2, φ.v14, φ.v15, φ.c_3, φ.v16, φ.v17, φ.v18, φ.v19⟩,
      ⟨φ.v20, φ.c_4, φ.v21, φ.v22, φ.c_5, φ.v23, φ.v24, φ.v25, φ.v26⟩,
      ⟨φ.v27, φ.c_6, φ.v28, φ.v29, φ.c_7, φ.v30, φ.v31, φ.v32, φ.v33⟩,
      ⟨φ.v34, φ.v35, φ.v36, φ.v37, φ.c_8, φ.v38, φ.v39⟩⟩,
    ⟨⟨φ.v40, φ.c_9, φ.v41, φ.v42, φ.c_10, φ.v43, φ.v44, φ.v45, φ.v46⟩,
      ⟨φ.v47, φ.c_11, φ.v48, φ.v49, φ.c_12, φ.v50, φ.v51, φ.v52, φ.v53⟩,
      ⟨φ.v54, φ.c_13, φ.v55, φ.v56, φ.c_14, φ.v57, φ.v58, φ.v59, φ.v60⟩,
      ⟨φ.v61, φ.c_15, φ.v62, φ.v63, φ.c_16, φ.v64, φ.v65, φ.v66, φ.v67⟩,
      ⟨φ.v68, φ.v69, φ.v70, φ.v71, φ.c_17, φ.v72, φ.v73⟩⟩,
    ⟨⟨φ.v74, φ.c_18, φ.v75, φ.v76, φ.c_19, φ.v77, φ.v78, φ.v79, φ.v80⟩,
      ⟨φ.v81, φ.c_20, φ.v82, φ.v83, φ.c_21, φ.v84, φ.v85, φ.v86, φ.v87⟩,
      ⟨φ.v88, φ.c_22, φ.v89, φ.v90, φ.c_23, φ.v91, φ.v92, φ.v93, φ.v94⟩,
      ⟨φ.v95, φ.c_24, φ.v96, φ.v97, φ.c_25, φ.v98, φ.v99, φ.v100, φ.v101⟩,
      ⟨φ.v102, φ.v103, φ.v104, φ.v105, φ.c_26, φ.v106, φ.v107⟩⟩,
    ⟨⟨φ.v108, φ.c_27, φ.v109, φ.v110, φ.c_28, φ.v111, φ.v112, φ.v113, φ.v114⟩,
      ⟨φ.v115, φ.c_29, φ.v116, φ.v117, φ.c_30, φ.v118, φ.v119, φ.v120, φ.v121⟩,
      ⟨φ.v122, φ.c_31, φ.v123, φ.v124, φ.c_32, φ.v125, φ.v126, φ.v127, φ.v128⟩,
      ⟨φ.v129, φ.c_33, φ.v130, φ.v131, φ.c_34, φ.v132, φ.v133, φ.v134, φ.v135⟩,
      ⟨φ.v136, φ.v137, φ.v138, φ.v139, φ.c_35, φ.v140, φ.v141⟩⟩,
    ⟨⟨φ.v142, φ.c_36, φ.v143, φ.v144, φ.c_37, φ.v145, φ.v146, φ.v147, φ.v148⟩,
      ⟨φ.v149, φ.c_38, φ.v150, φ.v151, φ.c_39, φ.v152, φ.v153, φ.v154, φ.v155⟩,
      ⟨φ.v156, φ.c_40, φ.v157, φ.v158, φ.c_41, φ.v159, φ.v160, φ.v161, φ.v162⟩,
      ⟨φ.v163, φ.c_42, φ.v164, φ.v165, φ.c_43, φ.v166, φ.v167, φ.v168, φ.v169⟩,
      ⟨φ.v170, φ.v171, φ.v172, φ.v173, φ.c_44, φ.v174, φ.v175⟩⟩⟩

/-- The split's buffers. -/
def splitBufs (φ : fn_threefry_split.Bufs) : Split sig :=
  ⟨φ.v0, φ.v1, φ.v2, φ.v3, φ.v4, φ.c, φ.v5, φ.v6, φ.c_0, φ.v7, φ.v8, φ.v9, φ.v10, cipherBufs φ.call0, φ.v12, φ.v13, φ.v14⟩

/-- The seed's buffers. -/
def seedBufs : Seed sig :=
  ⟨.of main_c, .of main_c_0, .of main_v3, .of main_v4, .of main_v5, .of main_c_1, .of main_v6, .of main_v7,
   .of main_v8, .of main_v9⟩

/-- The buffers of the two keys. -/
def keyBufs : Cut sig := ⟨.of main_v11, .of main_v12, .of main_v13, .of main_v14⟩

/-- The layout of the codebook and of the temperature. -/
def layoutOps : List (HloOp τ sig (Elt F)) := hostOps0.take 3

/-- The table of keys, the layout of the vectors and the first place. -/
def tableOps : List (HloOp τ sig (Elt F)) := hostOps0_2.drop 4

/-- The operations before the launch. -/
def ops : List (HloOp τ sig (Elt F)) :=
  layoutOps ++ (seedOps seedBufs ++ (splitOps (.of main_v9) (splitBufs main_call0) ++ (cutOps (.of main_v10) keyBufs ++ tableOps)))

theorem ops_eq : (List.flatten [hostOps0, hostOps0_1, hostOps0_2] : List (HloOp τ sig (Elt F))) = ops := rfl

theorem rising_layoutOps : Rising 4 7 (layoutOps : List (HloOp τ sig (Elt F))) := by
  refine .next (step_reshape _ _ _ _ _ _ rfl (by decide)) ?_
  refine .next (step_unary _ _ _ _ _ rfl (by decide)) ?_
  exact .next (step_reshape _ _ _ _ _ _ rfl (by decide)) (.nil _)

theorem rising_tableOps : Rising 259 267 (tableOps : List (HloOp τ sig (Elt F))) := by
  refine .next (step_unary _ _ _ _ _ rfl (by decide)) ?_
  refine .next (step_unary _ _ _ _ _ rfl (by decide)) ?_
  refine .next (step_binary _ _ _ _ _ _ _ rfl (by decide) (by decide)) ?_
  refine .next (step_reshape _ _ _ _ _ _ rfl (by decide)) ?_
  refine .next (step_unary _ _ _ _ _ rfl (by decide)) ?_
  refine .next (step_reshape _ _ _ _ _ _ rfl (by decide)) ?_
  refine .next (step_nullary _ _ _ rfl) ?_
  exact .next (step_unary _ _ _ _ _ rfl (by decide)) (.nil _)

theorem seed_at : seedBufs.At 7 := by repeat' first | rfl | constructor
theorem split_at : (splitBufs main_call0).At 17 := by repeat' first | rfl | constructor
theorem key_at : keyBufs.At 255 := by repeat' first | rfl | constructor

theorem rising_ops : Rising 4 267 (ops : List (HloOp τ sig (Elt F))) :=
  rising_layoutOps.append ((rising_seed seed_at).append ((rising_split split_at (by decide)).append
    ((rising_cut key_at (by decide)).append rising_tableOps)))

variable (m : (ℓ : Loc nD τ sig) → Buf (Elt F) ℓ) (c : Dev nD)

theorem V0_fixed : Fixed (V0 m c) ops := by
  show Fixed (StableHlo.after (List.flatten [hostOps0, hostOps0_1, hostOps0_2]) (fun b => m (c, b))) ops
  rw [ops_eq]; exact rising_ops.fix _

theorem V0_arg (r : Ref sig .tc) (hr : pos r < 4) : V0 m c r = m ((c.tc : Thread nD τ).loc r) := by
  show (StableHlo.after (List.flatten [hostOps0, hostOps0_1, hostOps0_2]) (fun b => m (c, b))) _ = _
  rw [ops_eq]; exact rising_ops.keeps _ r hr

/-- Two vectors laid in rows, one above the other. -/
theorem table_at (a b : IVec KernelIdeal.S2 32) (d : Fin 2) :
    concatenate KernelIdeal.S2x2 0 [⟨KernelIdeal.S1x2, broadcastInDim KernelIdeal.S1x2 ![1] bcast_S2_S1x2_1 a⟩,
      ⟨KernelIdeal.S1x2, broadcastInDim KernelIdeal.S1x2 ![1] bcast_S2_S1x2_1 b⟩] concatenates_S1x2_S1x2_S2x2_d0 (ix2 0 d) = a (ix1 d)
    ∧ concatenate KernelIdeal.S2x2 0 [⟨KernelIdeal.S1x2, broadcastInDim KernelIdeal.S1x2 ![1] bcast_S2_S1x2_1 a⟩,
      ⟨KernelIdeal.S1x2, broadcastInDim KernelIdeal.S1x2 ![1] bcast_S2_S1x2_1 b⟩] concatenates_S1x2_S1x2_S2x2_d0 (ix2 1 d) = b (ix1 d) := by
  constructor
  · refine (concatenate_pair_apply_left (t := KernelIdeal.S2x2) (s₁ := KernelIdeal.S1x2) (s₂ := KernelIdeal.S1x2) 0 _ _
      concatenates_S1x2_S1x2_S2x2_d0 (ix2 0 d) rfl (ix2 0 d) ?_).trans ?_
    · intro b; match b with | ⟨0, _⟩ => rfl | ⟨1, _⟩ => rfl
    · exact broadcastInDim_apply _ _ _ _ (ix1 d) (by intro b; match b with | ⟨0, _⟩ => rfl)
  · refine (concatenate_pair_apply_right (t := KernelIdeal.S2x2) (s₁ := KernelIdeal.S1x2) (s₂ := KernelIdeal.S1x2) 0 _ _
      concatenates_S1x2_S1x2_S2x2_d0 (ix2 1 d) rfl rfl (ix2 0 d) ?_ rfl).trans ?_
    · intro b hb; match b with | ⟨0, _⟩ => exact absurd rfl hb | ⟨1, _⟩ => rfl
    · exact broadcastInDim_apply _ _ _ _ (ix1 d) (by intro b; match b with | ⟨0, _⟩ => rfl)

/-- The table of keys: the two keys split off the seed. -/
theorem keys : ((V m c main_v17 : IVec KernelIdeal.S2x2 32) (ix2 0 0), (V m c main_v17 : IVec KernelIdeal.S2x2 32) (ix2 0 1)) = subkey 0
    ∧ ((V m c main_v17 : IVec KernelIdeal.S2x2 32) (ix2 1 0), (V m c main_v17 : IVec KernelIdeal.S2x2 32) (ix2 1 1)) = subkey 1 := by
  obtain ⟨_, h⟩ := Fixed.split (V0_fixed m c)
  obtain ⟨hs, h⟩ := Fixed.split h
  obtain ⟨hp, h⟩ := Fixed.split h
  obtain ⟨hc, ht⟩ := Fixed.split h
  have hk := keys_value hs hp hc
  obtain ⟨e15, e16, e17, -⟩ := ht
  have h15 := eq_unary e15
  have h16 := eq_unary e16
  have h17 := eq_binary e17
  rw [h15, h16] at h17
  have h0 : ∀ d : Fin 2, (V m c main_v17 : IVec KernelIdeal.S2x2 32) (ix2 0 d) = word (V0 m c) keyBufs.a' (ix1 d) :=
    fun d => (congrFun h17 (ix2 0 d)).trans (table_at _ _ d).1
  have h1 : ∀ d : Fin 2, (V m c main_v17 : IVec KernelIdeal.S2x2 32) (ix2 1 d) = word (V0 m c) keyBufs.b' (ix1 d) :=
    fun d => (congrFun h17 (ix2 1 d)).trans (table_at _ _ d).2
  rw [h0 0, h0 1, h1 0, h1 1]
  exact hk

theorem book_at (k : Fin 1024) (d : Fin 8) : (V m c main_v0 : FVec F KernelIdeal.S1024x8 .f32) (ix2 k d)
    = (m ((c.tc : Thread nD τ).loc main_arg1) : FVec F S1x1024x8 .f32) (ix3 0 k d) := by
  obtain ⟨⟨e0, -⟩, _⟩ := Fixed.split (V0_fixed m c)
  have h0 := eq_reshape e0
  show (V0 m c main_v0 : FVec F KernelIdeal.S1024x8 .f32) (ix2 k d) = _
  rw [h0, V0_arg m c main_arg1 (by decide)]
  exact shapeCast_apply _ _ (ix2 k d) (ix3 0 k d) (by
    rw [Shape.rowMajor_val_three, Shape.rowMajor_val_two]; show (0 * 1024 + k.val) * 8 + d.val = k.val * 8 + d.val; omega)

theorem bookT_at (k : Fin 1024) (d : Fin 8) : (V m c main_v1 : FVec F KernelIdeal.S8x1024 .f32) (ix2 d k)
    = (m ((c.tc : Thread nD τ).loc main_arg1) : FVec F S1x1024x8 .f32) (ix3 0 k d) := by
  obtain ⟨⟨_, e1, -⟩, _⟩ := Fixed.split (V0_fixed m c)
  have h1 := eq_unary e1
  refine Eq.trans ?_ (book_at m c k d)
  show (V0 m c main_v1 : FVec F KernelIdeal.S8x1024 .f32) (ix2 d k) = _
  rw [h1]
  refine transpose_apply _ _ _ _ (ix2 k d) ?_
  intro b; match b with | ⟨0, _⟩ => rfl | ⟨1, _⟩ => rfl

theorem temp_at : (V m c main_v2 : FVec F S1x1 .f32) (ix2 0 0)
    = (m ((c.tc : Thread nD τ).loc main_arg2) : FVec F S1x1x1x1 .f32) (ix4 0 0 0 0) := by
  obtain ⟨⟨_, _, e2⟩, _⟩ := Fixed.split (V0_fixed m c)
  have h2 := eq_reshape e2
  show (V0 m c main_v2 : FVec F S1x1 .f32) (ix2 0 0) = _
  rw [h2, V0_arg m c main_arg2 (by decide)]
  exact shapeCast_apply _ _ (ix2 0 0) (ix4 0 0 0 0) (by rw [Shape.rowMajor_val_two, Shape.rowMajor_val_four]; rfl)

theorem place_at : (V m c main_v21 : IVec S1x1 32) (ix2 0 0) = 0#32 := by
  obtain ⟨_, h⟩ := Fixed.split (V0_fixed m c)
  obtain ⟨_, h⟩ := Fixed.split h
  obtain ⟨_, h⟩ := Fixed.split h
  obtain ⟨_, _, _, _, _, _, e, e'⟩ := (Fixed.split h).2
  have h1 := eq_nullary e
  have h2 := eq_unary e'
  show (V0 m c main_v21 : IVec S1x1 32) (ix2 0 0) = _
  rw [h2, h1]
  exact ValueIdx.broadcastInDim_scalar_apply _ _ _

theorem vectors_at (n : Fin 16) (h w : Fin 32) (d : Fin 8) (p : Fin 16384) (hp : p.val = (n.val * 32 + h.val) * 32 + w.val) :
    (V m c main_v20 : FVec F S16384x8 .f32) (ix2 p d)
      = (m ((c.tc : Thread nD τ).loc main_arg0) : FVec F S16x8x32x32 .f32) (ix4 n d h w) := by
  obtain ⟨_, hh⟩ := Fixed.split (V0_fixed m c)
  obtain ⟨_, hh⟩ := Fixed.split hh
  obtain ⟨_, hh⟩ := Fixed.split hh
  obtain ⟨_, _, _, e1, e2, e3, -⟩ := (Fixed.split hh).2
  have h1 := eq_reshape e1
  have h2 := eq_unary e2
  have h3 := eq_reshape e3
  show (V0 m c main_v20 : FVec F S16384x8 .f32) (ix2 p d) = _
  rw [h3, h2, h1, V0_arg m c main_arg0 (by decide)]
  have hq : h.val * 32 + w.val < 1024 := by omega
  refine (shapeCast_apply _ _ (ix2 p d) (ix3 n ⟨h.val * 32 + w.val, hq⟩ d) ?_).trans ?_
  · rw [Shape.rowMajor_val_three, Shape.rowMajor_val_two]
    show (n.val * 1024 + (h.val * 32 + w.val)) * 8 + d.val = p.val * 8 + d.val
    omega
  refine (transpose_apply _ _ _ _ (ix3 n d ⟨h.val * 32 + w.val, hq⟩) ?_).trans ?_
  · intro b; match b with | ⟨0, _⟩ => rfl | ⟨1, _⟩ => rfl | ⟨2, _⟩ => rfl
  refine shapeCast_apply (t := S16x8x1024) _ _ _ (ix4 n d h w) ?_
  rw [Shape.rowMajor_val_three, Shape.rowMajor_val_four]
  show ((n.val * 8 + d.val) * 32 + h.val) * 32 + w.val = (n.val * 8 + d.val) * 1024 + (h.val * 32 + w.val)
  omega

end Cert.KernelEntry
-- ==== Proof.KernelRun.lean ====
/-
  The kernel's run: its two results as functions of its arguments.
-/
module

public import proofs.«01_k».proof.Proof.KernelArrays
public import proofs.«01_k».proof.Proof.KernelEntry

@[expose] public section

set_option maxRecDepth 16384

noncomputable section

namespace Cert.KernelRun

open Idealize.ShloMosaic Idealize.ShloMosaic.TcCoe Idealize.SL.Sem Idealize.ShloMosaic.StableHlo
open Cert.KernelIdeal Cert.KernelIdeal.Gen Cert.Words Cert.Lines
open Cert.Spec Cert.KernelWindows

variable (m : (ℓ : Loc nD τ sig) → Buf (Elt Ideal) ℓ) (c : Dev nD)

/-- The images, the codebook, the temperature and the usage the kernel is given. -/
def argX (n : Fin 16) (d : Fin 8) (h w : Fin 32) : EReal := (m ((c.tc : Thread nD τ).loc main_arg0) : FVec Ideal S16x8x32x32 .f32) (ix4 n d h w)
def argC (k : Fin 1024) (d : Fin 8) : EReal := (m ((c.tc : Thread nD τ).loc main_arg1) : FVec Ideal S1x1024x8 .f32) (ix3 0 k d)
def argT : EReal := (m ((c.tc : Thread nD τ).loc main_arg2) : FVec Ideal S1x1x1x1 .f32) (ix4 0 0 0 0)
def argF (k : Fin 1024) : EReal := (m ((c.tc : Thread nD τ).loc main_arg3) : FVec Ideal S1x1024 .f32) (ix2 0 k)

theorem cs_eq : cs m c = argC m c := funext fun k => funext fun d => KernelEntry.bookT_at m c k d
theorem ts_eq : ts m c = argT m c := KernelEntry.temp_at m c
theorem fs_eq : fs m c = argF m c := funext fun k => by
  show (V m c main_arg3 : Vec Ideal S1x1024 .f32) (ix2 0 k) = _
  rw [V_main_arg3]; rfl
theorem xs_eq (n : Fin 16) (h w : Fin 32) (p : Fin 16384) (hp : p.val = pixel n h w) : xs m c p = fun d => argX m c n d h w :=
  funext fun d => KernelEntry.vectors_at m c n h w d p hp

theorem rising_tail : Rising 269 272 (hostOps1 : List (HloOp τ sig (Elt Ideal))) := by
  refine .next (step_reshape _ _ _ _ _ _ rfl (by decide)) ?_
  refine .next (step_unary _ _ _ _ _ rfl (by decide)) ?_
  exact .next (step_reshape _ _ _ _ _ _ rfl (by decide)) (.nil _)

/-- The contents the lines after the launch start from. -/
def mid : Valuation τ sig (Elt Ideal) :=
  Pipeline.withArrays (cfgs 0).spec c (V0 m c) fun w => (dats m 0 c).arrAt w (cfgs 0).N

theorem arrays_differ : Function.Injective (Pipeline.arrRef spec0) := by decide

theorem mid_rows : mid m c (Proc.devRef .tc main_v22_0) = (dats m 0 c).arrAt 7 cfg0.N :=
  Pipeline.withArrays_arr spec0 arrays_differ c (V0 m c) (fun w => (dats m 0 c).arrAt w (cfgs 0).N) 7

theorem mid_codes : mid m c (Proc.devRef .tc main_v22_1) = (dats m 0 c).arrAt 8 cfg0.N :=
  Pipeline.withArrays_arr spec0 arrays_differ c (V0 m c) (fun w => (dats m 0 c).arrAt w (cfgs 0).N) 8

theorem image_value (n : Fin 16) (d : Fin 8) (h w : Fin 32) :
    (Pipeline.afterTail₀ cfgs (dats m) 0 (V0 m) [hostOps1] c main_v24 : FVec Ideal S16x8x32x32 .f32) (ix4 n d h w)
      = image (argC m c) (argT m c) (argF m c) (argX m c) n d h w := by
  obtain ⟨e1, e2, -⟩ := rising_tail.fix (mid m c)
  have h1 := eq_reshape e1
  have h2 := eq_unary e2
  rw [rising_tail.keeps (mid m c) main_v22_0 (by decide), mid_rows, KernelArrays.rows_array m c (KernelEntry.place_at m c) (KernelEntry.keys m c).1
    (KernelEntry.keys m c).2] at h1
  rw [h1] at h2
  refine (congrFun h2 (ix4 n d h w)).trans ?_
  have hp : pixel n h w < 16384 := by unfold pixel; omega
  refine (transpose_apply _ _ _ _ (ix4 n h w d) ?_).trans ?_
  · intro b; match b with | ⟨0, _⟩ => rfl | ⟨1, _⟩ => rfl | ⟨2, _⟩ => rfl | ⟨3, _⟩ => rfl
  refine (shapeCast_apply (t := S16x32x32x8) _ _ _ (ix2 ⟨pixel n h w, hp⟩ d) ?_).trans ?_
  · rw [Shape.rowMajor_val_two, Shape.rowMajor_val_four]
    show pixel n h w * 8 + d.val = ((n.val * 32 + h.val) * 32 + w.val) * 8 + d.val
    rfl
  show (V m c main_v0 : Vec Ideal S1024x8 .f32) (ix2 (taken (xs m c ⟨pixel n h w, hp⟩) (cs m c) (ts m c) (fs m c) (pixel n h w)) d) = _
  refine (KernelEntry.book_at m c _ d).trans ?_
  rw [xs_eq m c n h w _ rfl, cs_eq, ts_eq, fs_eq]
  rfl

theorem codes_value (n : Fin 16) (h w : Fin 32) :
    (Pipeline.afterTail₀ cfgs (dats m) 0 (V0 m) [hostOps1] c main_v25 : IVec S16x1x32x32 32) (ix4 n 0 h w)
      = codes (argC m c) (argT m c) (argF m c) (argX m c) n h w := by
  obtain ⟨_, _, e1⟩ := rising_tail.fix (mid m c)
  have h1 := eq_reshape e1
  rw [rising_tail.keeps (mid m c) main_v22_1 (by decide), mid_codes, KernelArrays.codes_array m c (KernelEntry.place_at m c) (KernelEntry.keys m c).1] at h1
  refine (congrFun h1 (ix4 n 0 h w)).trans ?_
  have hp : pixel n h w < 16384 := by unfold pixel; omega
  refine (shapeCast_apply (t := S16x1x32x32) _ _ _ (ix3 ⟨pixel n h w / 512, by omega⟩ 0 ⟨pixel n h w % 512, by omega⟩) ?_).trans ?_
  · rw [Shape.rowMajor_val_three, Shape.rowMajor_val_four]
    show (pixel n h w / 512 * 1 + 0) * 512 + pixel n h w % 512 = ((n.val * 1 + 0) * 32 + h.val) * 32 + w.val
    have : pixel n h w = (n.val * 32 + h.val) * 32 + w.val := rfl
    omega
  have hq : ∀ (q : ℕ) (hq : q < 16384), q = pixel n h w →
      BitVec.ofNat 32 (code (xs m c ⟨q, hq⟩) (cs m c) (ts m c) (fs m c) q).val = codes (argC m c) (argT m c) (argF m c) (argX m c) n h w := by
    rintro _ hq rfl
    rw [xs_eq m c n h w _ rfl, cs_eq, ts_eq, fs_eq]
    rfl
  exact hq (pixel n h w / 512 * 512 + pixel n h w % 512) (by omega) (by omega)

/-- Every run ends with the two results and the arguments unchanged. -/
theorem run (ρ : Dev nD → PrngReg) : θ_run defs (onTc (τ := τ) (main (F := Ideal))) ⟨m, fun _ => 0, ρ⟩ fun r => ∀ c : Dev nD,
    (∀ n d h w, (r.2.mem ((c.tc : Thread nD τ).loc main_v24) : FVec Ideal S16x8x32x32 .f32) (ix4 n d h w)
      = image (argC m c) (argT m c) (argF m c) (argX m c) n d h w)
    ∧ (∀ n h w, (r.2.mem ((c.tc : Thread nD τ).loc main_v25) : IVec S16x1x32x32 32) (ix4 n 0 h w)
      = codes (argC m c) (argT m c) (argF m c) (argX m c) n h w)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) := by
  refine (θ_run defs _ _).mono (fun r h c => ⟨fun n d h' w => ?_, fun n h' w => ?_, h.2 c⟩) (θ_run_and (run_main m ρ) (unchanged m ρ))
  · rw [(h.1 c).2 main_v24 (Pipeline.mem_restRefs_of main_v24 (by decide) (by decide))]
    exact image_value m c n d h' w
  · rw [(h.1 c).2 main_v25 (Pipeline.mem_restRefs_of main_v25 (by decide) (by decide))]
    exact codes_value m c n h' w

end Cert.KernelRun
-- ==== Proof.RefLines.lean ====
/-
  The reference's host operations as one list, in the order of its text, each writing a later buffer than it reads.
-/
module

public import proofs.«01_k».proof.Proof.HostDraw
public import proofs.«01_k».proof.Proof.Gen.ReferenceIdeal
public import Idealize.ShloMosaic.Lib.StableHlo.RunHlo

@[expose] public section

set_option maxRecDepth 16384

noncomputable section

namespace Cert.ReferenceIdeal

open Idealize.ShloMosaic Idealize.ShloMosaic.TcCoe Idealize.SL.Sem
open Idealize.ShloMosaic.StableHlo (seq IsSeq)
open Cert.Lines Cert.HostCipher Cert.HostSplit Cert.HostDraw
open Facts₀ Facts

variable {F : FTy → Type} [FloatOps F]

abbrev TcProg (F : FTy → Type) [FloatOps F] := Prog (TpuEff nD τ sig (Elt F) (Pipeline.Sig Λ₀ (Fin 0) fun p => (pcfgs (F := F) p).Adm) .tc) PUnit

/-- A called function's operations before the rest. -/
theorem isSeq_call {p k : TcProg F} {a b : List (HloOp τ sig (Elt F))} (hp : IsSeq p a) (hk : IsSeq k b) :
    IsSeq (p >>= fun _ => k) (a ++ b) := by
  unfold IsSeq at *; rw [hp, hk, StableHlo.seq_append]

/-- A last called function. -/
theorem isSeq_last {op : HloOp τ sig (Elt F)} : IsSeq (hlo rfl op fun _ => .ret ⟨⟩ : TcProg F) [op] := by
  unfold IsSeq; rfl

/-! ## The called functions -/

/-- The cipher's buffers of a call. -/
def fn_threefry2x32.Bufs.bufs (φ : fn_threefry2x32.Bufs) : HostCipher.Bufs sig HostSplit.S2 :=
  ⟨φ.v0, φ.c, φ.v1, φ.v2, φ.v3, φ.v4, φ.v5,
    ⟨⟨φ.v6, φ.c_0, φ.v7, φ.v8, φ.c_1, φ.v9, φ.v10, φ.v11, φ.v12⟩,
      ⟨φ.v13, φ.c_2, φ.v14, φ.v15, φ.c_3, φ.v16, φ.v17, φ.v18, φ.v19⟩,
      ⟨φ.v20, φ.c_4, φ.v21, φ.v22, φ.c_5, φ.v23, φ.v24, φ.v25, φ.v26⟩,
      ⟨φ.v27, φ.c_6, φ.v28, φ.v29, φ.c_7, φ.v30, φ.v31, φ.v32, φ.v33⟩,
      ⟨φ.v34, φ.v35, φ.v36, φ.v37, φ.c_8, φ.v38, φ.v39⟩⟩,
    ⟨⟨φ.v40, φ.c_9, φ.v41, φ.v42, φ.c_10, φ.v43, φ.v44, φ.v45, φ.v46⟩,
      ⟨φ.v47, φ.c_11, φ.v48, φ.v49, φ.c_12, φ.v50, φ.v51, φ.v52, φ.v53⟩,
      ⟨φ.v54, φ.c_13, φ.v55, φ.v56, φ.c_14, φ.v57, φ.v58, φ.v59, φ.v60⟩,
      ⟨φ.v61, φ.c_15, φ.v62, φ.v63, φ.c_16, φ.v64, φ.v65, φ.v66, φ.v67⟩,
      ⟨φ.v68, φ.v69, φ.v70, φ.v71, φ.c_17, φ.v72, φ.v73⟩⟩,
    ⟨⟨φ.v74, φ.c_18, φ.v75, φ.v76, φ.c_19, φ.v77, φ.v78, φ.v79, φ.v80⟩,
      ⟨φ.v81, φ.c_20, φ.v82, φ.v83, φ.c_21, φ.v84, φ.v85, φ.v86, φ.v87⟩,
      ⟨φ.v88, φ.c_22, φ.v89, φ.v90, φ.c_23, φ.v91, φ.v92, φ.v93, φ.v94⟩,
      ⟨φ.v95, φ.c_24, φ.v96, φ.v97, φ.c_25, φ.v98, φ.v99, φ.v100, φ.v101⟩,
      ⟨φ.v102, φ.v103, φ.v104, φ.v105, φ.c_26, φ.v106, φ.v107⟩⟩,
    ⟨⟨φ.v108, φ.c_27, φ.v109, φ.v110, φ.c_28, φ.v111, φ.v112, φ.v113, φ.v114⟩,
      ⟨φ.v115, φ.c_29, φ.v116, φ.v117, φ.c_30, φ.v118, φ.v119, φ.v120, φ.v121⟩,
      ⟨φ.v122, φ.c_31, φ.v123, φ.v124, φ.c_32, φ.v125, φ.v126, φ.v127, φ.v128⟩,
      ⟨φ.v129, φ.c_33, φ.v130, φ.v131, φ.c_34, φ.v132, φ.v133, φ.v134, φ.v135⟩,
      ⟨φ.v136, φ.v137, φ.v138, φ.v139, φ.c_35, φ.v140, φ.v141⟩⟩,
    ⟨⟨φ.v142, φ.c_36, φ.v143, φ.v144, φ.c_37, φ.v145, φ.v146, φ.v147, φ.v148⟩,
      ⟨φ.v149, φ.c_38, φ.v150, φ.v151, φ.c_39, φ.v152, φ.v153, φ.v154, φ.v155⟩,
      ⟨φ.v156, φ.c_40, φ.v157, φ.v158, φ.c_41, φ.v159, φ.v160, φ.v161, φ.v162⟩,
      ⟨φ.v163, φ.c_42, φ.v164, φ.v165, φ.c_43, φ.v166, φ.v167, φ.v168, φ.v169⟩,
      ⟨φ.v170, φ.v171, φ.v172, φ.v173, φ.c_44, φ.v174, φ.v175⟩⟩⟩

/-- The cipher's buffers of a call. -/
def fn_threefry2x32_0.Bufs.bufs (φ : fn_threefry2x32_0.Bufs) : HostCipher.Bufs sig Big :=
  ⟨φ.v0, φ.c, φ.v1, φ.v2, φ.v3, φ.v4, φ.v5,
    ⟨⟨φ.v6, φ.c_0, φ.v7, φ.v8, φ.c_1, φ.v9, φ.v10, φ.v11, φ.v12⟩,
      ⟨φ.v13, φ.c_2, φ.v14, φ.v15, φ.c_3, φ.v16, φ.v17, φ.v18, φ.v19⟩,
      ⟨φ.v20, φ.c_4, φ.v21, φ.v22, φ.c_5, φ.v23, φ.v24, φ.v25, φ.v26⟩,
      ⟨φ.v27, φ.c_6, φ.v28, φ.v29, φ.c_7, φ.v30, φ.v31, φ.v32, φ.v33⟩,
      ⟨φ.v34, φ.v35, φ.v36, φ.v37, φ.c_8, φ.v38, φ.v39⟩⟩,
    ⟨⟨φ.v40, φ.c_9, φ.v41, φ.v42, φ.c_10, φ.v43, φ.v44, φ.v45, φ.v46⟩,
      ⟨φ.v47, φ.c_11, φ.v48, φ.v49, φ.c_12, φ.v50, φ.v51, φ.v52, φ.v53⟩,
      ⟨φ.v54, φ.c_13, φ.v55, φ.v56, φ.c_14, φ.v57, φ.v58, φ.v59, φ.v60⟩,
      ⟨φ.v61, φ.c_15, φ.v62, φ.v63, φ.c_16, φ.v64, φ.v65, φ.v66, φ.v67⟩,
      ⟨φ.v68, φ.v69, φ.v70, φ.v71, φ.c_17, φ.v72, φ.v73⟩⟩,
    ⟨⟨φ.v74, φ.c_18, φ.v75, φ.v76, φ.c_19, φ.v77, φ.v78, φ.v79, φ.v80⟩,
      ⟨φ.v81, φ.c_20, φ.v82, φ.v83, φ.c_21, φ.v84, φ.v85, φ.v86, φ.v87⟩,
      ⟨φ.v88, φ.c_22, φ.v89, φ.v90, φ.c_23, φ.v91, φ.v92, φ.v93, φ.v94⟩,
      ⟨φ.v95, φ.c_24, φ.v96, φ.v97, φ.c_25, φ.v98, φ.v99, φ.v100, φ.v101⟩,
      ⟨φ.v102, φ.v103, φ.v104, φ.v105, φ.c_26, φ.v106, φ.v107⟩⟩,
    ⟨⟨φ.v108, φ.c_27, φ.v109, φ.v110, φ.c_28, φ.v111, φ.v112, φ.v113, φ.v114⟩,
      ⟨φ.v115, φ.c_29, φ.v116, φ.v117, φ.c_30, φ.v118, φ.v119, φ.v120, φ.v121⟩,
      ⟨φ.v122, φ.c_31, φ.v123, φ.v124, φ.c_32, φ.v125, φ.v126, φ.v127, φ.v128⟩,
      ⟨φ.v129, φ.c_33, φ.v130, φ.v131, φ.c_34, φ.v132, φ.v133, φ.v134, φ.v135⟩,
      ⟨φ.v136, φ.v137, φ.v138, φ.v139, φ.c_35, φ.v140, φ.v141⟩⟩,
    ⟨⟨φ.v142, φ.c_36, φ.v143, φ.v144, φ.c_37, φ.v145, φ.v146, φ.v147, φ.v148⟩,
      ⟨φ.v149, φ.c_38, φ.v150, φ.v151, φ.c_39, φ.v152, φ.v153, φ.v154, φ.v155⟩,
      ⟨φ.v156, φ.c_40, φ.v157, φ.v158, φ.c_41, φ.v159, φ.v160, φ.v161, φ.v162⟩,
      ⟨φ.v163, φ.c_42, φ.v164, φ.v165, φ.c_43, φ.v166, φ.v167, φ.v168, φ.v169⟩,
      ⟨φ.v170, φ.v171, φ.v172, φ.v173, φ.c_44, φ.v174, φ.v175⟩⟩⟩

/-- The split's buffers of a call. -/
def fn_threefry_split.Bufs.bufs (φ : fn_threefry_split.Bufs) : Split sig :=
  ⟨φ.v0, φ.v1, φ.v2, φ.v3, φ.v4, φ.c, φ.v5, φ.v6, φ.c_0, φ.v7, φ.v8, φ.v9, φ.v10, φ.call0.bufs, φ.v12, φ.v13, φ.v14⟩

/-- A draw's buffers of a call. -/
def fn_uniform.Bufs.bufs (φ : fn_uniform.Bufs) : Draw sig :=
  ⟨φ.v0, φ.v1, φ.v2, φ.v3, φ.v4, φ.v5, φ.v6, φ.v7, φ.v8, φ.v9, φ.v10, φ.v11, φ.v12, φ.c, φ.v13, φ.v14, φ.c_0, φ.v15, φ.v16, φ.c_1, φ.v17, φ.v18, φ.c_2, φ.v19, φ.v20, φ.c_3, φ.v21, φ.v22, φ.v23, φ.v24, φ.v25, φ.v26, φ.c_4, φ.v27, φ.v28, φ.v29, φ.v30, φ.call0.bufs, φ.v32, φ.c_5, φ.v33, φ.v34, φ.c_6, φ.v35, φ.v36, φ.v37, φ.cst, φ.v38, φ.v39, φ.v40, φ.v41, φ.v42, φ.v43, φ.v44, φ.v45, φ.v46⟩

theorem fn_threefry2x32.isSeq (k l : StableHlo.TRef sig ⟨S_, .i32⟩) (c d : StableHlo.TRef sig ⟨S2, .i32⟩) (φ : fn_threefry2x32.Bufs) :
    IsSeq (fn_threefry2x32.body k l c d φ : TcProg F) (cipherOps spreads_S2 k l c d φ.bufs) := by
  unfold fn_threefry2x32.body
  repeat (first | exact IsSeq.nil | apply IsSeq.cons)

theorem fn_threefry2x32_0.isSeq (k l : StableHlo.TRef sig ⟨S_, .i32⟩) (c d : StableHlo.TRef sig ⟨S16x1x32x32x1024, .i32⟩) (φ : fn_threefry2x32_0.Bufs) :
    IsSeq (fn_threefry2x32_0.body k l c d φ : TcProg F) (cipherOps spreads_all k l c d φ.bufs) := by
  unfold fn_threefry2x32_0.body
  repeat (first | exact IsSeq.nil | apply IsSeq.cons)

theorem fn_threefry_split.isSeq (w : StableHlo.TRef sig ⟨S2, .i32⟩) (φ : fn_threefry_split.Bufs) :
    IsSeq (fn_threefry_split.body w φ : TcProg F) (splitOps w φ.bufs) := by
  unfold fn_threefry_split.body
  iterate 13 apply IsSeq.cons
  change IsSeq _ (cipherOps spreads_S2 φ.v1 φ.v3 φ.v10 φ.v9 φ.call0.bufs ++ splitOps₂ φ.bufs)
  refine isSeq_call (fn_threefry2x32.isSeq _ _ _ _ _) ?_
  iterate 3 apply IsSeq.cons
  exact IsSeq.nil

theorem fn_uniform.isSeq (a : StableHlo.TRef sig ⟨S2, .i32⟩) (b c : StableHlo.TRef sig ⟨S_, .f32⟩) (φ : fn_uniform.Bufs) :
    IsSeq (fn_uniform.body a b c φ : TcProg F) (drawOps a b c φ.bufs) := by
  unfold fn_uniform.body
  iterate 37 apply IsSeq.cons
  change IsSeq _ (cipherOps spreads_all φ.v5 φ.v7 φ.v30 φ.v29 φ.call0.bufs ++ drawOps₂ φ.bufs)
  refine isSeq_call (fn_threefry2x32_0.isSeq _ _ _ _ _) ?_
  iterate 18 apply IsSeq.cons
  exact IsSeq.nil

/-- The operations of the function's call. -/
def fn_clip.ops (arg0 : StableHlo.TRef sig ⟨S_, .f32⟩) (arg1 : StableHlo.TRef sig ⟨S_, .f32⟩) (arg2 : StableHlo.TRef sig ⟨S_, .f32⟩) (φ : fn_clip.Bufs) : List (HloOp τ sig (Elt F)) :=
  [StableHlo.TRef.unary arg1 φ.v0 id,
   StableHlo.TRef.binary φ.v0 arg0 φ.v1 maximumf,
   StableHlo.TRef.unary arg2 φ.v2 id,
   StableHlo.TRef.binary φ.v2 φ.v1 φ.v3 minimumf]

theorem fn_clip.isSeq (arg0 : StableHlo.TRef sig ⟨S_, .f32⟩) (arg1 : StableHlo.TRef sig ⟨S_, .f32⟩) (arg2 : StableHlo.TRef sig ⟨S_, .f32⟩) (φ : fn_clip.Bufs) :
    IsSeq (fn_clip.body arg0 arg1 arg2 φ : TcProg F) (fn_clip.ops arg0 arg1 arg2 φ) := by
  unfold fn_clip.body
  repeat (first | exact IsSeq.nil | apply IsSeq.cons)

/-- The operations of the function's call. -/
def fn_where.ops (arg0 : StableHlo.TRef sig ⟨S16x1x32x32x1024, .i1⟩) (arg1 : StableHlo.TRef sig ⟨S16x1x32x32x1024, .f32⟩) (arg2 : StableHlo.TRef sig ⟨S16x1x32x32x1024, .f32⟩) (φ : fn_where.Bufs) : List (HloOp τ sig (Elt F)) :=
  [StableHlo.TRef.ternary arg0 arg1 arg2 φ.v0 select]

theorem fn_where.isSeq (arg0 : StableHlo.TRef sig ⟨S16x1x32x32x1024, .i1⟩) (arg1 : StableHlo.TRef sig ⟨S16x1x32x32x1024, .f32⟩) (arg2 : StableHlo.TRef sig ⟨S16x1x32x32x1024, .f32⟩) (φ : fn_where.Bufs) :
    IsSeq (fn_where.body arg0 arg1 arg2 φ : TcProg F) (fn_where.ops arg0 arg1 arg2 φ) := by
  unfold fn_where.body
  repeat (first | exact IsSeq.nil | apply IsSeq.cons)

/-- The operations of the function's call. -/
def fn_argmax.ops (arg0 : StableHlo.TRef sig ⟨S16x1x32x32x1024, .f32⟩) (φ : fn_argmax.Bufs) : List (HloOp τ sig (Elt F)) :=
  [StableHlo.TRef.nullary φ.v0 (iotaInDim S16x1x32x32x1024 32 4),
   StableHlo.TRef.nullary φ.cst (constant S_ .f32 0xFF800000#32),
   StableHlo.TRef.nullary φ.c (constantI S_ 32 0#32),
   StableHlo.TRef.quaternary arg0 φ.v0 φ.cst φ.c φ.v1_0 (fun x y u v j => (Host.argReduce reducer_argmax_f32_i32 x y u v reducesTo_S16x1x32x32x1024_S16x1x32x32_d4 h_S_ j).1),
   StableHlo.TRef.quaternary arg0 φ.v0 φ.cst φ.c φ.v1_1 (fun x y u v j => (Host.argReduce reducer_argmax_f32_i32 x y u v reducesTo_S16x1x32x32x1024_S16x1x32x32_d4 h_S_ j).2)]

theorem fn_argmax.isSeq (arg0 : StableHlo.TRef sig ⟨S16x1x32x32x1024, .f32⟩) (φ : fn_argmax.Bufs) :
    IsSeq (fn_argmax.body arg0 φ : TcProg F) (fn_argmax.ops arg0 φ) := by
  unfold fn_argmax.body
  repeat (first | exact IsSeq.nil | apply IsSeq.cons)

/-- The operations of the function's call. -/
def fn_one_hot.ops (arg0 : StableHlo.TRef sig ⟨S16x1x32x32, .i32⟩) (φ : fn_one_hot.Bufs) : List (HloOp τ sig (Elt F)) :=
  [StableHlo.TRef.unary arg0 φ.v0 (broadcastInDim S16x1x32x32x1 ![0, 1, 2, 3] bcast_S16x1x32x32_S16x1x32x32x1_0_1_2_3),
   StableHlo.TRef.nullary φ.v1 (iotaInDim S1x1x1x1x1024 32 4),
   StableHlo.TRef.unary φ.v0 φ.v2 (broadcastInDim S16x1x32x32x1024 ![0, 1, 2, 3, 4] bcast_S16x1x32x32x1_S16x1x32x32x1024_0_1_2_3_4),
   StableHlo.TRef.unary φ.v1 φ.v3 (broadcastInDim S16x1x32x32x1024 ![0, 1, 2, 3, 4] bcast_S1x1x1x1x1024_S16x1x32x32x1024_0_1_2_3_4),
   StableHlo.TRef.binary φ.v2 φ.v3 φ.v4 (cmpi .eq),
   StableHlo.TRef.unary φ.v4 φ.v5 (uitofp .f32)]

theorem fn_one_hot.isSeq (arg0 : StableHlo.TRef sig ⟨S16x1x32x32, .i32⟩) (φ : fn_one_hot.Bufs) :
    IsSeq (fn_one_hot.body arg0 φ : TcProg F) (fn_one_hot.ops arg0 φ) := by
  unfold fn_one_hot.body
  repeat (first | exact IsSeq.nil | apply IsSeq.cons)

/-! ## The main function -/

/-- The operations of the distances and the logits. -/
def distOps : List (HloOp τ sig (Elt F)) :=
  [StableHlo.reshape main_arg0 main_v0 (rfl : (.f32 : EltTy) = .f32) shapeCasts_S16x8x32x32_S16x1x8x32x32,
   StableHlo.binary main_v0 main_v0 main_v1 (mulf : (⟨S16x1x8x32x32, .f32⟩ : BufTy).Contents (Elt F) → (⟨S16x1x8x32x32, .f32⟩ : BufTy).Contents (Elt F) → (⟨S16x1x8x32x32, .f32⟩ : BufTy).Contents (Elt F)),
   StableHlo.nullary main_cst (constant S_ .f32 0x00000000#32),
   StableHlo.binary main_v1 main_cst main_v2 ((fun x v => Host.reduceAdd x v reducesTo_S16x1x8x32x32_S16x1x32x32_d2 h_S_) : (⟨S16x1x8x32x32, .f32⟩ : BufTy).Contents (Elt F) → (⟨S_, .f32⟩ : BufTy).Contents (Elt F) → (⟨S16x1x32x32, .f32⟩ : BufTy).Contents (Elt F)),
   StableHlo.unary main_v2 main_v3 (broadcastInDim S16x1x1x32x32 ![0, 1, 3, 4] bcast_S16x1x32x32_S16x1x1x32x32_0_1_3_4 : (⟨S16x1x32x32, .f32⟩ : BufTy).Contents (Elt F) → (⟨S16x1x1x32x32, .f32⟩ : BufTy).Contents (Elt F)),
   StableHlo.binary main_arg1 main_arg1 main_v4 (mulf : (⟨S1x1024x8, .f32⟩ : BufTy).Contents (Elt F) → (⟨S1x1024x8, .f32⟩ : BufTy).Contents (Elt F) → (⟨S1x1024x8, .f32⟩ : BufTy).Contents (Elt F)),
   StableHlo.nullary main_cst_0 (constant S_ .f32 0x00000000#32),
   StableHlo.binary main_v4 main_cst_0 main_v5 ((fun x v => Host.reduceAdd x v reducesTo_S1x1024x8_S1x1024_d2 h_S_) : (⟨S1x1024x8, .f32⟩ : BufTy).Contents (Elt F) → (⟨S_, .f32⟩ : BufTy).Contents (Elt F) → (⟨S1x1024, .f32⟩ : BufTy).Contents (Elt F)),
   StableHlo.unary main_v5 main_v6 (broadcastInDim S1x1x1024x1x1 ![1, 2] bcast_S1x1024_S1x1x1024x1x1_1_2 : (⟨S1x1024, .f32⟩ : BufTy).Contents (Elt F) → (⟨S1x1x1024x1x1, .f32⟩ : BufTy).Contents (Elt F)),
   StableHlo.binary main_arg1 main_v0 main_v7 ((fun l r => Host.dotGeneral dot_S1x1024x8_S16x1x8x32x32_S1x1024x16x32x32_2_2_1_034_0_1 none l r) : (⟨S1x1024x8, .f32⟩ : BufTy).Contents (Elt F) → (⟨S16x1x8x32x32, .f32⟩ : BufTy).Contents (Elt F) → (⟨S1x1024x16x32x32, .f32⟩ : BufTy).Contents (Elt F)),
   StableHlo.unary main_v7 main_v8 ((transpose S16x1x1024x32x32 [2, 0, 1, 3, 4] · transposes_S1x1024x16x32x32_S16x1x1024x32x32_2_0_1_3_4) : (⟨S1x1024x16x32x32, .f32⟩ : BufTy).Contents (Elt F) → (⟨S16x1x1024x32x32, .f32⟩ : BufTy).Contents (Elt F)),
   StableHlo.unary main_v3 main_v9 (broadcastInDim S16x1x1024x32x32 ![0, 1, 2, 3, 4] bcast_S16x1x1x32x32_S16x1x1024x32x32_0_1_2_3_4 : (⟨S16x1x1x32x32, .f32⟩ : BufTy).Contents (Elt F) → (⟨S16x1x1024x32x32, .f32⟩ : BufTy).Contents (Elt F)),
   StableHlo.unary main_v6 main_v10 (broadcastInDim S16x1x1024x32x32 ![0, 1, 2, 3, 4] bcast_S1x1x1024x1x1_S16x1x1024x32x32_0_1_2_3_4 : (⟨S1x1x1024x1x1, .f32⟩ : BufTy).Contents (Elt F) → (⟨S16x1x1024x32x32, .f32⟩ : BufTy).Contents (Elt F)),
   StableHlo.binary main_v9 main_v10 main_v11 (addf : (⟨S16x1x1024x32x32, .f32⟩ : BufTy).Contents (Elt F) → (⟨S16x1x1024x32x32, .f32⟩ : BufTy).Contents (Elt F) → (⟨S16x1x1024x32x32, .f32⟩ : BufTy).Contents (Elt F)),
   StableHlo.nullary main_cst_1 (constant S_ .f32 0x40000000#32),
   StableHlo.unary main_cst_1 main_v12 (broadcastInDim S16x1x1024x32x32 ![] bcast_S_S16x1x1024x32x32 : (⟨S_, .f32⟩ : BufTy).Contents (Elt F) → (⟨S16x1x1024x32x32, .f32⟩ : BufTy).Contents (Elt F)),
   StableHlo.binary main_v12 main_v8 main_v13 (mulf : (⟨S16x1x1024x32x32, .f32⟩ : BufTy).Contents (Elt F) → (⟨S16x1x1024x32x32, .f32⟩ : BufTy).Contents (Elt F) → (⟨S16x1x1024x32x32, .f32⟩ : BufTy).Contents (Elt F)),
   StableHlo.binary main_v11 main_v13 main_v14 (subf : (⟨S16x1x1024x32x32, .f32⟩ : BufTy).Contents (Elt F) → (⟨S16x1x1024x32x32, .f32⟩ : BufTy).Contents (Elt F) → (⟨S16x1x1024x32x32, .f32⟩ : BufTy).Contents (Elt F)),
   StableHlo.unary main_v14 main_v15 ((transpose S16x1x32x32x1024 [0, 1, 3, 4, 2] · transposes_S16x1x1024x32x32_S16x1x32x32x1024_0_1_3_4_2) : (⟨S16x1x1024x32x32, .f32⟩ : BufTy).Contents (Elt F) → (⟨S16x1x32x32x1024, .f32⟩ : BufTy).Contents (Elt F)),
   StableHlo.unary main_v15 main_v16 (Host.negf : (⟨S16x1x32x32x1024, .f32⟩ : BufTy).Contents (Elt F) → (⟨S16x1x32x32x1024, .f32⟩ : BufTy).Contents (Elt F)),
   StableHlo.nullary main_cst_2 (constant S_ .f32 0x42000000#32),
   StableHlo.unary main_cst_2 main_v17 (broadcastInDim S16x1x32x32x1024 ![] bcast_S_S16x1x32x32x1024 : (⟨S_, .f32⟩ : BufTy).Contents (Elt F) → (⟨S16x1x32x32x1024, .f32⟩ : BufTy).Contents (Elt F)),
   StableHlo.binary main_v16 main_v17 main_v18 (Host.divf : (⟨S16x1x32x32x1024, .f32⟩ : BufTy).Contents (Elt F) → (⟨S16x1x32x32x1024, .f32⟩ : BufTy).Contents (Elt F) → (⟨S16x1x32x32x1024, .f32⟩ : BufTy).Contents (Elt F)),
   StableHlo.nullary main_cst_3 (constant S_ .f32 0x33D6BF95#32),
   StableHlo.unary main_cst_3 main_v19 (broadcastInDim S1x1x1x1 ![] bcast_S_S1x1x1x1 : (⟨S_, .f32⟩ : BufTy).Contents (Elt F) → (⟨S1x1x1x1, .f32⟩ : BufTy).Contents (Elt F)),
   StableHlo.binary main_arg2 main_v19 main_v20 (maximumf : (⟨S1x1x1x1, .f32⟩ : BufTy).Contents (Elt F) → (⟨S1x1x1x1, .f32⟩ : BufTy).Contents (Elt F) → (⟨S1x1x1x1, .f32⟩ : BufTy).Contents (Elt F)),
   StableHlo.unary main_v20 main_v21 (broadcastInDim S1x1x1x1x1 ![1, 2, 3, 4] bcast_S1x1x1x1_S1x1x1x1x1_1_2_3_4 : (⟨S1x1x1x1, .f32⟩ : BufTy).Contents (Elt F) → (⟨S1x1x1x1x1, .f32⟩ : BufTy).Contents (Elt F)),
   StableHlo.unary main_v21 main_v22 (broadcastInDim S16x1x32x32x1024 ![0, 1, 2, 3, 4] bcast_S1x1x1x1x1_S16x1x32x32x1024_0_1_2_3_4 : (⟨S1x1x1x1x1, .f32⟩ : BufTy).Contents (Elt F) → (⟨S16x1x32x32x1024, .f32⟩ : BufTy).Contents (Elt F)),
   StableHlo.binary main_v18 main_v22 main_v23 (mulf : (⟨S16x1x32x32x1024, .f32⟩ : BufTy).Contents (Elt F) → (⟨S16x1x32x32x1024, .f32⟩ : BufTy).Contents (Elt F) → (⟨S16x1x32x32x1024, .f32⟩ : BufTy).Contents (Elt F))]

/-- The operations of the used share of the codebook. -/
def usageOps : List (HloOp τ sig (Elt F)) :=
  [StableHlo.nullary main_cst_6 (constant S_ .f32 0x33D6BF95#32),
   StableHlo.unary main_cst_6 main_v36 (broadcastInDim S1x1024 ![] bcast_S_S1x1024 : (⟨S_, .f32⟩ : BufTy).Contents (Elt F) → (⟨S1x1024, .f32⟩ : BufTy).Contents (Elt F)),
   StableHlo.binary main_arg3 main_v36 main_v37 (cmpf .ogt : (⟨S1x1024, .f32⟩ : BufTy).Contents (Elt F) → (⟨S1x1024, .f32⟩ : BufTy).Contents (Elt F) → (⟨S1x1024, .i1⟩ : BufTy).Contents (Elt F)),
   StableHlo.unary main_v37 main_v38 (uitofp .f32 : (⟨S1x1024, .i1⟩ : BufTy).Contents (Elt F) → (⟨S1x1024, .f32⟩ : BufTy).Contents (Elt F)),
   StableHlo.nullary main_cst_7 (constant S_ .f32 0x00000000#32),
   StableHlo.binary main_v38 main_cst_7 main_v39 ((fun x v => Host.reduceAdd x v reducesTo_S1x1024_S_d0_1 h_S_) : (⟨S1x1024, .f32⟩ : BufTy).Contents (Elt F) → (⟨S_, .f32⟩ : BufTy).Contents (Elt F) → (⟨S_, .f32⟩ : BufTy).Contents (Elt F)),
   StableHlo.nullary main_cst_8 (constant S_ .f32 0x44800000#32),
   StableHlo.binary main_v39 main_cst_8 main_v40 (Host.divf : (⟨S_, .f32⟩ : BufTy).Contents (Elt F) → (⟨S_, .f32⟩ : BufTy).Contents (Elt F) → (⟨S_, .f32⟩ : BufTy).Contents (Elt F)),
   StableHlo.nullary main_cst_9 (constant S_ .f32 0x00000000#32),
   StableHlo.nullary main_cst_10 (constant S_ .f32 0x3F800000#32)]

/-- The operations of the exponent of the random drop. -/
def exponentOps : List (HloOp τ sig (Elt F)) :=
  [StableHlo.binary main_v41 main_v41 main_v42 (mulf : (⟨S_, .f32⟩ : BufTy).Contents (Elt F) → (⟨S_, .f32⟩ : BufTy).Contents (Elt F) → (⟨S_, .f32⟩ : BufTy).Contents (Elt F)),
   StableHlo.nullary main_cst_11 (constant S_ .f32 0xC1100000#32),
   StableHlo.binary main_cst_11 main_v42 main_v43 (mulf : (⟨S_, .f32⟩ : BufTy).Contents (Elt F) → (⟨S_, .f32⟩ : BufTy).Contents (Elt F) → (⟨S_, .f32⟩ : BufTy).Contents (Elt F)),
   StableHlo.nullary main_cst_12 (constant S_ .f32 0x41200000#32),
   StableHlo.binary main_v43 main_cst_12 main_v44 (addf : (⟨S_, .f32⟩ : BufTy).Contents (Elt F) → (⟨S_, .f32⟩ : BufTy).Contents (Elt F) → (⟨S_, .f32⟩ : BufTy).Contents (Elt F))]

/-- The operations of the bounds of the first draw. -/
def dropStartOps : List (HloOp τ sig (Elt F)) :=
  [StableHlo.nullary main_cst_13 (constant S_ .f32 0x00000000#32),
   StableHlo.nullary main_cst_14 (constant S_ .f32 0x3F800000#32)]

/-- The operations of the random drop of frequent entries. -/
def maskOps : List (HloOp τ sig (Elt F)) :=
  [StableHlo.unary main_v44 main_v46 (broadcastInDim S16x1x32x32x1024 ![] bcast_S_S16x1x32x32x1024 : (⟨S_, .f32⟩ : BufTy).Contents (Elt F) → (⟨S16x1x32x32x1024, .f32⟩ : BufTy).Contents (Elt F)),
   StableHlo.binary main_v45 main_v46 main_v47 (Host.powf : (⟨S16x1x32x32x1024, .f32⟩ : BufTy).Contents (Elt F) → (⟨S16x1x32x32x1024, .f32⟩ : BufTy).Contents (Elt F) → (⟨S16x1x32x32x1024, .f32⟩ : BufTy).Contents (Elt F)),
   StableHlo.unary main_arg3 main_v48 (broadcastInDim S1x1x1x1024 ![0, 3] bcast_S1x1024_S1x1x1x1024_0_3 : (⟨S1x1024, .f32⟩ : BufTy).Contents (Elt F) → (⟨S1x1x1x1024, .f32⟩ : BufTy).Contents (Elt F)),
   StableHlo.unary main_v48 main_v49 (broadcastInDim S1x1x1x1x1024 ![1, 2, 3, 4] bcast_S1x1x1x1024_S1x1x1x1x1024_1_2_3_4 : (⟨S1x1x1x1024, .f32⟩ : BufTy).Contents (Elt F) → (⟨S1x1x1x1x1024, .f32⟩ : BufTy).Contents (Elt F)),
   StableHlo.unary main_v49 main_v50 (broadcastInDim S16x1x32x32x1024 ![0, 1, 2, 3, 4] bcast_S1x1x1x1x1024_S16x1x32x32x1024_0_1_2_3_4 : (⟨S1x1x1x1x1024, .f32⟩ : BufTy).Contents (Elt F) → (⟨S16x1x32x32x1024, .f32⟩ : BufTy).Contents (Elt F)),
   StableHlo.binary main_v47 main_v50 main_v51 (cmpf .olt : (⟨S16x1x32x32x1024, .f32⟩ : BufTy).Contents (Elt F) → (⟨S16x1x32x32x1024, .f32⟩ : BufTy).Contents (Elt F) → (⟨S16x1x32x32x1024, .i1⟩ : BufTy).Contents (Elt F)),
   StableHlo.nullary main_cst_15 (constant S_ .f32 0x4E6E6B28#32),
   StableHlo.unary main_cst_15 main_v52 (broadcastInDim S16x1x32x32x1024 ![] bcast_S_S16x1x32x32x1024 : (⟨S_, .f32⟩ : BufTy).Contents (Elt F) → (⟨S16x1x32x32x1024, .f32⟩ : BufTy).Contents (Elt F)),
   StableHlo.binary main_v23 main_v52 main_v53 (subf : (⟨S16x1x32x32x1024, .f32⟩ : BufTy).Contents (Elt F) → (⟨S16x1x32x32x1024, .f32⟩ : BufTy).Contents (Elt F) → (⟨S16x1x32x32x1024, .f32⟩ : BufTy).Contents (Elt F))]

/-- The operations of the bounds of the second draw. -/
def gumbelStartOps : List (HloOp τ sig (Elt F)) :=
  [StableHlo.nullary main_cst_16 (constant S_ .f32 0x00000000#32),
   StableHlo.nullary main_cst_17 (constant S_ .f32 0x3F800000#32)]

/-- The operations of the softmax of the perturbed logits. -/
def softmaxOps : List (HloOp τ sig (Elt F)) :=
  [StableHlo.nullary main_cst_18 (constant S_ .f32 0x1E3CE508#32),
   StableHlo.unary main_cst_18 main_v56 (broadcastInDim S16x1x32x32x1024 ![] bcast_S_S16x1x32x32x1024 : (⟨S_, .f32⟩ : BufTy).Contents (Elt F) → (⟨S16x1x32x32x1024, .f32⟩ : BufTy).Contents (Elt F)),
   StableHlo.binary main_v56 main_v55 main_v57 (maximumf : (⟨S16x1x32x32x1024, .f32⟩ : BufTy).Contents (Elt F) → (⟨S16x1x32x32x1024, .f32⟩ : BufTy).Contents (Elt F) → (⟨S16x1x32x32x1024, .f32⟩ : BufTy).Contents (Elt F)),
   StableHlo.unary main_v57 main_v58 (Host.log : (⟨S16x1x32x32x1024, .f32⟩ : BufTy).Contents (Elt F) → (⟨S16x1x32x32x1024, .f32⟩ : BufTy).Contents (Elt F)),
   StableHlo.unary main_v58 main_v59 (Host.negf : (⟨S16x1x32x32x1024, .f32⟩ : BufTy).Contents (Elt F) → (⟨S16x1x32x32x1024, .f32⟩ : BufTy).Contents (Elt F)),
   StableHlo.unary main_v59 main_v60 (Host.log : (⟨S16x1x32x32x1024, .f32⟩ : BufTy).Contents (Elt F) → (⟨S16x1x32x32x1024, .f32⟩ : BufTy).Contents (Elt F)),
   StableHlo.unary main_v60 main_v61 (Host.negf : (⟨S16x1x32x32x1024, .f32⟩ : BufTy).Contents (Elt F) → (⟨S16x1x32x32x1024, .f32⟩ : BufTy).Contents (Elt F)),
   StableHlo.binary main_v54 main_v61 main_v62 (addf : (⟨S16x1x32x32x1024, .f32⟩ : BufTy).Contents (Elt F) → (⟨S16x1x32x32x1024, .f32⟩ : BufTy).Contents (Elt F) → (⟨S16x1x32x32x1024, .f32⟩ : BufTy).Contents (Elt F)),
   StableHlo.nullary main_cst_19 (constant S_ .f32 0x3F800000#32),
   StableHlo.unary main_cst_19 main_v63 (broadcastInDim S16x1x32x32x1024 ![] bcast_S_S16x1x32x32x1024 : (⟨S_, .f32⟩ : BufTy).Contents (Elt F) → (⟨S16x1x32x32x1024, .f32⟩ : BufTy).Contents (Elt F)),
   StableHlo.binary main_v62 main_v63 main_v64 (Host.divf : (⟨S16x1x32x32x1024, .f32⟩ : BufTy).Contents (Elt F) → (⟨S16x1x32x32x1024, .f32⟩ : BufTy).Contents (Elt F) → (⟨S16x1x32x32x1024, .f32⟩ : BufTy).Contents (Elt F)),
   StableHlo.nullary main_cst_20 (constant S_ .f32 0xFF800000#32),
   StableHlo.binary main_v64 main_cst_20 main_v65 ((fun x v => Host.reduce FloatOps.maximumf x v reducesTo_S16x1x32x32x1024_S16x1x32x32_d4 h_S_) : (⟨S16x1x32x32x1024, .f32⟩ : BufTy).Contents (Elt F) → (⟨S_, .f32⟩ : BufTy).Contents (Elt F) → (⟨S16x1x32x32, .f32⟩ : BufTy).Contents (Elt F)),
   StableHlo.nullary main_cst_21 (constant S_ .f32 0xFF800000#32),
   StableHlo.unary main_cst_21 main_v66 (broadcastInDim S16x1x32x32 ![] bcast_S_S16x1x32x32 : (⟨S_, .f32⟩ : BufTy).Contents (Elt F) → (⟨S16x1x32x32, .f32⟩ : BufTy).Contents (Elt F)),
   StableHlo.binary main_v66 main_v65 main_v67 (maximumf : (⟨S16x1x32x32, .f32⟩ : BufTy).Contents (Elt F) → (⟨S16x1x32x32, .f32⟩ : BufTy).Contents (Elt F) → (⟨S16x1x32x32, .f32⟩ : BufTy).Contents (Elt F)),
   StableHlo.unary main_v67 main_v68 (broadcastInDim S16x1x32x32x1 ![0, 1, 2, 3] bcast_S16x1x32x32_S16x1x32x32x1_0_1_2_3 : (⟨S16x1x32x32, .f32⟩ : BufTy).Contents (Elt F) → (⟨S16x1x32x32x1, .f32⟩ : BufTy).Contents (Elt F)),
   StableHlo.unary main_v68 main_v69 (broadcastInDim S16x1x32x32x1024 ![0, 1, 2, 3, 4] bcast_S16x1x32x32x1_S16x1x32x32x1024_0_1_2_3_4 : (⟨S16x1x32x32x1, .f32⟩ : BufTy).Contents (Elt F) → (⟨S16x1x32x32x1024, .f32⟩ : BufTy).Contents (Elt F)),
   StableHlo.binary main_v64 main_v69 main_v70 (subf : (⟨S16x1x32x32x1024, .f32⟩ : BufTy).Contents (Elt F) → (⟨S16x1x32x32x1024, .f32⟩ : BufTy).Contents (Elt F) → (⟨S16x1x32x32x1024, .f32⟩ : BufTy).Contents (Elt F)),
   StableHlo.unary main_v70 main_v71 (Host.exp : (⟨S16x1x32x32x1024, .f32⟩ : BufTy).Contents (Elt F) → (⟨S16x1x32x32x1024, .f32⟩ : BufTy).Contents (Elt F)),
   StableHlo.nullary main_cst_22 (constant S_ .f32 0x00000000#32),
   StableHlo.binary main_v71 main_cst_22 main_v72 ((fun x v => Host.reduceAdd x v reducesTo_S16x1x32x32x1024_S16x1x32x32_d4 h_S_) : (⟨S16x1x32x32x1024, .f32⟩ : BufTy).Contents (Elt F) → (⟨S_, .f32⟩ : BufTy).Contents (Elt F) → (⟨S16x1x32x32, .f32⟩ : BufTy).Contents (Elt F)),
   StableHlo.unary main_v72 main_v73 (broadcastInDim S16x1x32x32x1 ![0, 1, 2, 3] bcast_S16x1x32x32_S16x1x32x32x1_0_1_2_3 : (⟨S16x1x32x32, .f32⟩ : BufTy).Contents (Elt F) → (⟨S16x1x32x32x1, .f32⟩ : BufTy).Contents (Elt F)),
   StableHlo.unary main_v73 main_v74 (broadcastInDim S16x1x32x32x1024 ![0, 1, 2, 3, 4] bcast_S16x1x32x32x1_S16x1x32x32x1024_0_1_2_3_4 : (⟨S16x1x32x32x1, .f32⟩ : BufTy).Contents (Elt F) → (⟨S16x1x32x32x1024, .f32⟩ : BufTy).Contents (Elt F)),
   StableHlo.binary main_v71 main_v74 main_v75 (Host.divf : (⟨S16x1x32x32x1024, .f32⟩ : BufTy).Contents (Elt F) → (⟨S16x1x32x32x1024, .f32⟩ : BufTy).Contents (Elt F) → (⟨S16x1x32x32x1024, .f32⟩ : BufTy).Contents (Elt F))]

/-- The operations of the straight-through sample. -/
def straightOps : List (HloOp τ sig (Elt F)) :=
  [StableHlo.binary main_v77 main_v75 main_v78 (subf : (⟨S16x1x32x32x1024, .f32⟩ : BufTy).Contents (Elt F) → (⟨S16x1x32x32x1024, .f32⟩ : BufTy).Contents (Elt F) → (⟨S16x1x32x32x1024, .f32⟩ : BufTy).Contents (Elt F)),
   StableHlo.binary main_v78 main_v75 main_v79 (addf : (⟨S16x1x32x32x1024, .f32⟩ : BufTy).Contents (Elt F) → (⟨S16x1x32x32x1024, .f32⟩ : BufTy).Contents (Elt F) → (⟨S16x1x32x32x1024, .f32⟩ : BufTy).Contents (Elt F))]

/-- The operations of the decoding. -/
def decodeOps : List (HloOp τ sig (Elt F)) :=
  [StableHlo.binary main_arg1 main_v79 main_v81 ((fun l r => Host.dotGeneral dot_S1x1024x8_S16x1x32x32x1024_S1x8x16x32x32_1_4_2_023_0_1 none l r) : (⟨S1x1024x8, .f32⟩ : BufTy).Contents (Elt F) → (⟨S16x1x32x32x1024, .f32⟩ : BufTy).Contents (Elt F) → (⟨S1x8x16x32x32, .f32⟩ : BufTy).Contents (Elt F)),
   StableHlo.unary main_v81 main_v82 ((transpose S16x1x32x32x8 [2, 0, 3, 4, 1] · transposes_S1x8x16x32x32_S16x1x32x32x8_2_0_3_4_1) : (⟨S1x8x16x32x32, .f32⟩ : BufTy).Contents (Elt F) → (⟨S16x1x32x32x8, .f32⟩ : BufTy).Contents (Elt F)),
   StableHlo.unary main_v82 main_v83 ((transpose S16x1x8x32x32 [0, 1, 4, 2, 3] · transposes_S16x1x32x32x8_S16x1x8x32x32_0_1_4_2_3) : (⟨S16x1x32x32x8, .f32⟩ : BufTy).Contents (Elt F) → (⟨S16x1x8x32x32, .f32⟩ : BufTy).Contents (Elt F)),
   StableHlo.reshape main_v83 main_v84 (rfl : (.f32 : EltTy) = .f32) shapeCasts_S16x1x8x32x32_S16x8x32x32]

/-- The seed's buffers. -/
def seedBufs : Seed sig :=
  ⟨.of main_c, .of main_c_4, .of main_v24, .of main_v25, .of main_v26, .of main_c_5, .of main_v27, .of main_v28,
   .of main_v29, .of main_v30⟩
/-- The buffers of the two keys. -/
def keyBufs : Cut sig := ⟨.of main_v32, .of main_v33, .of main_v34, .of main_v35⟩

/-- The first half's operations. -/
def ops₀ : List (HloOp τ sig (Elt F)) :=
  distOps ++ ((seedOps seedBufs) ++ ((splitOps (.of main_v30) main_call0.bufs) ++ ((cutOps main_call0.v14 keyBufs) ++ (usageOps ++ ((fn_clip.ops (.of main_v40) (.of main_cst_9) (.of main_cst_10) main_call1) ++ (exponentOps))))))

/-- The second half's operations. -/
def ops₁ : List (HloOp τ sig (Elt F)) :=
  dropStartOps ++ ((drawOps (.of main_v33) (.of main_cst_13) (.of main_cst_14) main_call2.bufs) ++ (maskOps ++ ((fn_where.ops (.of main_v51) (.of main_v53) (.of main_v23) main_call3) ++ (gumbelStartOps ++ ((drawOps (.of main_v35) (.of main_cst_16) (.of main_cst_17) main_call4.bufs) ++ (softmaxOps ++ ((fn_argmax.ops (.of main_v75) main_call5) ++ ((fn_one_hot.ops (.of main_v76) main_call6) ++ (straightOps ++ ((fn_argmax.ops (.of main_v54) main_call7) ++ (decodeOps)))))))))))

/-- The reference's operations. -/
def ops : List (HloOp τ sig (Elt F)) := ops₀ ++ ops₁

theorem main_part0.isSeq (d : Dev nD) : IsSeq (main_part0 d : TcProg F) ops₀ := by
  unfold main_part0
  iterate 39 apply IsSeq.cons
  change IsSeq _ ((splitOps (.of main_v30) main_call0.bufs) ++ ((cutOps main_call0.v14 keyBufs) ++ (usageOps ++ ((fn_clip.ops (.of main_v40) (.of main_cst_9) (.of main_cst_10) main_call1) ++ (exponentOps)))))
  refine isSeq_call (fn_threefry_split.isSeq _ _) ?_
  iterate 14 apply IsSeq.cons
  change IsSeq _ ((fn_clip.ops (.of main_v40) (.of main_cst_9) (.of main_cst_10) main_call1) ++ (exponentOps))
  refine isSeq_call (fn_clip.isSeq _ _ _ _) ?_
  iterate 4 apply IsSeq.cons
  exact isSeq_last

theorem main_part1.isSeq (d : Dev nD) : IsSeq (main_part1 d : TcProg F) ops₁ := by
  unfold main_part1
  iterate 2 apply IsSeq.cons
  change IsSeq _ ((drawOps (.of main_v33) (.of main_cst_13) (.of main_cst_14) main_call2.bufs) ++ (maskOps ++ ((fn_where.ops (.of main_v51) (.of main_v53) (.of main_v23) main_call3) ++ (gumbelStartOps ++ ((drawOps (.of main_v35) (.of main_cst_16) (.of main_cst_17) main_call4.bufs) ++ (softmaxOps ++ ((fn_argmax.ops (.of main_v75) main_call5) ++ ((fn_one_hot.ops (.of main_v76) main_call6) ++ (straightOps ++ ((fn_argmax.ops (.of main_v54) main_call7) ++ (decodeOps)))))))))))
  refine isSeq_call (fn_uniform.isSeq _ _ _ _) ?_
  iterate 9 apply IsSeq.cons
  change IsSeq _ ((fn_where.ops (.of main_v51) (.of main_v53) (.of main_v23) main_call3) ++ (gumbelStartOps ++ ((drawOps (.of main_v35) (.of main_cst_16) (.of main_cst_17) main_call4.bufs) ++ (softmaxOps ++ ((fn_argmax.ops (.of main_v75) main_call5) ++ ((fn_one_hot.ops (.of main_v76) main_call6) ++ (straightOps ++ ((fn_argmax.ops (.of main_v54) main_call7) ++ (decodeOps)))))))))
  refine isSeq_call (fn_where.isSeq _ _ _ _) ?_
  iterate 2 apply IsSeq.cons
  change IsSeq _ ((drawOps (.of main_v35) (.of main_cst_16) (.of main_cst_17) main_call4.bufs) ++ (softmaxOps ++ ((fn_argmax.ops (.of main_v75) main_call5) ++ ((fn_one_hot.ops (.of main_v76) main_call6) ++ (straightOps ++ ((fn_argmax.ops (.of main_v54) main_call7) ++ (decodeOps)))))))
  refine isSeq_call (fn_uniform.isSeq _ _ _ _) ?_
  iterate 25 apply IsSeq.cons
  change IsSeq _ ((fn_argmax.ops (.of main_v75) main_call5) ++ ((fn_one_hot.ops (.of main_v76) main_call6) ++ (straightOps ++ ((fn_argmax.ops (.of main_v54) main_call7) ++ (decodeOps)))))
  refine isSeq_call (fn_argmax.isSeq _ _) ?_
  change IsSeq _ ((fn_one_hot.ops (.of main_v76) main_call6) ++ (straightOps ++ ((fn_argmax.ops (.of main_v54) main_call7) ++ (decodeOps))))
  refine isSeq_call (fn_one_hot.isSeq _ _) ?_
  iterate 2 apply IsSeq.cons
  change IsSeq _ ((fn_argmax.ops (.of main_v54) main_call7) ++ (decodeOps))
  refine isSeq_call (fn_argmax.isSeq _ _) ?_
  iterate 4 apply IsSeq.cons
  exact IsSeq.nil

theorem main_eq (d : Dev nD) : main (F := F) d = seq ops :=
  isSeq_call (main_part0.isSeq d) (main_part1.isSeq d)

end Cert.ReferenceIdeal
-- ==== Proof.RefRun.lean ====
/-
  The reference's run: every buffer ends at the value its one operation gives it.
-/
module

public import proofs.«01_k».proof.Proof.RefLines
public import Idealize.ShloMosaic.Lib.Quiescent
public import Idealize.ShloMosaic.Lib.StableHlo.Run

@[expose] public section

set_option maxRecDepth 16384

noncomputable section

namespace Cert.ReferenceIdeal

open Idealize.ShloMosaic Idealize.ShloMosaic.TcCoe Idealize.SL.Sem
open Cert.Lines Cert.HostCipher Cert.HostSplit Cert.HostDraw

variable {F : FTy → Type} [FloatOps F]

theorem rising_distOps : Rising 4 33 (distOps : List (HloOp τ sig (Elt F))) := by
  refine .next (step_reshape _ _ _ _ _ _ rfl (by decide)) ?_
  refine .next (step_binary _ _ _ _ _ _ _ rfl (by decide) (by decide)) ?_
  refine .next (step_nullary _ _ _ rfl) ?_
  refine .next (step_binary _ _ _ _ _ _ _ rfl (by decide) (by decide)) ?_
  refine .next (step_unary _ _ _ _ _ rfl (by decide)) ?_
  refine .next (step_binary _ _ _ _ _ _ _ rfl (by decide) (by decide)) ?_
  refine .next (step_nullary _ _ _ rfl) ?_
  refine .next (step_binary _ _ _ _ _ _ _ rfl (by decide) (by decide)) ?_
  refine .next (step_unary _ _ _ _ _ rfl (by decide)) ?_
  refine .next (step_binary _ _ _ _ _ _ _ rfl (by decide) (by decide)) ?_
  refine .next (step_unary _ _ _ _ _ rfl (by decide)) ?_
  refine .next (step_unary _ _ _ _ _ rfl (by decide)) ?_
  refine .next (step_unary _ _ _ _ _ rfl (by decide)) ?_
  refine .next (step_binary _ _ _ _ _ _ _ rfl (by decide) (by decide)) ?_
  refine .next (step_nullary _ _ _ rfl) ?_
  refine .next (step_unary _ _ _ _ _ rfl (by decide)) ?_
  refine .next (step_binary _ _ _ _ _ _ _ rfl (by decide) (by decide)) ?_
  refine .next (step_binary _ _ _ _ _ _ _ rfl (by decide) (by decide)) ?_
  refine .next (step_unary _ _ _ _ _ rfl (by decide)) ?_
  refine .next (step_unary _ _ _ _ _ rfl (by decide)) ?_
  refine .next (step_nullary _ _ _ rfl) ?_
  refine .next (step_unary _ _ _ _ _ rfl (by decide)) ?_
  refine .next (step_binary _ _ _ _ _ _ _ rfl (by decide) (by decide)) ?_
  refine .next (step_nullary _ _ _ rfl) ?_
  refine .next (step_unary _ _ _ _ _ rfl (by decide)) ?_
  refine .next (step_binary _ _ _ _ _ _ _ rfl (by decide) (by decide)) ?_
  refine .next (step_unary _ _ _ _ _ rfl (by decide)) ?_
  refine .next (step_unary _ _ _ _ _ rfl (by decide)) ?_
  refine .next (step_binary _ _ _ _ _ _ _ rfl (by decide) (by decide)) ?_
  exact .nil _

theorem rising_usageOps : Rising 285 295 (usageOps : List (HloOp τ sig (Elt F))) := by
  refine .next (step_nullary _ _ _ rfl) ?_
  refine .next (step_unary _ _ _ _ _ rfl (by decide)) ?_
  refine .next (step_binary _ _ _ _ _ _ _ rfl (by decide) (by decide)) ?_
  refine .next (step_unary _ _ _ _ _ rfl (by decide)) ?_
  refine .next (step_nullary _ _ _ rfl) ?_
  refine .next (step_binary _ _ _ _ _ _ _ rfl (by decide) (by decide)) ?_
  refine .next (step_nullary _ _ _ rfl) ?_
  refine .next (step_binary _ _ _ _ _ _ _ rfl (by decide) (by decide)) ?_
  refine .next (step_nullary _ _ _ rfl) ?_
  refine .next (step_nullary _ _ _ rfl) ?_
  exact .nil _

theorem rising_exponentOps : Rising 299 304 (exponentOps : List (HloOp τ sig (Elt F))) := by
  refine .next (step_binary _ _ _ _ _ _ _ rfl (by decide) (by decide)) ?_
  refine .next (step_nullary _ _ _ rfl) ?_
  refine .next (step_binary _ _ _ _ _ _ _ rfl (by decide) (by decide)) ?_
  refine .next (step_nullary _ _ _ rfl) ?_
  refine .next (step_binary _ _ _ _ _ _ _ rfl (by decide) (by decide)) ?_
  exact .nil _

theorem rising_dropStartOps : Rising 304 306 (dropStartOps : List (HloOp τ sig (Elt F))) := by
  refine .next (step_nullary _ _ _ rfl) ?_
  refine .next (step_nullary _ _ _ rfl) ?_
  exact .nil _

theorem rising_maskOps : Rising 583 592 (maskOps : List (HloOp τ sig (Elt F))) := by
  refine .next (step_unary _ _ _ _ _ rfl (by decide)) ?_
  refine .next (step_binary _ _ _ _ _ _ _ rfl (by decide) (by decide)) ?_
  refine .next (step_unary _ _ _ _ _ rfl (by decide)) ?_
  refine .next (step_unary _ _ _ _ _ rfl (by decide)) ?_
  refine .next (step_unary _ _ _ _ _ rfl (by decide)) ?_
  refine .next (step_binary _ _ _ _ _ _ _ rfl (by decide) (by decide)) ?_
  refine .next (step_nullary _ _ _ rfl) ?_
  refine .next (step_unary _ _ _ _ _ rfl (by decide)) ?_
  refine .next (step_binary _ _ _ _ _ _ _ rfl (by decide) (by decide)) ?_
  exact .nil _

theorem rising_gumbelStartOps : Rising 593 595 (gumbelStartOps : List (HloOp τ sig (Elt F))) := by
  refine .next (step_nullary _ _ _ rfl) ?_
  refine .next (step_nullary _ _ _ rfl) ?_
  exact .nil _

theorem rising_softmaxOps : Rising 872 897 (softmaxOps : List (HloOp τ sig (Elt F))) := by
  refine .next (step_nullary _ _ _ rfl) ?_
  refine .next (step_unary _ _ _ _ _ rfl (by decide)) ?_
  refine .next (step_binary _ _ _ _ _ _ _ rfl (by decide) (by decide)) ?_
  refine .next (step_unary _ _ _ _ _ rfl (by decide)) ?_
  refine .next (step_unary _ _ _ _ _ rfl (by decide)) ?_
  refine .next (step_unary _ _ _ _ _ rfl (by decide)) ?_
  refine .next (step_unary _ _ _ _ _ rfl (by decide)) ?_
  refine .next (step_binary _ _ _ _ _ _ _ rfl (by decide) (by decide)) ?_
  refine .next (step_nullary _ _ _ rfl) ?_
  refine .next (step_unary _ _ _ _ _ rfl (by decide)) ?_
  refine .next (step_binary _ _ _ _ _ _ _ rfl (by decide) (by decide)) ?_
  refine .next (step_nullary _ _ _ rfl) ?_
  refine .next (step_binary _ _ _ _ _ _ _ rfl (by decide) (by decide)) ?_
  refine .next (step_nullary _ _ _ rfl) ?_
  refine .next (step_unary _ _ _ _ _ rfl (by decide)) ?_
  refine .next (step_binary _ _ _ _ _ _ _ rfl (by decide) (by decide)) ?_
  refine .next (step_unary _ _ _ _ _ rfl (by decide)) ?_
  refine .next (step_unary _ _ _ _ _ rfl (by decide)) ?_
  refine .next (step_binary _ _ _ _ _ _ _ rfl (by decide) (by decide)) ?_
  refine .next (step_unary _ _ _ _ _ rfl (by decide)) ?_
  refine .next (step_nullary _ _ _ rfl) ?_
  refine .next (step_binary _ _ _ _ _ _ _ rfl (by decide) (by decide)) ?_
  refine .next (step_unary _ _ _ _ _ rfl (by decide)) ?_
  refine .next (step_unary _ _ _ _ _ rfl (by decide)) ?_
  refine .next (step_binary _ _ _ _ _ _ _ rfl (by decide) (by decide)) ?_
  exact .nil _

theorem rising_straightOps : Rising 908 910 (straightOps : List (HloOp τ sig (Elt F))) := by
  refine .next (step_binary _ _ _ _ _ _ _ rfl (by decide) (by decide)) ?_
  refine .next (step_binary _ _ _ _ _ _ _ rfl (by decide) (by decide)) ?_
  exact .nil _

theorem rising_decodeOps : Rising 915 919 (decodeOps : List (HloOp τ sig (Elt F))) := by
  refine .next (step_binary _ _ _ _ _ _ _ rfl (by decide) (by decide)) ?_
  refine .next (step_unary _ _ _ _ _ rfl (by decide)) ?_
  refine .next (step_unary _ _ _ _ _ rfl (by decide)) ?_
  refine .next (step_reshape _ _ _ _ _ _ rfl (by decide)) ?_
  exact .nil _

theorem seedBufs_at : seedBufs.At 33 := by constructor <;> rfl
theorem keyBufs_at : keyBufs.At 281 := by constructor <;> rfl
theorem split_at : main_call0.bufs.At 43 := by repeat' first | rfl | constructor
theorem draw1_at : main_call2.bufs.At 306 := by repeat' first | rfl | constructor
theorem draw2_at : main_call4.bufs.At 595 := by repeat' first | rfl | constructor

theorem rising_clip : Rising 295 299 (fn_clip.ops (.of main_v40) (.of main_cst_9) (.of main_cst_10) main_call1 : List (HloOp τ sig (Elt F))) := by
  refine .next (step_unary _ _ _ _ _ rfl (by decide)) ?_
  refine .next (step_binary _ _ _ _ _ _ _ rfl (by decide) (by decide)) ?_
  refine .next (step_unary _ _ _ _ _ rfl (by decide)) ?_
  refine .next (step_binary _ _ _ _ _ _ _ rfl (by decide) (by decide)) ?_
  exact .nil _
theorem rising_where : Rising 592 593 (fn_where.ops (.of main_v51) (.of main_v53) (.of main_v23) main_call3 : List (HloOp τ sig (Elt F))) :=
  .next (step_ternary _ _ _ _ _ _ _ _ _ rfl (by decide) (by decide) (by decide)) (.nil _)
theorem rising_argmax₁ : Rising 897 902 (fn_argmax.ops (.of main_v75) main_call5 : List (HloOp τ sig (Elt F))) := by
  refine .next (step_nullary _ _ _ rfl) (.next (step_nullary _ _ _ rfl) (.next (step_nullary _ _ _ rfl) ?_))
  refine .next (step_quaternary _ _ _ _ _ _ _ _ _ _ _ rfl (by decide) (by decide) (by decide) (by decide)) ?_
  refine .next (step_quaternary _ _ _ _ _ _ _ _ _ _ _ rfl (by decide) (by decide) (by decide) (by decide)) ?_
  exact .nil _
theorem rising_oneHot : Rising 902 908 (fn_one_hot.ops (.of main_v76) main_call6 : List (HloOp τ sig (Elt F))) := by
  refine .next (step_unary _ _ _ _ _ rfl (by decide)) (.next (step_nullary _ _ _ rfl) ?_)
  refine .next (step_unary _ _ _ _ _ rfl (by decide)) (.next (step_unary _ _ _ _ _ rfl (by decide)) ?_)
  refine .next (step_binary _ _ _ _ _ _ _ rfl (by decide) (by decide)) ?_
  exact .next (step_unary _ _ _ _ _ rfl (by decide)) (.nil _)
theorem rising_argmax₂ : Rising 910 915 (fn_argmax.ops (.of main_v54) main_call7 : List (HloOp τ sig (Elt F))) := by
  refine .next (step_nullary _ _ _ rfl) (.next (step_nullary _ _ _ rfl) (.next (step_nullary _ _ _ rfl) ?_))
  refine .next (step_quaternary _ _ _ _ _ _ _ _ _ _ _ rfl (by decide) (by decide) (by decide) (by decide)) ?_
  refine .next (step_quaternary _ _ _ _ _ _ _ _ _ _ _ rfl (by decide) (by decide) (by decide) (by decide)) ?_
  exact .nil _

theorem rising_ops : Rising 4 919 (ops : List (HloOp τ sig (Elt F))) := by
  refine Rising.append (m := 304) ?_ ?_
  · refine rising_distOps.append ((rising_seed seedBufs_at).append ((rising_split split_at (by decide)).append ?_))
    exact (rising_cut keyBufs_at (by decide)).append (rising_usageOps.append (rising_clip.append rising_exponentOps))
  · refine rising_dropStartOps.append ((rising_draw draw1_at (by decide) (by decide) (by decide)).append ?_)
    refine rising_maskOps.append (rising_where.append (rising_gumbelStartOps.append ?_))
    refine (rising_draw draw2_at (by decide) (by decide) (by decide)).append (rising_softmaxOps.append ?_)
    exact rising_argmax₁.append (rising_oneHot.append (rising_straightOps.append (rising_argmax₂.append rising_decodeOps)))

/-! ## The run -/

/-- The final contents of a device's buffers. -/
def final (m : (ℓ : Loc nD τ sig) → Buf (Elt F) ℓ) (d : Dev nD) : Valuation τ sig (Elt F) :=
  StableHlo.after ops (StableHlo.launchContents m d)

theorem final_fixed (m : (ℓ : Loc nD τ sig) → Buf (Elt F) ℓ) (d : Dev nD) : Fixed (final m d) ops :=
  rising_ops.fix _

theorem final_arg (m : (ℓ : Loc nD τ sig) → Buf (Elt F) ℓ) (d : Dev nD) (r : Ref sig .tc) (hr : pos r < 4) :
    final m d r = m ((d.tc : Thread nD τ).loc r) := rising_ops.keeps _ r hr

theorem run (m : (ℓ : Loc nD τ sig) → Buf (Elt F) ℓ) (ρ : Dev nD → PrngReg) :
    θ_run (defs (F := F)) (onTc (τ := τ) (main (F := F))) ⟨m, fun _ => 0, ρ⟩ fun r =>
      (∀ (d : Dev nD) (b : Ref sig .tc), r.2.mem ((d.tc : Thread nD τ).loc b) = final m d b) ∧ r.2.sem = fun _ => 0 :=
  (θ_run _ _ _).mono (fun r h => ⟨h, sem_eq_zero_of_no_sems (by decide) _⟩)
    (StableHlo.run_seq (by decide) (by decide) defs main (fun _ => ops) main_eq (fun _ => rising_ops.touches) m ρ
      (fun _ => rising_ops.fixed))

end Cert.ReferenceIdeal
-- ==== Proof.RefTerms.lean ====
/-
  The reference's larger values, each as one term of the arrays it is made of.
-/
module

public import proofs.«01_k».proof.Proof.RefRun
public import Idealize.ShloMosaic.Lib.IdealHost

@[expose] public section

set_option maxRecDepth 16384

noncomputable section

namespace Cert.RefTerms

open Idealize.ShloMosaic Idealize.ShloMosaic.TcCoe Idealize.SL.Sem Cert.ReferenceIdeal
open Cert.Lines Cert.HostCipher Cert.HostSplit Cert.HostDraw
open Facts₀ Facts
open Cert.ReferenceIdeal.Gen (facts₀ facts)

/-- The logits over the reals: minus the distance, over 32, times the temperature. -/
def logits (x : FVec Ideal S16x8x32x32 .f32) (c : FVec Ideal S1x1024x8 .f32) (t : FVec Ideal S1x1x1x1 .f32) : FVec Ideal S16x1x32x32x1024 .f32 :=
  let v : FVec Ideal S16x1x8x32x32 .f32 := shapeCast S16x1x8x32x32 x shapeCasts_S16x8x32x32_S16x1x8x32x32
  mulf
    (Host.divf (Host.negf (transpose S16x1x32x32x1024 [0, 1, 3, 4, 2]
      (subf
        (addf
          (broadcastInDim S16x1x1024x32x32 ![0, 1, 2, 3, 4] bcast_S16x1x1x32x32_S16x1x1024x32x32_0_1_2_3_4
            (broadcastInDim S16x1x1x32x32 ![0, 1, 3, 4] bcast_S16x1x32x32_S16x1x1x32x32_0_1_3_4
              (Host.reduceAdd (mulf v v) (constant S_ .f32 0x00000000#32) reducesTo_S16x1x8x32x32_S16x1x32x32_d2 h_S_)))
          (broadcastInDim S16x1x1024x32x32 ![0, 1, 2, 3, 4] bcast_S1x1x1024x1x1_S16x1x1024x32x32_0_1_2_3_4
            (broadcastInDim S1x1x1024x1x1 ![1, 2] bcast_S1x1024_S1x1x1024x1x1_1_2
              (Host.reduceAdd (mulf c c) (constant S_ .f32 0x00000000#32) reducesTo_S1x1024x8_S1x1024_d2 h_S_))))
        (mulf (broadcastInDim S16x1x1024x32x32 ![] bcast_S_S16x1x1024x32x32 (constant S_ .f32 0x40000000#32))
          (transpose S16x1x1024x32x32 [2, 0, 1, 3, 4]
            (Host.dotGeneral dot_S1x1024x8_S16x1x8x32x32_S1x1024x16x32x32_2_2_1_034_0_1 none c v)
            transposes_S1x1024x16x32x32_S16x1x1024x32x32_2_0_1_3_4)))
      transposes_S16x1x1024x32x32_S16x1x32x32x1024_0_1_3_4_2))
      (broadcastInDim S16x1x32x32x1024 ![] bcast_S_S16x1x32x32x1024 (constant S_ .f32 0x42000000#32)))
    (broadcastInDim S16x1x32x32x1024 ![0, 1, 2, 3, 4] bcast_S1x1x1x1x1_S16x1x32x32x1024_0_1_2_3_4
      (broadcastInDim S1x1x1x1x1 ![1, 2, 3, 4] bcast_S1x1x1x1_S1x1x1x1x1_1_2_3_4
        (maximumf t (broadcastInDim S1x1x1x1 ![] bcast_S_S1x1x1x1 (constant S_ .f32 0x33D6BF95#32)))))

/-- The exponent of the random drop. -/
def exponent (f : FVec Ideal S1x1024 .f32) : FVec Ideal S_ .f32 :=
  let u : FVec Ideal S_ .f32 := minimumf (constant S_ .f32 0x3F800000#32) (maximumf (constant S_ .f32 0x00000000#32)
    (Host.divf (Host.reduceAdd (uitofp .f32 (cmpf .ogt f (broadcastInDim S1x1024 ![] bcast_S_S1x1024 (constant S_ .f32 0x33D6BF95#32))))
      (constant S_ .f32 0x00000000#32) reducesTo_S1x1024_S_d0_1 h_S_) (constant S_ .f32 0x44800000#32)))
  addf (mulf (constant S_ .f32 0xC1100000#32) (mulf u u)) (constant S_ .f32 0x41200000#32)

/-- The logits after the random drop. -/
def dropped (L u : FVec Ideal S16x1x32x32x1024 .f32) (e : FVec Ideal S_ .f32) (f : FVec Ideal S1x1024 .f32) : FVec Ideal S16x1x32x32x1024 .f32 :=
  select
    (cmpf .olt (Host.powf u (broadcastInDim S16x1x32x32x1024 ![] bcast_S_S16x1x32x32x1024 e))
      (broadcastInDim S16x1x32x32x1024 ![0, 1, 2, 3, 4] bcast_S1x1x1x1x1024_S16x1x32x32x1024_0_1_2_3_4
        (broadcastInDim S1x1x1x1x1024 ![1, 2, 3, 4] bcast_S1x1x1x1024_S1x1x1x1x1024_1_2_3_4
          (broadcastInDim S1x1x1x1024 ![0, 3] bcast_S1x1024_S1x1x1x1024_0_3 f))))
    (subf L (broadcastInDim S16x1x32x32x1024 ![] bcast_S_S16x1x32x32x1024 (constant S_ .f32 0x4E6E6B28#32)))
    L

/-- The perturbed logits, at temperature one. -/
def perturbed (L u : FVec Ideal S16x1x32x32x1024 .f32) : FVec Ideal S16x1x32x32x1024 .f32 :=
  Host.divf
    (addf L (Host.negf (Host.log (Host.negf (Host.log (maximumf
      (broadcastInDim S16x1x32x32x1024 ![] bcast_S_S16x1x32x32x1024 (constant S_ .f32 0x1E3CE508#32)) u))))))
    (broadcastInDim S16x1x32x32x1024 ![] bcast_S_S16x1x32x32x1024 (constant S_ .f32 0x3F800000#32))

/-- Each row's maximum. -/
def crests (z : FVec Ideal S16x1x32x32x1024 .f32) : FVec Ideal S16x1x32x32 .f32 :=
  Host.reduce FloatOps.maximumf z (constant S_ .f32 0xFF800000#32) reducesTo_S16x1x32x32x1024_S16x1x32x32_d4 h_S_

/-- A row's exponentials, less its maximum before. -/
def exps (z : FVec Ideal S16x1x32x32x1024 .f32) (C : FVec Ideal S16x1x32x32 .f32) : FVec Ideal S16x1x32x32x1024 .f32 :=
  Host.exp (subf z (broadcastInDim S16x1x32x32x1024 ![0, 1, 2, 3, 4] bcast_S16x1x32x32x1_S16x1x32x32x1024_0_1_2_3_4
    (broadcastInDim S16x1x32x32x1 ![0, 1, 2, 3] bcast_S16x1x32x32_S16x1x32x32x1_0_1_2_3
      (maximumf (broadcastInDim S16x1x32x32 ![] bcast_S_S16x1x32x32 (constant S_ .f32 0xFF800000#32)) C))))

/-- The exponentials over their sum. -/
def shares (y : FVec Ideal S16x1x32x32x1024 .f32) : FVec Ideal S16x1x32x32x1024 .f32 :=
  Host.divf y (broadcastInDim S16x1x32x32x1024 ![0, 1, 2, 3, 4] bcast_S16x1x32x32x1_S16x1x32x32x1024_0_1_2_3_4
    (broadcastInDim S16x1x32x32x1 ![0, 1, 2, 3] bcast_S16x1x32x32_S16x1x32x32x1_0_1_2_3
      (Host.reduceAdd y (constant S_ .f32 0x00000000#32) reducesTo_S16x1x32x32x1024_S16x1x32x32_d4 h_S_)))

/-- The one-hot rows of an array of places. -/
def oneHot (i : IVec S16x1x32x32 32) : FVec Ideal S16x1x32x32x1024 .f32 :=
  uitofp .f32 (cmpi .eq
    (broadcastInDim S16x1x32x32x1024 ![0, 1, 2, 3, 4] bcast_S16x1x32x32x1_S16x1x32x32x1024_0_1_2_3_4
      (broadcastInDim S16x1x32x32x1 ![0, 1, 2, 3] bcast_S16x1x32x32_S16x1x32x32x1_0_1_2_3 i))
    (broadcastInDim S16x1x32x32x1024 ![0, 1, 2, 3, 4] bcast_S1x1x1x1x1024_S16x1x32x32x1024_0_1_2_3_4 (iotaInDim S1x1x1x1x1024 32 4)))

/-- The image decoded from a sample. -/
def decoded (c : FVec Ideal S1x1024x8 .f32) (s : FVec Ideal S16x1x32x32x1024 .f32) : FVec Ideal S16x8x32x32 .f32 :=
  shapeCast S16x8x32x32
    (transpose S16x1x8x32x32 [0, 1, 4, 2, 3]
      (transpose S16x1x32x32x8 [2, 0, 3, 4, 1]
        (Host.dotGeneral dot_S1x1024x8_S16x1x32x32x1024_S1x8x16x32x32_1_4_2_023_0_1 none c s)
        transposes_S1x8x16x32x32_S16x1x32x32x8_2_0_3_4_1)
      transposes_S16x1x32x32x8_S16x1x8x32x32_0_1_4_2_3)
    shapeCasts_S16x1x8x32x32_S16x8x32x32

section Values
variable {Z : Valuation τ sig (Elt Ideal)}

theorem logits_eq (hf : Fixed Z distOps) :
    Z (Proc.devRef .tc main_v23) = logits (Z (Proc.devRef .tc main_arg0)) (Z (Proc.devRef .tc main_arg1)) (Z (Proc.devRef .tc main_arg2)) := by
  obtain ⟨e0, e1, k, e2, e3, e4, k0, e5, e6, e7, e8, e9, e10, e11, k1, e12, e13, e14, e15, e16, k2, e17, e18, k3, e19, e20, e21, e22, e23⟩ := hf
  rw [eq_binary e23, eq_unary e22, eq_unary e21, eq_binary e20, eq_unary e19, eq_nullary k3, eq_binary e18, eq_unary e17, eq_nullary k2,
    eq_unary e16, eq_unary e15, eq_binary e14, eq_binary e13, eq_unary e12, eq_nullary k1, eq_binary e11, eq_unary e10, eq_unary e9,
    eq_unary e8, eq_binary e7, eq_unary e6, eq_binary e5, eq_nullary k0, eq_binary e4, eq_unary e3, eq_binary e2, eq_nullary k,
    eq_binary e1, eq_reshape e0]
  rfl

theorem exponent_eq (hu : Fixed Z usageOps) (hc : Fixed Z (fn_clip.ops (.of main_v40) (.of main_cst_9) (.of main_cst_10) main_call1))
    (he : Fixed Z exponentOps) : Z (Proc.devRef .tc main_v44) = exponent (Z (Proc.devRef .tc main_arg3)) := by
  obtain ⟨k6, e36, e37, e38, k7, e39, k8, e40, k9, k10⟩ := hu
  obtain ⟨c0, c1, c2, c3⟩ := hc
  obtain ⟨e42, k11, e43, k12, e44⟩ := he
  have h41 : Z (Proc.devRef .tc main_v41) = minimumf (constant (F := Ideal) S_ .f32 0x3F800000#32) (maximumf (constant (F := Ideal) S_ .f32 0x00000000#32) (Z (Proc.devRef .tc main_v40))) := by
    have d3 := val_binary c3
    rw [val_unary c2, val_binary c1, val_unary c0] at d3
    refine Eq.trans d3 ?_
    show minimumf (F := Ideal) (s := S_) (φ := .f32) (Z (Proc.devRef .tc main_cst_10)) (maximumf (F := Ideal) (s := S_) (φ := .f32) (Z (Proc.devRef .tc main_cst_9)) (Z (Proc.devRef .tc main_v40))) = _
    rw [eq_nullary k9, eq_nullary k10]
  rw [eq_binary e44, eq_nullary k12, eq_binary e43, eq_nullary k11, eq_binary e42, h41, eq_binary e40, eq_nullary k8, eq_binary e39,
    eq_nullary k7, eq_unary e38, eq_binary e37, eq_unary e36, eq_nullary k6]
  rfl

theorem dropped_eq (hm : Fixed Z maskOps) (hw : Fixed Z (fn_where.ops (.of main_v51) (.of main_v53) (.of main_v23) main_call3)) :
    Z (Proc.devRef .tc main_v54) = dropped (Z (Proc.devRef .tc main_v23)) (Z (Proc.devRef .tc main_v45)) (Z (Proc.devRef .tc main_v44)) (Z (Proc.devRef .tc main_arg3)) := by
  obtain ⟨e46, e47, e48, e49, e50, e51, k15, e52, e53⟩ := hm
  have d := val_ternary hw
  refine Eq.trans d ?_
  show select (Z (Proc.devRef .tc main_v51)) (Z (Proc.devRef .tc main_v53)) (Z (Proc.devRef .tc main_v23)) = _
  rw [eq_binary e53, eq_unary e52, eq_nullary k15, eq_binary e51, eq_unary e50, eq_unary e49, eq_unary e48, eq_binary e47, eq_unary e46]
  rfl

theorem softmax_eq (hs : Fixed Z softmaxOps) :
    Z (Proc.devRef .tc main_v75) = shares (exps (perturbed (Z (Proc.devRef .tc main_v54)) (Z (Proc.devRef .tc main_v55)))
      (crests (perturbed (Z (Proc.devRef .tc main_v54)) (Z (Proc.devRef .tc main_v55))))) := by
  obtain ⟨k18, e56, e57, e58, e59, e60, e61, e62, k19, e63, e64, k20, e65, k21, e66, e67, e68, e69, e70, e71, k22, e72, e73, e74, e75⟩ := hs
  have h64 : Z (Proc.devRef .tc main_v64) = perturbed (Z (Proc.devRef .tc main_v54)) (Z (Proc.devRef .tc main_v55)) := by
    rw [eq_binary e64, eq_unary e63, eq_nullary k19, eq_binary e62, eq_unary e61, eq_unary e60, eq_unary e59, eq_unary e58, eq_binary e57,
      eq_unary e56, eq_nullary k18]
    rfl
  have h71 : Z (Proc.devRef .tc main_v71) = exps (Z (Proc.devRef .tc main_v64)) (crests (Z (Proc.devRef .tc main_v64))) := by
    rw [eq_unary e71, eq_binary e70, eq_unary e69, eq_unary e68, eq_binary e67, eq_unary e66, eq_nullary k21, eq_binary e65, eq_nullary k20]
    rfl
  rw [← h64, ← h71, eq_binary e75, eq_unary e74, eq_unary e73, eq_binary e72, eq_nullary k22]
  rfl

theorem oneHot_eq (ho : Fixed Z (fn_one_hot.ops (.of main_v76) main_call6)) :
    Z (Proc.devRef .tc main_v77) = oneHot (Z (Proc.devRef .tc main_v76)) := by
  obtain ⟨e0, e1, e2, e3, e4, e5⟩ := ho
  have d := val_unary e5
  rw [val_binary e4, val_unary e3, val_unary e2, val_nullary e1, val_unary e0] at d
  exact d

theorem decoded_eq (hs : Fixed Z straightOps) (hd : Fixed Z decodeOps) :
    Z (Proc.devRef .tc main_v84) = decoded (Z (Proc.devRef .tc main_arg1))
      (addf (subf (Z (Proc.devRef .tc main_v77)) (Z (Proc.devRef .tc main_v75))) (Z (Proc.devRef .tc main_v75))) := by
  obtain ⟨e78, e79⟩ := hs
  obtain ⟨e81, e82, e83, e84⟩ := hd
  rw [eq_reshape e84, eq_unary e83, eq_unary e82, eq_binary e81, eq_binary e79, eq_binary e78]
  rfl

end Values

end Cert.RefTerms
-- ==== Proof.RefChoice.lean ====
/-
  The reference's search for the first of a row's largest elements: a fold over (value, place) pairs.
-/
module

public import proofs.«01_k».proof.Proof.RefLines
public import proofs.«01_k».proof.Proof.Top
public import Idealize.ShloMosaic.Lib.IdealHost

@[expose] public section

set_option maxRecDepth 16384

noncomputable section

namespace Cert.RefChoice

open Idealize.ShloMosaic Idealize.ShloMosaic.TcCoe Cert.ReferenceIdeal Cert.ReferenceIdeal.Gen Cert.Top

abbrev Pair := EReal × BitVec 32

/-- The pair `p` is ahead of `q` or is as good: its value is larger, or the values agree and its place is no later. -/
def Ahead (p q : Pair) : Prop := q.1 < p.1 ∨ q.1 = p.1 ∧ p.2.toInt ≤ q.2.toInt

theorem Ahead.refl (p : Pair) : Ahead p p := .inr ⟨rfl, le_rfl⟩

theorem Ahead.trans {p q r : Pair} (h : Ahead p q) (h' : Ahead q r) : Ahead p r := by
  rcases h with h | ⟨h, e⟩ <;> rcases h' with h' | ⟨h', e'⟩
  · exact .inl (h'.trans h)
  · exact .inl (h' ▸ h)
  · exact .inl (h ▸ h')
  · exact .inr ⟨h'.trans h, e.trans e'⟩

/-- The fold's step. -/
abbrev step : Pair → Pair → Pair := reducer_argmax_f32_i32 (F := Ideal)

/-- A step keeps one of its two pairs, one that is ahead of both. -/
theorem step_spec (p q : Pair) : (step p q = p ∨ step p q = q) ∧ Ahead (step p q) p ∧ Ahead (step p q) q := by
  have key : step p q = if q.1 < p.1 ∨ (p.1 = q.1 ∧ p.2.toInt < q.2.toInt) then p else q := by
    obtain ⟨a, i⟩ := p
    obtain ⟨b, j⟩ := q
    show (_, _) = _
    simp only [Ideal.cmpf_def, Ideal.cmp, Scalar.select, IntOp.ori, IntOp.andi, IntOp.cmpi, ne_eq, not_true_eq_false, decide_false]
    rcases lt_trichotomy a b with h | h | h
    · have h1 : ¬ b < a := not_lt.mpr h.le
      have h2 : ¬ a = b := h.ne
      simp [h1, h2]
    · subst h
      by_cases h3 : i.toInt < j.toInt
      · have : i.slt j = true := BitVec.slt_iff_toInt_lt.mpr h3
        simp [h3, this]
      · have : i.slt j = false := by
          rw [Bool.eq_false_iff]; exact fun h => h3 (BitVec.slt_iff_toInt_lt.mp h)
        simp [h3, this]
    · have h2 : ¬ a = b := h.ne'
      simp [h, h2]
  rw [key]
  split
  · rename_i h
    refine ⟨.inl rfl, .refl p, ?_⟩
    rcases h with h | ⟨h, e⟩
    · exact .inl h
    · exact .inr ⟨h.symm, e.le⟩
  · rename_i h
    rw [not_or] at h
    refine ⟨.inr rfl, ?_, .refl q⟩
    rcases lt_or_eq_of_le (not_lt.mp h.1) with h1 | h1
    · exact .inl h1
    · exact .inr ⟨h1, not_lt.mp fun e => h.2 ⟨h1, e⟩⟩

/-- The fold of a list keeps one of the pairs, one ahead of them all. -/
theorem fold_spec (l : List Pair) (z : Pair) :
    (l.foldl step z = z ∨ l.foldl step z ∈ l) ∧ Ahead (l.foldl step z) z ∧ ∀ q ∈ l, Ahead (l.foldl step z) q := by
  induction l generalizing z with
  | nil => exact ⟨.inl rfl, .refl z, fun q hq => absurd hq (List.not_mem_nil)⟩
  | cons a l ih =>
    obtain ⟨h1, h2, h3⟩ := ih (step z a)
    obtain ⟨g1, g2, g3⟩ := step_spec z a
    rw [List.foldl_cons]
    refine ⟨?_, h2.trans g2, ?_⟩
    · rcases h1 with h1 | h1
      · rcases g1 with g1 | g1
        · exact .inl (h1.trans g1)
        · exact .inr (by rw [h1, g1]; exact List.mem_cons_self)
      · exact .inr (List.mem_cons_of_mem _ h1)
    · intro q hq
      rcases List.mem_cons.mp hq with rfl | hq
      · exact h2.trans g3
      · exact h3 q hq

theorem toInt_place (n : Fin 1024) : (BitVec.ofNat 32 n.val).toInt = n.val := by
  have := n.isLt
  rw [BitVec.toInt_eq_toNat_of_lt] <;> simp [BitVec.toNat_ofNat] <;> omega

/-- A fold over the pairs of a row from the bottom finds the first of its largest elements. -/
theorem fold_top (l : List Pair) (f : Fin 1024 → EReal) (hl : ∀ q, q ∈ l ↔ ∃ k, q = (f k, BitVec.ofNat 32 k.val))
    {i : Fin 1024} (hi : IsTop f i) : (l.foldl step (⊥, 0#32)).2 = BitVec.ofNat 32 i.val := by
  obtain ⟨h1, -, h3⟩ := fold_spec l (⊥, 0#32)
  have hm := h3 _ ((hl _).mpr ⟨i, rfl⟩)
  have hk : ∃ k : Fin 1024, (l.foldl step (⊥, 0#32)).2 = BitVec.ofNat 32 k.val ∧ ((l.foldl step (⊥, 0#32)).1 = f k ∨ (k = 0 ∧ (l.foldl step (⊥, 0#32)).1 = ⊥)) := by
    rcases h1 with h1 | h1
    · exact ⟨0, by rw [h1]; rfl, .inr ⟨rfl, by rw [h1]⟩⟩
    · obtain ⟨k, hk⟩ := (hl _).mp h1
      exact ⟨k, by rw [hk], .inl (by rw [hk])⟩
  obtain ⟨k, e, hv⟩ := hk
  rw [e]
  have hki : k = i := by
    unfold Ahead at hm
    rw [e, toInt_place, toInt_place] at hm
    rcases hv with hv | ⟨h0, hv⟩
    · rw [hv] at hm
      rcases hm with hm | ⟨hm, hn⟩
      · exact absurd (hi.1 k) (not_le.mpr hm)
      · by_contra hne
        have : k < i := by
          have h4 : k.val ≠ i.val := fun h => hne (Fin.ext h)
          have h5 : k.val ≤ i.val := by exact_mod_cast hn
          exact Fin.lt_def.mpr (lt_of_le_of_ne h5 h4)
        exact absurd (hi.2 k this) (by rw [← hm]; exact lt_irrefl _)
    · subst h0
      rw [hv] at hm
      rcases hm with hm | ⟨hm, -⟩
      · exact absurd hm not_lt_bot
      · by_contra hne
        have : (0 : Fin 1024) < i := lt_of_le_of_ne (Fin.zero_le i) hne
        have := hi.2 0 this
        have hm' : f i = ⊥ := hm
        rw [hm'] at this
        exact not_lt_bot this
  rw [hki]

/-- The pairs that reduce into a place. -/
theorem mem_fiber {s t : Shape} {axes : List (Fin s.rank)} {α β : Type} (x : s.Idx → α) (y : s.Idx → β) (h : s.ReducesTo axes t)
    (j : t.Idx) (q : α × β) : q ∈ Host.argReduceFiber x y h j ↔ ∃ i, h.drop i = j ∧ q = (x i, y i) := by
  unfold Host.argReduceFiber
  rw [List.mem_map]
  constructor
  · rintro ⟨a, ha, rfl⟩
    obtain ⟨-, ha⟩ := List.mem_filter.mp ha
    exact ⟨_, of_decide_eq_true ha, rfl⟩
  · rintro ⟨i, hi, rfl⟩
    refine ⟨s.rowMajor i, ?_, ?_⟩
    · rw [List.mem_filter]
      refine ⟨List.mem_finRange _, ?_⟩
      rw [Equiv.symm_apply_apply]
      exact decide_eq_true hi
    · rw [Equiv.symm_apply_apply]

/-- The search over any shape: the places that reduce into `j` are those of the row `f`. -/
theorem argReduce_top {s t u : Shape} {axes : List (Fin s.rank)} (x : FVec Ideal s .f32) (y : IVec s 32) (ix : FVec Ideal u .f32)
    (iy : IVec u 32) (h : s.ReducesTo axes t) (hu : 0 < u.numel) (j : t.Idx) (f : Fin 1024 → EReal)
    (hx : ix (Shape.Idx.first hu) = (⊥ : EReal)) (hy : iy (Shape.Idx.first hu) = 0#32)
    (hf : ∀ a, h.drop a = j → ∃ k : Fin 1024, x a = f k ∧ y a = BitVec.ofNat 32 k.val)
    (hk : ∀ k : Fin 1024, ∃ a, h.drop a = j ∧ x a = f k ∧ y a = BitVec.ofNat 32 k.val) {i : Fin 1024} (hi : IsTop f i) :
    (Host.argReduce reducer_argmax_f32_i32 x y ix iy h hu j).2 = BitVec.ofNat 32 i.val := by
  rw [Ideal.argReduce_eq_reduce2, Host.reduce2_eq_foldl_fiber, hx, hy]
  refine fold_top _ f (fun q => (mem_fiber _ _ _ _ q).trans ⟨?_, ?_⟩) hi
  · rintro ⟨a, ha, rfl⟩
    obtain ⟨k, e, e'⟩ := hf a ha
    exact ⟨k, by rw [e, e']⟩
  · rintro ⟨k, rfl⟩
    obtain ⟨a, ha, e, e'⟩ := hk k
    exact ⟨a, ha, by rw [e, e']⟩

theorem start : (constant S_ .f32 0xFF800000#32 : FVec Ideal S_ .f32) (Shape.Idx.first h_S_) = (⊥ : EReal) := by
  show Ideal.ofBits .f32 0xFF800000#32 = _
  simp [Ideal.ofBits, Ideal.ieee]

theorem drop_iff (n : Fin 16) (h w : Fin 32) (i : S16x1x32x32x1024.Idx) :
    reducesTo_S16x1x32x32x1024_S16x1x32x32_d4.drop i = ValueIdx.ix4 n 0 h w ↔ ∃ k, i = ValueIdx.ix5 n 0 h w k := by
  have d0 : (reducesTo_S16x1x32x32x1024_S16x1x32x32_d4.drop i 0).val = (i 0).val := Shape.ReducesTo.drop_apply_val_of_eq _ i 0 0
  have d2 : (reducesTo_S16x1x32x32x1024_S16x1x32x32_d4.drop i 2).val = (i 2).val := Shape.ReducesTo.drop_apply_val_of_eq _ i 2 2
  have d3 : (reducesTo_S16x1x32x32x1024_S16x1x32x32_d4.drop i 3).val = (i 3).val := Shape.ReducesTo.drop_apply_val_of_eq _ i 3 3
  constructor
  · intro e
    refine ⟨i 4, ?_⟩
    funext a
    match a with
    | ⟨0, _⟩ => exact Fin.ext (d0.symm.trans (by rw [e]))
    | ⟨1, _⟩ => exact Subsingleton.elim (α := Fin 1) _ _
    | ⟨2, _⟩ => exact Fin.ext (d2.symm.trans (by rw [e]))
    | ⟨3, _⟩ => exact Fin.ext (d3.symm.trans (by rw [e]))
    | ⟨4, _⟩ => rfl
  · rintro ⟨k, rfl⟩
    funext a
    match a with
    | ⟨0, _⟩ => exact Fin.ext d0
    | ⟨1, _⟩ => exact Subsingleton.elim (α := Fin 1) _ _
    | ⟨2, _⟩ => exact Fin.ext d2
    | ⟨3, _⟩ => exact Fin.ext d3

/-- The places of a row and the search's start. -/
abbrev places : IVec S16x1x32x32x1024 32 := iotaInDim S16x1x32x32x1024 32 4

theorem places_at (n : Fin 16) (h w : Fin 32) (k : Fin 1024) : places (ValueIdx.ix5 n 0 h w k) = BitVec.ofNat 32 k.val := rfl

/-- The reference's search finds the first of a row's largest elements. -/
theorem search_at (X : FVec Ideal S16x1x32x32x1024 .f32) (n : Fin 16) (h w : Fin 32) {i : Fin 1024}
    (hi : IsTop (fun k => X (ValueIdx.ix5 n 0 h w k)) i) :
    (Host.argReduce reducer_argmax_f32_i32 X places (constant S_ .f32 0xFF800000#32) (constantI S_ 32 0#32)
      reducesTo_S16x1x32x32x1024_S16x1x32x32_d4 h_S_ (ValueIdx.ix4 n 0 h w)).2 = BitVec.ofNat 32 i.val := by
  refine argReduce_top X places _ _ reducesTo_S16x1x32x32x1024_S16x1x32x32_d4 h_S_ (ValueIdx.ix4 n 0 h w)
    (fun k => X (ValueIdx.ix5 n 0 h w k)) start rfl ?_ ?_ hi
  · intro a ha
    obtain ⟨k, rfl⟩ := (drop_iff n h w a).mp ha
    exact ⟨k, rfl, places_at n h w k⟩
  · intro k
    exact ⟨_, (drop_iff n h w _).mpr ⟨k, rfl⟩, rfl, places_at n h w k⟩

end Cert.RefChoice
-- ==== Proof.Softmax.lean ====
/-
  Real numbers through the noise and the softmax: the noisy scores are real, and dividing their exponentials by the sum
  keeps the first largest in its place.
-/
module

public import proofs.«01_k».proof.Proof.Spec
public import proofs.«01_k».proof.Proof.Lits

@[expose] public section

set_option maxRecDepth 16384

noncomputable section

namespace Cert.Softmax

open Idealize.ShloMosaic Cert.Words Cert.Top Cert.Spec
open Cert.HostDraw (frac)

/-- A value that is a real number. -/
def Real' (x : EReal) : Prop := ∃ r : ℝ, x = r

theorem coe_sum {n : ℕ} (g : Fin n → ℝ) : ((∑ i, g i : ℝ) : EReal) = ∑ i, (g i : EReal) :=
  map_sum (⟨⟨Real.toEReal, EReal.coe_zero⟩, EReal.coe_add⟩ : ℝ →+ EReal) g _

theorem Real'.add {x y : EReal} : Real' x → Real' y → Real' (x + y) := fun ⟨a, ha⟩ ⟨b, hb⟩ => ⟨a + b, by rw [ha, hb, EReal.coe_add]⟩
theorem Real'.sub {x y : EReal} : Real' x → Real' y → Real' (x - y) := fun ⟨a, ha⟩ ⟨b, hb⟩ => ⟨a - b, by rw [ha, hb, EReal.coe_sub]⟩
theorem Real'.mul {x y : EReal} : Real' x → Real' y → Real' (x * y) := fun ⟨a, ha⟩ ⟨b, hb⟩ => ⟨a * b, by rw [ha, hb, EReal.coe_mul]⟩
theorem Real'.neg {x : EReal} : Real' x → Real' (-x) := fun ⟨a, ha⟩ => ⟨-a, by rw [ha, EReal.coe_neg]⟩
theorem Real'.max {x y : EReal} (hx : Real' x) (hy : Real' y) : Real' (max x y) := by
  rcases le_total x y with h | h
  · rwa [max_eq_right h]
  · rwa [max_eq_left h]
theorem Real'.sum {n : ℕ} {f : Fin n → EReal} (h : ∀ i, Real' (f i)) : Real' (∑ i, f i) := by
  choose g hg using h
  exact ⟨∑ i, g i, by rw [coe_sum]; exact Finset.sum_congr rfl fun i _ => hg i⟩

/-- A draw lies from zero to below one. -/
theorem frac_real (b : W) : ∃ r : ℝ, 0 ≤ r ∧ r < 1 ∧ frac b = r := by
  have hb : ∃ n : ℕ, n < 2 ^ 23 ∧ ((b >>> 9#32) ||| 1065353216#32) = BitVec.ofNat 32 (1065353216 + n)
      ∧ ((BitVec.ofNat 32 (1065353216 + n)).extractLsb' 31 1 = 0#1) ∧ ((BitVec.ofNat 32 (1065353216 + n)).extractLsb' 23 8).toNat = 127
      ∧ ((BitVec.ofNat 32 (1065353216 + n)).extractLsb' 0 23).toNat = n := by
    have hn : (b >>> 9#32).toNat < 2 ^ 23 := by
      have := b.isLt
      rw [BitVec.ushiftRight_eq', BitVec.toNat_ushiftRight, Nat.shiftRight_eq_div_pow]
      show _ / 2 ^ 9 < _
      omega
    refine ⟨(b >>> 9#32).toNat, hn, ?_, ?_, ?_, ?_⟩
    · apply BitVec.eq_of_toNat_eq
      rw [BitVec.toNat_or]
      have : (1065353216#32).toNat = 2 ^ 23 * 127 := by decide
      rw [this, Nat.or_comm, ← Nat.two_pow_add_eq_or_of_lt hn, BitVec.toNat_ofNat]
      omega
    · apply BitVec.eq_of_toNat_eq
      simp only [BitVec.extractLsb'_toNat, BitVec.toNat_ofNat, Nat.shiftRight_eq_div_pow]
      omega
    · simp only [BitVec.extractLsb'_toNat, BitVec.toNat_ofNat, Nat.shiftRight_eq_div_pow]
      omega
    · simp only [BitVec.extractLsb'_toNat, BitVec.toNat_ofNat, Nat.shiftRight_eq_div_pow]
      omega
  obtain ⟨n, hn, e, e1, e2, e3⟩ := hb
  have hv : Ideal.ofBits .f32 ((b >>> 9#32) ||| 1065353216#32) = ((1 + n / 2 ^ 23 : ℝ) : EReal) := by
    rw [e]
    show Ideal.ieee 8 23 _ = _
    unfold Ideal.ieee
    simp only [Nat.reduceAdd, e1, e2, e3]
    norm_num
    rw [← EReal.coe_natCast (n := n), ← EReal.coe_add, ← EReal.coe_mul, ← EReal.coe_one, ← EReal.coe_add]
    congr 1
    field_simp
  have hn' : (n : ℝ) < 2 ^ 23 := by exact_mod_cast hn
  refine ⟨n / 2 ^ 23, by positivity, by rw [div_lt_one (by positivity)]; exact hn', ?_⟩
  unfold frac
  rw [hv, Lits.one, ← EReal.coe_one, ← EReal.coe_sub]
  congr 1; ring

theorem log_pos {r : ℝ} (h : 0 < r) : Ideal.log (r : EReal) = (Real.log r : ℝ) := by
  show (if r ≤ 0 then ⊥ else ((Real.log r : ℝ) : EReal)) = _
  rw [if_neg (not_le.mpr h)]

/-- The noise of a draw is a real number. -/
theorem noise_real {u : EReal} (hu : ∃ r : ℝ, 0 ≤ r ∧ r < 1 ∧ u = r) : Real' (noise u) := by
  obtain ⟨r, h0, h1, rfl⟩ := hu
  obtain ⟨s, s0, s1, hs⟩ := Lits.tiny
  have hm : ∃ v : ℝ, 0 < v ∧ v < 1 ∧ max (lit 0x1E3CE508#32) (r : EReal) = v := by
    unfold lit
    rw [hs]
    exact ⟨max s r, lt_max_of_lt_left s0, max_lt s1 h1, (EReal.coe_strictMono.monotone.map_max).symm⟩
  obtain ⟨v, v0, v1, hv⟩ := hm
  unfold noise
  rw [hv, log_pos v0, ← EReal.coe_neg, log_pos (by have := Real.log_neg v0 v1; linarith)]
  exact ⟨_, (EReal.coe_neg _).symm⟩

variable {x : Fin 8 → EReal} {c : Fin 1024 → Fin 8 → EReal} {t : EReal} {f : Fin 1024 → EReal} {p : ℕ}

theorem masked_real (hx : ∀ d, Real' (x d)) (hc : ∀ k d, Real' (c k d)) (ht : Real' t) (u : Fin 1024 → EReal) (k : Fin 1024) :
    Real' (masked x c t f u k) := by
  have hs : Real' (score x (c k) t) := by
    refine .mul (.sub (.add (.sum fun d => (hx d).mul (hx d)) (.sum fun d => (hc k d).mul (hc k d)))
      (.mul ⟨_, Lits.two⟩ (.sum fun d => (hx d).mul (hc k d)))) (.mul (ht.max Lits.small) ⟨_, Lits.neg_share⟩)
  unfold masked
  split
  · exact hs.sub Lits.many
  · exact hs

theorem noisy_real (hx : ∀ d, Real' (x d)) (hc : ∀ k d, Real' (c k d)) (ht : Real' t) (k : Fin 1024) :
    Real' (noisy x c t f p k) := (masked_real hx hc ht _ k).add (noise_real (frac_real _))

/-- The softmax of a row, less its maximum `m` before. -/
def soft (z : Fin 1024 → EReal) (m : EReal) (k : Fin 1024) : EReal :=
  Ideal.div (Ideal.exp (z k - m)) (∑ j, Ideal.exp (z j - m))

/-- A real row's softmax is real and in the row's order. -/
theorem soft_spec {z : Fin 1024 → EReal} (hz : ∀ k, Real' (z k)) {m : EReal} (hm : Real' m) :
    (∀ k, Real' (soft z m k)) ∧ ∀ a b, soft z m a < soft z m b ↔ z a < z b := by
  choose r hr using hz
  obtain ⟨m, rfl⟩ := hm
  have he : ∀ k, Ideal.exp (z k - m) = (Real.exp (r k - m) : ℝ) := fun k => by rw [hr, ← EReal.coe_sub]; rfl
  have hs : (∑ j, Ideal.exp (z j - m)) = ((∑ j, Real.exp (r j - m) : ℝ) : EReal) := by
    rw [coe_sum]; exact Finset.sum_congr rfl fun k _ => he k
  have hp : 0 < ∑ j : Fin 1024, Real.exp (r j - m) := Finset.sum_pos (fun j _ => Real.exp_pos _) ⟨0, Finset.mem_univ _⟩
  have hd : ∀ k, soft z m k = ((Real.exp (r k - m) * (∑ j, Real.exp (r j - m))⁻¹ : ℝ) : EReal) := fun k => by
    unfold soft Ideal.div
    rw [he, hs, if_neg (by exact_mod_cast hp.ne'), ← EReal.coe_inv, ← EReal.coe_mul]
  refine ⟨fun k => ⟨_, hd k⟩, fun a b => ?_⟩
  rw [hd, hd, hr, hr, EReal.coe_lt_coe_iff, EReal.coe_lt_coe_iff, mul_lt_mul_iff_left₀ (inv_pos.mpr hp), Real.exp_lt_exp]
  exact sub_lt_sub_iff_right m

/-- A real number taken away and given back. -/
theorem back {a q : EReal} (hq : Real' q) : a - q + q = a := by
  obtain ⟨q, rfl⟩ := hq
  exact EReal.sub_add_cancel

end Cert.Softmax
-- ==== Proof.RefValues.lean ====
/-
  The reference's larger values at a place.
-/
module

public import proofs.«01_k».proof.Proof.RefTerms
public import proofs.«01_k».proof.Proof.RefChoice
public import proofs.«01_k».proof.Proof.Softmax
public import Idealize.ShloMosaic.Lib.Pointwise

@[expose] public section

set_option maxRecDepth 16384

noncomputable section

namespace Cert.RefValues

open Idealize.ShloMosaic Idealize.ShloMosaic.TcCoe Cert.ReferenceIdeal Cert.RefTerms Cert.Spec Cert.Top Cert.Softmax
open Cert.ReferenceIdeal.Gen (facts₀ facts)

/-- The bit of a test read as a number. -/
theorem bit (p : Prop) [Decidable p] :
    FloatOps.uitofp (F := Ideal) .f32 (BitVec.ofBool (decide p)) = (if p then 1 else 0 : EReal) := by
  by_cases h : p
  · rw [if_pos h, decide_eq_true h]; show ((((BitVec.ofBool true).toNat : ℕ) : ℝ) : EReal) = 1
    simp
  · rw [if_neg h, decide_eq_false h]; show ((((BitVec.ofBool false).toNat : ℕ) : ℝ) : EReal) = 0
    simp

/-- The reference's order of the factors. -/
theorem score_eq (A B : EReal) (x c : Fin 8 → EReal) (t : EReal) (hA : A = ∑ d, x d * x d) (hB : B = ∑ d, c d * c d) :
    Ideal.div (-(A + B - Ideal.ofBits .f32 0x40000000#32 * ∑ d, c d * x d)) (Ideal.ofBits .f32 0x42000000#32)
      * max t (Ideal.ofBits .f32 0x33D6BF95#32) = score x c t := by
  subst hA hB
  have e : (∑ d, c d * x d) = ∑ d, x d * c d := Finset.sum_congr rfl fun d _ => mul_comm _ _
  unfold score Spec.dist lit
  rw [e]
  generalize (∑ d, x d * x d) + (∑ d, c d * c d) - Ideal.ofBits .f32 0x40000000#32 * ∑ d, x d * c d = D
  generalize max t _ = T
  rw [Lits.thirtytwo, Lits.neg_share]
  unfold Ideal.div
  rw [if_neg (by norm_num), ← EReal.coe_inv, mul_comm T, ← mul_assoc, EReal.coe_neg, mul_neg, neg_mul]
  norm_num

theorem logits_at (x : FVec Ideal S16x8x32x32 .f32) (c : FVec Ideal S1x1024x8 .f32) (t : FVec Ideal S1x1x1x1 .f32) (n : Fin 16) (h w : Fin 32) (k : Fin 1024) :
    logits x c t (ix5 n 0 h w k) = score (fun d => x (ix4 n d h w)) (fun d => c (ix3 0 k d)) (t (ix4 0 0 0 0)) := by
  unfold logits
  pointwise
  exact score_eq _ _ _ _ _ rfl rfl

theorem exponent_at (f : FVec Ideal S1x1024 .f32) : exponent f ix0 = power (fun k => f (ix2 0 k)) := by
  unfold exponent
  pointwise
  simp only [bit, Fin.sum_univ_one]
  rfl

theorem dropped_at (L u : FVec Ideal S16x1x32x32x1024 .f32) (e : FVec Ideal S_ .f32) (f : FVec Ideal S1x1024 .f32) (n : Fin 16) (h w : Fin 32) (k : Fin 1024) :
    dropped L u e f (ix5 n 0 h w k) = if FloatOps.powf (F := Ideal) (φ := .f32) (u (ix5 n 0 h w k)) (e ix0) < f (ix2 0 k)
      then L (ix5 n 0 h w k) - lit 0x4E6E6B28#32 else L (ix5 n 0 h w k) := by
  unfold dropped
  pointwise

theorem perturbed_at (L u : FVec Ideal S16x1x32x32x1024 .f32) (n : Fin 16) (h w : Fin 32) (k : Fin 1024) :
    perturbed L u (ix5 n 0 h w k) = L (ix5 n 0 h w k) + noise (u (ix5 n 0 h w k)) := by
  unfold perturbed
  pointwise
  have one : ∀ y : EReal, Ideal.div y 1 = y := fun y => by
    unfold Ideal.div; rw [if_neg one_ne_zero, inv_one, mul_one]
  rw [one]; rfl

/-- A maximum over the places that reduce into `j`. -/
theorem reduce_max {s t u : Shape} {axes : List (Fin s.rank)} (x : FVec Ideal s .f32) (init : FVec Ideal u .f32) (h : s.ReducesTo axes t)
    (hu : 0 < u.numel) (j : t.Idx) (m : EReal) (hb : init (Shape.Idx.first hu) = (⊥ : EReal))
    (hm : ∃ a, h.drop a = j ∧ (x a : EReal) = m) (hle : ∀ a, h.drop a = j → (x a : EReal) ≤ m) :
    Host.reduce FloatOps.maximumf x init h hu j = m := by
  have e : Host.reduce FloatOps.maximumf x init h hu j = (Finset.univ.filter fun i => h.drop i = j).fold (max : EReal → EReal → EReal) ⊥ x := by
    rw [← hb]
    exact Host.reduce_eq_fold (max : EReal → EReal → EReal) x init h hu j
  rw [e]
  apply le_antisymm
  · rw [Finset.fold_max_le]
    exact ⟨bot_le, fun a ha => hle a (Finset.mem_filter.mp ha).2⟩
  · obtain ⟨a, ha, e⟩ := hm
    rw [Finset.le_fold_max]
    exact .inr ⟨a, Finset.mem_filter.mpr ⟨Finset.mem_univ _, ha⟩, e.ge⟩

theorem crests_at (z : FVec Ideal S16x1x32x32x1024 .f32) (n : Fin 16) (h w : Fin 32) {i : Fin 1024}
    (hi : ∀ j, (z (ValueIdx.ix5 n 0 h w j) : EReal) ≤ z (ValueIdx.ix5 n 0 h w i)) :
    crests z (ValueIdx.ix4 n 0 h w) = z (ValueIdx.ix5 n 0 h w i) := by
  unfold crests
  refine reduce_max z _ _ _ _ _ RefChoice.start ⟨_, (RefChoice.drop_iff n h w _).mpr ⟨i, rfl⟩, rfl⟩ fun a ha => ?_
  obtain ⟨k, rfl⟩ := (RefChoice.drop_iff n h w a).mp ha
  exact hi k

theorem exps_at (z : FVec Ideal S16x1x32x32x1024 .f32) (C : FVec Ideal S16x1x32x32 .f32) (n : Fin 16) (h w : Fin 32) (k : Fin 1024) :
    exps z C (ix5 n 0 h w k) = Ideal.exp (z (ix5 n 0 h w k) - C (ix4 n 0 h w)) := by
  unfold exps
  pointwise
  have e : Ideal.ofBits .f32 0xFF800000#32 = ⊥ := by simp [Ideal.ofBits, Ideal.ieee]
  rw [e, max_eq_right bot_le]

theorem shares_at (y : FVec Ideal S16x1x32x32x1024 .f32) (n : Fin 16) (h w : Fin 32) (k : Fin 1024) :
    shares y (ix5 n 0 h w k) = Ideal.div (y (ix5 n 0 h w k)) (∑ j, y (ix5 n 0 h w j)) := by
  unfold shares
  pointwise

theorem oneHot_at (i : IVec S16x1x32x32 32) (n : Fin 16) (h w : Fin 32) (k : Fin 1024) :
    oneHot i (ix5 n 0 h w k) = if i (ix4 n 0 h w) = BitVec.ofNat 32 k.val then 1 else 0 := by
  unfold oneHot
  pointwise
  have e : IntOp.cmpi .eq (i (ix4 n 0 h w)) (BitVec.ofNat 32 k.val) = BitVec.ofBool (decide (i (ix4 n 0 h w) = BitVec.ofNat 32 k.val)) := by
    show BitVec.ofBool _ = _
    congr 1
  rw [e, bit]

theorem decoded_at (c : FVec Ideal S1x1024x8 .f32) (s : FVec Ideal S16x1x32x32x1024 .f32) (n : Fin 16) (d : Fin 8) (h w : Fin 32) :
    decoded c s (ix4 n d h w) = ∑ k : Fin 1024, (c (ix3 0 k d) : EReal) * s (ix5 n 0 h w k) := by
  unfold decoded
  pointwise

end Cert.RefValues
-- ==== Proof.RefResult.lean ====
/-
  The reference's two results, in the quantizer's quantities.
-/
module

public import proofs.«01_k».proof.Proof.RefValues

@[expose] public section

set_option maxRecDepth 16384

noncomputable section

namespace Cert.RefResult

open Idealize.ShloMosaic Idealize.ShloMosaic.TcCoe Idealize.SL.Sem Cert.ReferenceIdeal Cert.RefTerms Cert.RefValues Cert.Spec Cert.Top Cert.Softmax
open Cert.Lines Cert.HostCipher Cert.HostSplit Cert.HostDraw Cert.Words
open Cert.ReferenceIdeal.Gen (facts₀ facts)

variable {Z : Valuation τ sig (Elt Ideal)}

/-- A draw between the constants zero and one is the fraction drawn. -/
theorem draw_eq {key : WRef sig HostSplit.S2} {lo hi : StableHlo.TRef sig ⟨S_, .f32⟩} {B : Draw sig} {r : W}
    (hk : (word Z key (ValueIdx.ix1 0), word Z key (ValueIdx.ix1 1)) = subkey r)
    (hl : val Z lo = constant (F := Ideal) S_ .f32 0x00000000#32) (hh : val Z hi = constant (F := Ideal) S_ .f32 0x3F800000#32)
    (hf : Fixed Z (drawOps key lo hi B)) (n : Fin 16) (h w : Fin 32) (k : Fin 1024) :
    val Z B.v46 (ValueIdx.ix5 n 0 h w k) = draw r (pixel n h w) k := by
  refine (draw_value hf n h w k).trans ?_
  have e0 : val Z lo ValueIdx.ix0 = (0 : EReal) := by rw [hl]; exact Lits.zero
  have e1 : val Z hi ValueIdx.ix0 = (1 : EReal) := by rw [hh]; exact Lits.one
  have k0 : word Z key (ValueIdx.ix1 0) = (subkey r).1 := congrArg Prod.fst hk
  have k1 : word Z key (ValueIdx.ix1 1) = (subkey r).2 := congrArg Prod.snd hk
  rw [e0, e1, k0, k1, sub_zero, mul_one, add_zero]
  obtain ⟨v, h0, -, hv⟩ := frac_real (bits (subkey r).1 (subkey r).2 0 (BitVec.ofNat 32 (count n h w k)))
  show max (0 : EReal) (frac (bits (subkey r).1 (subkey r).2 0 (BitVec.ofNat 32 (count n h w k)))) = _
  rw [max_eq_right (by rw [hv]; exact_mod_cast h0)]
  rfl

/-- The image, the codebook, the temperature and the frequencies a valuation holds. -/
def refX (Z : Valuation τ sig (Elt Ideal)) (n : Fin 16) (d : Fin 8) (h w : Fin 32) : EReal :=
  (Z (Proc.devRef .tc main_arg0) : FVec Ideal S16x8x32x32 .f32) (ix4 n d h w)
@[inherit_doc refX]
def refC (Z : Valuation τ sig (Elt Ideal)) (k : Fin 1024) (d : Fin 8) : EReal :=
  (Z (Proc.devRef .tc main_arg1) : FVec Ideal S1x1024x8 .f32) (ix3 0 k d)
@[inherit_doc refX]
def refT (Z : Valuation τ sig (Elt Ideal)) : EReal := (Z (Proc.devRef .tc main_arg2) : FVec Ideal S1x1x1x1 .f32) (ix4 0 0 0 0)
@[inherit_doc refX]
def refF (Z : Valuation τ sig (Elt Ideal)) (k : Fin 1024) : EReal := (Z (Proc.devRef .tc main_arg3) : FVec Ideal S1x1024 .f32) (ix2 0 k)

/-- A pixel's masked scores. -/
abbrev maskedRow (Z : Valuation τ sig (Elt Ideal)) (n : Fin 16) (h w : Fin 32) : Fin 1024 → EReal :=
  masked (fun d => refX Z n d h w) (refC Z) (refT Z) (refF Z) (draw 0 (pixel n h w))

/-- A pixel's masked scores with noise. -/
abbrev noisyRow (Z : Valuation τ sig (Elt Ideal)) (n : Fin 16) (h w : Fin 32) : Fin 1024 → EReal :=
  noisy (fun d => refX Z n d h w) (refC Z) (refT Z) (refF Z) (pixel n h w)

/-- The reference's values on the way, at a pixel. -/
structure Rows (Z : Valuation τ sig (Elt Ideal)) : Prop where
  mask : ∀ n h w k, (Z (Proc.devRef .tc main_v54) : FVec Ideal S16x1x32x32x1024 .f32) (ix5 n 0 h w k) = maskedRow Z n h w k
  noise : ∀ n h w k, perturbed (Z (Proc.devRef .tc main_v54)) (Z (Proc.devRef .tc main_v55)) (ix5 n 0 h w k) = noisyRow Z n h w k
  soft : (Z (Proc.devRef .tc main_v75) : FVec Ideal S16x1x32x32x1024 .f32)
    = shares (exps (perturbed (Z (Proc.devRef .tc main_v54)) (Z (Proc.devRef .tc main_v55))) (crests (perturbed (Z (Proc.devRef .tc main_v54)) (Z (Proc.devRef .tc main_v55)))))
  pick : ∀ n h w i, IsTop (fun k => (Z (Proc.devRef .tc main_v75) : FVec Ideal S16x1x32x32x1024 .f32) (ix5 n 0 h w k)) i →
    (Z (Proc.devRef .tc main_v76) : IVec S16x1x32x32 32) (ix4 n 0 h w) = BitVec.ofNat 32 i.val
  hot : (Z (Proc.devRef .tc main_v77) : FVec Ideal S16x1x32x32x1024 .f32) = oneHot (Z (Proc.devRef .tc main_v76))
  code : ∀ n h w i, IsTop (fun k => (Z (Proc.devRef .tc main_v54) : FVec Ideal S16x1x32x32x1024 .f32) (ix5 n 0 h w k)) i →
    (Z (Proc.devRef .tc main_v80) : IVec S16x1x32x32 32) (ix4 n 0 h w) = BitVec.ofNat 32 i.val
  out : (Z (Proc.devRef .tc main_v84) : FVec Ideal S16x8x32x32 .f32) = decoded (Z (Proc.devRef .tc main_arg1))
      (addf (subf (Z (Proc.devRef .tc main_v77)) (Z (Proc.devRef .tc main_v75))) (Z (Proc.devRef .tc main_v75)))

theorem pick_of {src : StableHlo.TRef sig ⟨S16x1x32x32x1024, .f32⟩} {φ : fn_argmax.Bufs} (hf : Fixed Z (fn_argmax.ops src φ))
    (n : Fin 16) (h w : Fin 32) (i : Fin 1024)
    (hi : IsTop (fun k => val Z src (ValueIdx.ix5 n 0 h w k)) i) : val Z φ.v1_1 (ValueIdx.ix4 n 0 h w) = BitVec.ofNat 32 i.val := by
  obtain ⟨e0, e1, e2, -, e4⟩ := hf
  have d := val_quaternary e4
  rw [val_nullary e0, val_nullary e1, val_nullary e2] at d
  exact (congrFun d _).trans (RefChoice.search_at _ n h w hi)

theorem rows (hf : Fixed Z ops) : Rows Z := by
  obtain ⟨h0, h1⟩ := Fixed.split hf
  obtain ⟨hdist, h0⟩ := Fixed.split h0
  obtain ⟨hseed, h0⟩ := Fixed.split h0
  obtain ⟨hsplit, h0⟩ := Fixed.split h0
  obtain ⟨hcut, h0⟩ := Fixed.split h0
  obtain ⟨husage, h0⟩ := Fixed.split h0
  obtain ⟨hclip, hexp⟩ := Fixed.split h0
  obtain ⟨hds, h1⟩ := Fixed.split h1
  obtain ⟨hd1, h1⟩ := Fixed.split h1
  obtain ⟨hmask, h1⟩ := Fixed.split h1
  obtain ⟨hwhere, h1⟩ := Fixed.split h1
  obtain ⟨hgs, h1⟩ := Fixed.split h1
  obtain ⟨hd2, h1⟩ := Fixed.split h1
  obtain ⟨hsoft, h1⟩ := Fixed.split h1
  obtain ⟨ham1, h1⟩ := Fixed.split h1
  obtain ⟨hhot, h1⟩ := Fixed.split h1
  obtain ⟨hst, h1⟩ := Fixed.split h1
  obtain ⟨ham2, hdec⟩ := Fixed.split h1
  obtain ⟨hk0, hk1⟩ := keys_value hseed hsplit hcut
  obtain ⟨k13, k14⟩ := hds
  obtain ⟨k16, k17⟩ := hgs
  have hmaskRow : ∀ n h w k, (Z (Proc.devRef .tc main_v54) : FVec Ideal S16x1x32x32x1024 .f32) (ix5 n 0 h w k) = maskedRow Z n h w k := by
    intro n h w k
    have hu : (Z (Proc.devRef .tc main_v45) : FVec Ideal S16x1x32x32x1024 .f32) (ix5 n 0 h w k) = draw 0 (pixel n h w) k :=
      draw_eq (lo := .of main_cst_13) (hi := .of main_cst_14) hk0 (eq_nullary k13) (eq_nullary k14) hd1 n h w k
    rw [dropped_eq hmask hwhere, dropped_at, hu, exponent_eq husage hclip hexp, exponent_at, logits_eq hdist, logits_at]
    rfl
  refine ⟨hmaskRow, ?_, softmax_eq hsoft, ?_, oneHot_eq hhot, ?_, decoded_eq hst hdec⟩
  · intro n h w k
    have hu : (Z (Proc.devRef .tc main_v55) : FVec Ideal S16x1x32x32x1024 .f32) (ix5 n 0 h w k) = draw 1 (pixel n h w) k :=
      draw_eq (lo := .of main_cst_16) (hi := .of main_cst_17) hk1 (eq_nullary k16) (eq_nullary k17) hd2 n h w k
    rw [perturbed_at, hu, hmaskRow]
    rfl
  · intro n h w i hi
    exact pick_of ham1 n h w i hi
  · intro n h w i hi
    exact pick_of ham2 n h w i hi

/-- The codes. -/
theorem codes_value (hz : Rows Z) (n : Fin 16) (h w : Fin 32) :
    (Z (Proc.devRef .tc main_v80) : IVec S16x1x32x32 32) (ix4 n 0 h w) = codes (refC Z) (refT Z) (refF Z) (refX Z) n h w := by
  refine hz.code n h w _ ?_
  have e : (fun k => (Z (Proc.devRef .tc main_v54) : FVec Ideal S16x1x32x32x1024 .f32) (ix5 n 0 h w k)) = maskedRow Z n h w :=
    funext fun k => hz.mask n h w k
  rw [e]
  exact top_spec _

/-- The quantized image, of real vectors, codewords and temperature. -/
theorem image_value (hz : Rows Z) (hx : ∀ n d h w, Real' (refX Z n d h w)) (hc : ∀ k d, Real' (refC Z k d)) (ht : Real' (refT Z))
    (n : Fin 16) (d : Fin 8) (h w : Fin 32) :
    (Z (Proc.devRef .tc main_v84) : FVec Ideal S16x8x32x32 .f32) (ix4 n d h w) = image (refC Z) (refT Z) (refF Z) (refX Z) n d h w := by
  have hr : ∀ k, Real' (noisyRow Z n h w k) := fun k => noisy_real (fun d => hx n d h w) hc ht k
  have hi : IsTop (noisyRow Z n h w) (taken (fun d => refX Z n d h w) (refC Z) (refT Z) (refF Z) (pixel n h w)) := top_spec _
  show _ = refC Z (taken (fun d => refX Z n d h w) (refC Z) (refT Z) (refF Z) (pixel n h w)) d
  generalize taken (fun d => refX Z n d h w) (refC Z) (refT Z) (refF Z) (pixel n h w) = i at hi ⊢
  have hcrest : crests (perturbed (Z (Proc.devRef .tc main_v54)) (Z (Proc.devRef .tc main_v55))) (ix4 n 0 h w) = noisyRow Z n h w i := by
    refine (crests_at _ n h w (i := i) fun j => ?_).trans (hz.noise n h w i)
    exact ((hz.noise n h w j).trans_le (hi.1 j)).trans_eq (hz.noise n h w i).symm
  have hs : ∀ k, (Z (Proc.devRef .tc main_v75) : FVec Ideal S16x1x32x32x1024 .f32) (ix5 n 0 h w k) = soft (noisyRow Z n h w) (noisyRow Z n h w i) k := by
    intro k
    rw [hz.soft, shares_at]
    simp only [exps_at, hcrest, hz.noise]
    rfl
  obtain ⟨sr, so⟩ := soft_spec hr (hr i)
  have hp : (Z (Proc.devRef .tc main_v76) : IVec S16x1x32x32 32) (ix4 n 0 h w) = BitVec.ofNat 32 i.val := by
    refine hz.pick n h w i ?_
    rw [funext hs]
    exact IsTop.of_mono so hi
  have hh : ∀ k, (Z (Proc.devRef .tc main_v77) : FVec Ideal S16x1x32x32x1024 .f32) (ix5 n 0 h w k) = if i = k then (1 : EReal) else 0 := by
    intro k
    rw [hz.hot, oneHot_at, hp]
    refine if_congr ⟨fun e => ?_, fun e => by rw [e]⟩ rfl rfl
    have := congrArg BitVec.toNat e
    rw [BitVec.toNat_ofNat, BitVec.toNat_ofNat] at this
    have := i.isLt; have := k.isLt
    exact Fin.ext (by omega)
  have ht : ∀ k, (addf (subf (Z (Proc.devRef .tc main_v77)) (Z (Proc.devRef .tc main_v75))) (Z (Proc.devRef .tc main_v75)) : FVec Ideal S16x1x32x32x1024 .f32) (ix5 n 0 h w k)
      = if i = k then (1 : EReal) else 0 := by
    intro k
    refine Eq.trans ?_ (hh k)
    exact back (by rw [hs k]; exact sr k)
  rw [hz.out]
  refine (decoded_at _ _ n d h w).trans ?_
  have e : ∀ k : Fin 1024, (refC Z k d * (if i = k then 1 else 0) : EReal) = if i = k then refC Z k d else 0 := fun k => by
    split
    · exact mul_one _
    · exact mul_zero _
  refine (Finset.sum_congr rfl fun k _ => (congrArg (refC Z k d * ·) (ht k)).trans (e k)).trans ?_
  exact (Finset.sum_ite_eq Finset.univ i fun k => refC Z k d).trans (if_pos (Finset.mem_univ i))

end Cert.RefResult
-- ==== Proof.Finite.lean ====
/-
  The precondition decoded: every element of the image, of the codebook and the temperature is a real number.
-/
module

public import proofs.«01_k».proof.Defs
public import Idealize.ShloMosaic.Lib.ReduceAll
public import Idealize.ShloMosaic.Lib.IdealHost

@[expose] public section

set_option maxRecDepth 16384

noncomputable section

namespace Cert.Finite

open Idealize.ShloMosaic Cert.Pre_finite

instance facts : Cert.Pre_finite.Facts where
  bcast_S_S16x8x32x32 := by decide
  reducesTo_S16x8x32x32_S_d0_1_2_3 := by decide
  h_S_ := by decide
  bcast_S_S1x1024x8 := by decide
  reducesTo_S1x1024x8_S_d0_1_2 := by decide
  bcast_S_S1x1x1x1 := by decide
  reducesTo_S1x1x1x1_S_d0_1_2_3 := by decide

instance : Subsingleton S_.Idx := ⟨fun i j => funext fun a => a.elim0⟩

/-- An element whose magnitude tests below infinity is a real number. -/
theorem real_of_test {x : EReal} (h : FloatOps.cmpf (F := Ideal) (φ := .f32) .olt (max x (-x)) (Ideal.ofBits .f32 0x7F800000#32) = 1#1) :
    ∃ r : ℝ, x = r := by
  rw [Ideal.cmpf_def] at h
  have e : Ideal.ofBits .f32 0x7F800000#32 = ⊤ := by simp [Ideal.ofBits, Ideal.ieee]
  rw [e] at h
  induction x using EReal.rec with
  | bot => simp [Ideal.cmp] at h
  | top => simp [Ideal.cmp] at h
  | coe r => exact ⟨r, rfl⟩

theorem and_one {a b : BitVec 1} (h : IntOp.andi a b = 1#1) : a = 1#1 ∧ b = 1#1 := by
  revert a b; decide

theorem all_real {s : Shape} {axes : List (Fin s.rank)} (x : FVec Ideal s .f32) {hb : S_.BroadcastsInDim s ![]}
    {hr : s.ReducesTo axes S_} {hs : 0 < S_.numel} {j : S_.Idx}
    (h : Host.reduce IntOp.andi (cmpf .olt (Host.absf x) (broadcastInDim s ![] hb (constant (F := Ideal) S_ .f32 0x7F800000#32)))
      (constantI S_ 1 1#1) hr hs j = 1#1) (i : s.Idx) : ∃ r : ℝ, (x i : EReal) = r :=
  real_of_test (Host.reduce_andi_all _ _ _ _ j h i)

theorem decode {x : FVec Ideal S16x8x32x32 .f32} {c : FVec Ideal S1x1024x8 .f32} {t : FVec Ideal S1x1x1x1 .f32} {f : FVec Ideal S1x1024 .f32}
    (h : fn x c t f = fun _ => 1#1) :
    (∀ i, ∃ r : ℝ, (x i : EReal) = r) ∧ (∀ i, ∃ r : ℝ, (c i : EReal) = r) ∧ ∀ i, ∃ r : ℝ, (t i : EReal) = r := by
  have h := congrFun h ValueIdx.ix0
  obtain ⟨h1, h3⟩ := and_one h
  obtain ⟨h1, h2⟩ := and_one h1
  exact ⟨all_real x h1, all_real c h2, all_real t h3⟩

end Cert.Finite
-- ==== Proof.lean ====
/-
  The proof of `Cert.Claim`: the three programs' frames, the kernel kept by its ideal program, and the two ideal programs'
  results equal. Both results are put in the quantizer's quantities (Proof/Spec.lean): the kernel's by Proof/KernelRun.lean,
  the reference's by Proof/RefResult.lean.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal

public import proofs.«01_k».proof.Proof.KernelRun
public import proofs.«01_k».proof.Proof.RefResult
public import proofs.«01_k».proof.Proof.Finite

public import Idealize.ShloMosaic.Adequacy
public import Idealize.ShloMosaic.Init

@[expose] public section

noncomputable section

namespace Cert.Proof

open Idealize.ShloMosaic Idealize.SL.Sem
open Cert.Spec Cert.Softmax Cert.RefResult Cert.KernelRun
open Cert.ReferenceIdeal.Gen (facts₀ facts)

attribute [local instance] Cert.Kernel.Gen.facts Cert.KernelIdeal.Gen.facts

/-- The reference's arguments stay. -/
theorem reference_kept (m : (ℓ : Loc ReferenceIdeal.nD ReferenceIdeal.τ ReferenceIdeal.sig) → Buf (Elt Ideal) ℓ)
    (r : MemSt ReferenceIdeal.nD ReferenceIdeal.τ ReferenceIdeal.sig (Elt Ideal))
    (h : ∀ (d : Dev ReferenceIdeal.nD) (b : Ref ReferenceIdeal.sig .tc), r.mem ((d.tc : Thread ReferenceIdeal.nD ReferenceIdeal.τ).loc b) = ReferenceIdeal.final m d (Proc.devRef .tc b))
    (c : Dev ReferenceIdeal.nD) :
    r.mem ((c.tc : Thread ReferenceIdeal.nD ReferenceIdeal.τ).loc ReferenceIdeal.main_arg0) = m ((c.tc : Thread ReferenceIdeal.nD ReferenceIdeal.τ).loc ReferenceIdeal.main_arg0)
    ∧ r.mem ((c.tc : Thread ReferenceIdeal.nD ReferenceIdeal.τ).loc ReferenceIdeal.main_arg1) = m ((c.tc : Thread ReferenceIdeal.nD ReferenceIdeal.τ).loc ReferenceIdeal.main_arg1)
    ∧ r.mem ((c.tc : Thread ReferenceIdeal.nD ReferenceIdeal.τ).loc ReferenceIdeal.main_arg2) = m ((c.tc : Thread ReferenceIdeal.nD ReferenceIdeal.τ).loc ReferenceIdeal.main_arg2)
    ∧ r.mem ((c.tc : Thread ReferenceIdeal.nD ReferenceIdeal.τ).loc ReferenceIdeal.main_arg3) = m ((c.tc : Thread ReferenceIdeal.nD ReferenceIdeal.τ).loc ReferenceIdeal.main_arg3) :=
  ⟨(h c _).trans (ReferenceIdeal.final_arg m c _ (by decide)), (h c _).trans (ReferenceIdeal.final_arg m c _ (by decide)),
    (h c _).trans (ReferenceIdeal.final_arg m c _ (by decide)), (h c _).trans (ReferenceIdeal.final_arg m c _ (by decide))⟩

theorem reference_frame : quiescent_ReferenceIdeal := fun m g _ =>
  (θ_run _ _ _).mono (fun r h => ⟨reference_kept m r.2 h.1, h.2⟩) (ReferenceIdeal.run m g)

/-- An array of the image's shape is known by its elements. -/
theorem image_ext {a b : FVec Ideal KernelIdeal.S16x8x32x32 .f32} (h : ∀ n d h' w, a (ix4 n d h' w) = b (ix4 n d h' w)) : a = b := by
  funext i
  have e : i = ix4 (i 0) (i 1) (i 2) (i 3) := by
    funext k; match k with | ⟨0, _⟩ => rfl | ⟨1, _⟩ => rfl | ⟨2, _⟩ => rfl | ⟨3, _⟩ => rfl
  rw [e]; exact h _ _ _ _

/-- An array of the codes' shape is known by its elements. -/
theorem codes_ext {a b : IVec KernelIdeal.S16x1x32x32 32} (h : ∀ n h' w, a (ix4 n 0 h' w) = b (ix4 n 0 h' w)) : a = b := by
  funext i
  have e : i = ix4 (i 0) 0 (i 2) (i 3) := by
    funext k; match k with | ⟨0, _⟩ => rfl | ⟨1, _⟩ => exact Subsingleton.elim (α := Fin 1) _ _ | ⟨2, _⟩ => rfl | ⟨3, _⟩ => rfl
  rw [e]; exact h _ _ _

/-- The two results, as arrays. -/
def imageArray (m : (ℓ : Loc KernelIdeal.nD KernelIdeal.τ KernelIdeal.sig) → Buf (Elt Ideal) ℓ) (c : Dev KernelIdeal.nD) :
    FVec Ideal KernelIdeal.S16x8x32x32 .f32 := fun i => image (argC m c) (argT m c) (argF m c) (argX m c) (i 0) (i 1) (i 2) (i 3)
@[inherit_doc imageArray]
def codesArray (m : (ℓ : Loc KernelIdeal.nD KernelIdeal.τ KernelIdeal.sig) → Buf (Elt Ideal) ℓ) (c : Dev KernelIdeal.nD) :
    IVec KernelIdeal.S16x1x32x32 32 := fun i => codes (argC m c) (argT m c) (argF m c) (argX m c) (i 0) (i 2) (i 3)

theorem algebraic : algebraic_KernelIdeal_ReferenceIdeal_pre_finite := by
  intro m g m' g' hpre hag
  refine ⟨imageArray m, codesArray m, ?_, ?_⟩
  · refine (θ_run _ _ _).mono (fun r h c => ?_) (KernelRun.run m g)
    obtain ⟨h1, h2, h3⟩ := h c
    exact ⟨image_ext h1, codes_ext h2, h3⟩
  · refine (θ_run _ _ _).mono (fun r h c => ?_) (ReferenceIdeal.run m' g')
    obtain ⟨a0, a1, a2, a3⟩ := hag c
    have f0 := (ReferenceIdeal.final_arg m' c ReferenceIdeal.main_arg0 (by decide)).trans a0
    have f1 := (ReferenceIdeal.final_arg m' c ReferenceIdeal.main_arg1 (by decide)).trans a1
    have f2 := (ReferenceIdeal.final_arg m' c ReferenceIdeal.main_arg2 (by decide)).trans a2
    have f3 := (ReferenceIdeal.final_arg m' c ReferenceIdeal.main_arg3 (by decide)).trans a3
    have ex : refX (ReferenceIdeal.final m' c) = argX m c := by
      funext n d h' w; exact congrFun f0 (ix4 n d h' w)
    have ec : refC (ReferenceIdeal.final m' c) = argC m c := by
      funext k d; exact congrFun f1 (ix3 0 k d)
    have et : refT (ReferenceIdeal.final m' c) = argT m c := congrFun f2 (ix4 0 0 0 0)
    have ef : refF (ReferenceIdeal.final m' c) = argF m c := by
      funext k; exact congrFun f3 (ix2 0 k)
    obtain ⟨rx, rc, rt⟩ := Finite.decode (hpre c)
    have hz := RefResult.rows (ReferenceIdeal.final_fixed m' c)
    refine ⟨(h.1 c _).trans (image_ext fun n d h' w => ?_), (h.1 c _).trans (codes_ext fun n h' w => ?_), reference_kept m' r.2 h.1 c⟩
    · refine (RefResult.image_value hz ?_ ?_ ?_ n d h' w).trans ?_
      · rw [ex]; exact fun n d h' w => rx _
      · rw [ec]; exact fun k d => rc _
      · rw [et]; exact rt _
      · rw [ex, ec, et, ef]; rfl
    · refine (RefResult.codes_value hz n h' w).trans ?_
      rw [ex, ec, et, ef]; rfl

theorem claim : Cert.Claim :=
  ⟨Cert.Kernel.Gen.facts, Cert.KernelIdeal.Gen.facts, Cert.ReferenceIdeal.Gen.facts, Cert.Finite.facts,
    fun m g _ => Cert.Kernel.Gen.frame m g, fun m g _ => Cert.KernelIdeal.Gen.frame m g, fun m g _ => Cert.KernelIdeal.Gen.frame m g,
    reference_frame, fun m g _ => reference_frame m g trivial, trivial, algebraic⟩

end Cert.Proof

end
